-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x3020 : Shape := ⟨3, ![16, 2048, 3020]⟩
abbrev S4x1536 : Shape := ⟨2, ![4, 1536]⟩
abbrev S4 : Shape := ⟨1, ![4]⟩
abbrev S128 : Shape := ⟨1, ![128]⟩
abbrev S_ : Shape := ⟨0, ![]⟩

class Facts : Prop where
  bcast_S_S16x2048x3020 : S_.BroadcastsInDim S16x2048x3020 (![] : Fin 0 → Fin S16x2048x3020.rank)
  bcast_S_S4x1536 : S_.BroadcastsInDim S4x1536 (![] : Fin 0 → Fin S4x1536.rank)
  bcast_S_S4 : S_.BroadcastsInDim S4 (![] : Fin 0 → Fin S4.rank)

variable [Facts]

def fn {F : FTy → Type} [FloatOps F] (main_arg0 : FVec F S16x2048x3020 .f32) (main_arg1 : FVec F S4x1536 .f32) (main_arg2 : FVec F S4 .f32) (main_arg3 : FVec F S4 .f32) (main_arg4 : FVec F S128 .f32) : IVec S16x2048x3020 1 × IVec S4x1536 1 × IVec S4 1 × IVec S4 1 :=
  let main_v0 : FVec F S16x2048x3020 .f32 := Host.absf main_arg0
  let main_cst : FVec F S_ .f32 := constant S_ .f32 0x7F800000#32
  let main_v1 : FVec F S16x2048x3020 .f32 := broadcastInDim S16x2048x3020 ![] bcast_S_S16x2048x3020 main_cst
  let main_v2 : IVec S16x2048x3020 1 := cmpf .olt main_v0 main_v1
  let main_v3 : FVec F S4x1536 .f32 := Host.absf main_arg1
  let main_cst_0 : FVec F S_ .f32 := constant S_ .f32 0x7F800000#32
  let main_v4 : FVec F S4x1536 .f32 := broadcastInDim S4x1536 ![] bcast_S_S4x1536 main_cst_0
  let main_v5 : IVec S4x1536 1 := cmpf .olt main_v3 main_v4
  let main_v6 : FVec F S4 .f32 := Host.absf main_arg2
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  (main_v2, main_v5, main_v8, main_v11)
-- ==== Kernel.lean ====
abbrev S16x2048x3020 : Shape := ⟨3, ![16, 2048, 3020]⟩
abbrev S4x1536 : Shape := ⟨2, ![4, 1536]⟩
abbrev S4 : Shape := ⟨1, ![4]⟩
abbrev S128 : Shape := ⟨1, ![128]⟩
abbrev S32768x3020 : Shape := ⟨2, ![32768, 3020]⟩
abbrev S32768x1536 : Shape := ⟨2, ![32768, 1536]⟩
abbrev S32768x512 : Shape := ⟨2, ![32768, 512]⟩
abbrev S32768x4 : Shape := ⟨2, ![32768, 4]⟩
abbrev S32768x64 : Shape := ⟨2, ![32768, 64]⟩
abbrev S32768x256 : Shape := ⟨2, ![32768, 256]⟩
abbrev S_ : Shape := ⟨0, ![]⟩
abbrev S32768x52 : Shape := ⟨2, ![32768, 52]⟩
abbrev S32768x3072 : Shape := ⟨2, ![32768, 3072]⟩
abbrev S16x2048x3072 : Shape := ⟨3, ![16, 2048, 3072]⟩
abbrev S8 : Shape := ⟨1, ![8]⟩
abbrev S8x1 : Shape := ⟨2, ![8, 1]⟩
abbrev S8x128 : Shape := ⟨2, ![8, 128]⟩
abbrev S1x128 : Shape := ⟨2, ![1, 128]⟩
abbrev S16x2048x512 : Shape := ⟨3, ![16, 2048, 512]⟩
abbrev S1x2048x128 : Shape := ⟨3, ![1, 2048, 128]⟩
abbrev S4x128 : Shape := ⟨2, ![4, 128]⟩
abbrev S136x128 : Shape := ⟨2, ![136, 128]⟩
abbrev S2048x128 : Shape := ⟨2, ![2048, 128]⟩
abbrev S16x8x128 : Shape := ⟨3, ![16, 8, 128]⟩
abbrev S16x128x128 : Shape := ⟨3, ![16, 128, 128]⟩
abbrev S128x128 : Shape := ⟨2, ![128, 128]⟩
abbrev S1x128x128 : Shape := ⟨3, ![1, 128, 128]⟩
abbrev S1x8x128 : Shape := ⟨3, ![1, 8, 128]⟩
abbrev S128x1 : Shape := ⟨2, ![128, 1]⟩
abbrev S256x128 : Shape := ⟨2, ![256, 128]⟩
abbrev S128x256 : Shape := ⟨2, ![128, 256]⟩
abbrev S384x128 : Shape := ⟨2, ![384, 128]⟩

abbrev nBuf : Space → Nat
  | .hbm => 30
  | .vmem => 34
  | .smem => 0
  | _ => 0

abbrev bufTy : (tb : Table) → Fin (tcTables nBuf tb) → BufTy
  | .hbm, ⟨0, _⟩ => ⟨S16x2048x3020, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S32768x3020, .f32⟩
  | .hbm, ⟨6, _⟩ => ⟨S32768x1536, .f32⟩
  | .hbm, ⟨7, _⟩ => ⟨S32768x512, .f32⟩
  | .hbm, ⟨8, _⟩ => ⟨S32768x4, .f32⟩
  | .hbm, ⟨9, _⟩ => ⟨S32768x4, .f32⟩
  | .hbm, ⟨10, _⟩ => ⟨S32768x512, .f32⟩
  | .hbm, ⟨11, _⟩ => ⟨S32768x64, .f32⟩
  | .hbm, ⟨12, _⟩ => ⟨S32768x64, .f32⟩
  | .hbm, ⟨13, _⟩ => ⟨S32768x256, .f32⟩
  | .hbm, ⟨14, _⟩ => ⟨S32768x64, .f32⟩
  | .hbm, ⟨15, _⟩ => ⟨S32768x4, .f32⟩
  | .hbm, ⟨16, _⟩ => ⟨S_, .f32⟩
  | .hbm, ⟨17, _⟩ => ⟨S32768x52, .f32⟩
  | .hbm, ⟨18, _⟩ => ⟨S32768x3072, .f32⟩
  | .hbm, ⟨19, _⟩ => ⟨S16x2048x3072, .f32⟩
  | .hbm, ⟨20, _⟩ => ⟨S_, .f32⟩
  | .hbm, ⟨21, _⟩ => ⟨S4, .f32⟩
  | .hbm, ⟨22, _⟩ => ⟨S8, .f32⟩
  | .hbm, ⟨23, _⟩ => ⟨S8x1, .f32⟩
  | .hbm, ⟨24, _⟩ => ⟨S8x128, .f32⟩
  | .hbm, ⟨25, _⟩ => ⟨S8, .f32⟩
  | .hbm, ⟨26, _⟩ => ⟨S8x1, .f32⟩
  | .hbm, ⟨27, _⟩ => ⟨S8x128, .f32⟩
  | .hbm, ⟨28, _⟩ => ⟨S1x128, .f32⟩
  | .hbm, ⟨29, _⟩ => ⟨S16x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S8x128, .f32⟩
  | .local _ .vmem, ⟨17, _⟩ => ⟨S8x128, .f32⟩
  | .local _ .vmem, ⟨18, _⟩ => ⟨S1x128, .f32⟩
  | .local _ .vmem, ⟨19, _⟩ => ⟨S1x2048x128, .bf16⟩
  | .local _ .vmem, ⟨20, _⟩ => ⟨S1x2048x128, .bf16⟩
  | .local _ .vmem, ⟨21, _⟩ => ⟨S136x128, .f32⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S16x8x128, .f32⟩
  | .local _ .vmem, ⟨26, _⟩ => ⟨S16x8x128, .f32⟩
  | .local _ .vmem, ⟨27, _⟩ => ⟨S16x128x128, .f32⟩
  | .local _ .vmem, ⟨28, _⟩ => ⟨S16x128x128, .f32⟩
  | .local _ .vmem, ⟨29, _⟩ => ⟨S16x128x128, .f32⟩
  | .local _ .vmem, ⟨30, _⟩ => ⟨S16x128x128, .f32⟩
  | .local _ .vmem, ⟨31, _⟩ => ⟨S16x128x128, .f32⟩
  | .local _ .vmem, ⟨32, _⟩ => ⟨S16x128x128, .f32⟩
  | .local _ .vmem, ⟨33, _⟩ => ⟨S16x8x128, .f32⟩
  | _, _ => ⟨S16x2048x3020, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_scratch9 : Ref sig .tc := ⟨.vmem, 30, rfl⟩
abbrev cc0_scratch10 : Ref sig .tc := ⟨.vmem, 31, rfl⟩
abbrev cc0_scratch11 : Ref sig .tc := ⟨.vmem, 32, rfl⟩
abbrev cc0_scratch12 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c23_i32 : BitVec 32 := 23#32
  let c0_i32_0 : BitVec 32 := 0#32
  ![arg0.toNat, c0_i32.toNat, c23_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S16x2048x3020 : Shape := ⟨3, ![16, 2048, 3020]⟩
abbrev S4x1536 : Shape := ⟨2, ![4, 1536]⟩
abbrev S4 : Shape := ⟨1, ![4]⟩
abbrev S128 : Shape := ⟨1, ![128]⟩
abbrev S16x2048x1536 : Shape := ⟨3, ![16, 2048, 1536]⟩
abbrev S16x2048x4 : Shape := ⟨3, ![16, 2048, 4]⟩
abbrev S_ : Shape := ⟨0, ![]⟩
abbrev S16x3x1536 : Shape := ⟨3, ![16, 3, 1536]⟩
abbrev S16x2051x1536 : Shape := ⟨3, ![16, 2051, 1536]⟩
abbrev S1x1536 : Shape := ⟨2, ![1, 1536]⟩
abbrev S1536 : Shape := ⟨1, ![1536]⟩
abbrev S1x1x1536 : Shape := ⟨3, ![1, 1, 1536]⟩
abbrev S16x2048x512 : Shape := ⟨3, ![16, 2048, 512]⟩
abbrev S16x2048x4x128 : Shape := ⟨4, ![16, 2048, 4, 128]⟩
abbrev S16x2048x4x1 : Shape := ⟨4, ![16, 2048, 4, 1]⟩
abbrev S1x1x4 : Shape := ⟨3, ![1, 1, 4]⟩
abbrev S2048x16x4x128 : Shape := ⟨4, ![2048, 16, 4, 128]⟩
abbrev S2048x16x4 : Shape := ⟨3, ![2048, 16, 4]⟩
abbrev S16x4x128x128 : Shape := ⟨4, ![16, 4, 128, 128]⟩
abbrev S1x16x4x128 : Shape := ⟨4, ![1, 16, 4, 128]⟩
abbrev S16x4x128 : Shape := ⟨3, ![16, 4, 128]⟩
abbrev S1x16x4 : Shape := ⟨3, ![1, 16, 4]⟩
abbrev S16x4 : Shape := ⟨2, ![16, 4]⟩
abbrev S16x4x1x1 : Shape := ⟨4, ![16, 4, 1, 1]⟩
abbrev S16x4x1 : Shape := ⟨3, ![16, 4, 1]⟩
abbrev S16x4x128x1 : Shape := ⟨4, ![16, 4, 128, 1]⟩
abbrev S16x4x1x128 : Shape := ⟨4, ![16, 4, 1, 128]⟩
abbrev S1x1x1x128 : Shape := ⟨4, ![1, 1, 1, 128]⟩

abbrev nBuf : Space → Nat
  | .hbm => 203
  | .vmem => 0
  | .smem => 0
  | _ => 0

abbrev hbmTy0_0 (i : Nat) : BufTy := match i % 128 with
  | 0 => ⟨S16x2048x3020, .f32⟩
  | 1 => ⟨S4x1536, .f32⟩
  | 2 => ⟨S4, .f32⟩
  | 3 => ⟨S4, .f32⟩
  | 4 => ⟨S128, .f32⟩
  | 5 => ⟨S16x2048x1536, .f32⟩
  | 6 => ⟨S16x2048x4, .f32⟩
  | 7 => ⟨S16x2048x4, .f32⟩
  | 8 => ⟨S_, .f32⟩
  | 9 => ⟨S16x3x1536, .f32⟩
  | 10 => ⟨S16x2051x1536, .f32⟩
  | 11 => ⟨S1x1536, .f32⟩
  | 12 => ⟨S1536, .f32⟩
  | 13 => ⟨S16x2048x1536, .f32⟩
  | 14 => ⟨S1x1x1536, .f32⟩
  | 15 => ⟨S16x2048x1536, .f32⟩
  | 16 => ⟨S16x2048x1536, .f32⟩
  | 17 => ⟨S1x1536, .f32⟩
  | 18 => ⟨S1536, .f32⟩
  | 19 => ⟨S16x2048x1536, .f32⟩
  | 20 => ⟨S1x1x1536, .f32⟩
  | 21 => ⟨S16x2048x1536, .f32⟩
  | 22 => ⟨S16x2048x1536, .f32⟩
  | 23 => ⟨S16x2048x1536, .f32⟩
  | 24 => ⟨S1x1536, .f32⟩
  | 25 => ⟨S1536, .f32⟩
  | 26 => ⟨S16x2048x1536, .f32⟩
  | 27 => ⟨S1x1x1536, .f32⟩
  | 28 => ⟨S16x2048x1536, .f32⟩
  | 29 => ⟨S16x2048x1536, .f32⟩
  | 30 => ⟨S16x2048x1536, .f32⟩
  | 31 => ⟨S1x1536, .f32⟩
  | 32 => ⟨S1536, .f32⟩
  | 33 => ⟨S16x2048x1536, .f32⟩
  | 34 => ⟨S1x1x1536, .f32⟩
  | 35 => ⟨S16x2048x1536, .f32⟩
  | 36 => ⟨S16x2048x1536, .f32⟩
  | 37 => ⟨S16x2048x1536, .f32⟩
  | 38 => ⟨S16x2048x1536, .f32⟩
  | 39 => ⟨S16x2048x1536, .f32⟩
  | 40 => ⟨S_, .f32⟩
  | 41 => ⟨S16x2048x1536, .f32⟩
  | 42 => ⟨S16x2048x1536, .f32⟩
  | 43 => ⟨S_, .f32⟩
  | 44 => ⟨S16x2048x1536, .f32⟩
  | 45 => ⟨S16x2048x1536, .f32⟩
  | 46 => ⟨S16x2048x1536, .f32⟩
  | 47 => ⟨S16x2048x512, .f32⟩
  | 48 => ⟨S16x2048x4x128, .f32⟩
  | 49 => ⟨S16x2048x4x128, .f32⟩
  | 50 => ⟨S_, .f32⟩
  | 51 => ⟨S16x2048x4, .f32⟩
  | 52 => ⟨S16x2048x4x1, .f32⟩
  | 53 => ⟨S_, .f32⟩
  | 54 => ⟨S16x2048x4x1, .f32⟩
  | 55 => ⟨S16x2048x4x1, .f32⟩
  | 56 => ⟨S16x2048x4x1, .f32⟩
  | 57 => ⟨S16x2048x4x128, .f32⟩
  | 58 => ⟨S16x2048x4x128, .f32⟩
  | 59 => ⟨S16x2048x512, .f32⟩
  | 60 => ⟨S16x2048x4x128, .f32⟩
  | 61 => ⟨S16x2048x4x128, .f32⟩
  | 62 => ⟨S_, .f32⟩
  | 63 => ⟨S16x2048x4, .f32⟩
  | 64 => ⟨S16x2048x4x1, .f32⟩
  | 65 => ⟨S_, .f32⟩
  | 66 => ⟨S16x2048x4x1, .f32⟩
  | 67 => ⟨S16x2048x4x1, .f32⟩
  | 68 => ⟨S16x2048x4x1, .f32⟩
  | 69 => ⟨S16x2048x4x128, .f32⟩
  | 70 => ⟨S16x2048x4x128, .f32⟩
  | 71 => ⟨S16x2048x512, .f32⟩
  | 72 => ⟨S16x2048x4x128, .f32⟩
  | 73 => ⟨S16x2048x4, .f32⟩
  | 74 => ⟨S16x2048x4, .f32⟩
  | 75 => ⟨S_, .f32⟩
  | 76 => ⟨S16x2048x4, .f32⟩
  | 77 => ⟨S16x2048x4, .f32⟩
  | 78 => ⟨S_, .f32⟩
  | 79 => ⟨S16x2048x4, .f32⟩
  | 80 => ⟨S16x2048x4, .f32⟩
  | 81 => ⟨S4, .f32⟩
  | 82 => ⟨S4, .f32⟩
  | 83 => ⟨S1x1x4, .f32⟩
  | 84 => ⟨S16x2048x4, .f32⟩
  | 85 => ⟨S16x2048x4, .f32⟩
  | 86 => ⟨S_, .f32⟩
  | 87 => ⟨S16x2048x4, .f32⟩
  | 88 => ⟨S16x2048x4, .f32⟩
  | 89 => ⟨S16x2048x4, .f32⟩
  | 90 => ⟨S16x2048x4, .f32⟩
  | 91 => ⟨S16x2048x4, .i1⟩
  | 92 => ⟨S16x2048x4, .f32⟩
  | 93 => ⟨S16x2048x4, .f32⟩
  | 94 => ⟨S16x2048x4, .f32⟩
  | 95 => ⟨S16x2048x4, .f32⟩
  | 96 => ⟨S16x2048x4, .f32⟩
  | 97 => ⟨S16x2048x4, .f32⟩
  | 98 => ⟨S16x2048x4, .f32⟩
  | 99 => ⟨S16x2048x4, .f32⟩
  | 100 => ⟨S1x1x4, .f32⟩
  | 101 => ⟨S16x2048x4, .f32⟩
  | 102 => ⟨S16x2048x4, .f32⟩
  | 103 => ⟨S_, .f32⟩
  | 104 => ⟨S16x2048x4x128, .f32⟩
  | 105 => ⟨S16x2048x4x128, .f32⟩
  | 106 => ⟨S2048x16x4x128, .f32⟩
  | 107 => ⟨S2048x16x4x128, .f32⟩
  | 108 => ⟨S2048x16x4x128, .f32⟩
  | 109 => ⟨S2048x16x4, .f32⟩
  | 110 => ⟨S2048x16x4, .f32⟩
  | 111 => ⟨S_, .f32⟩
  | 112 => ⟨S16x4x128x128, .f32⟩
  | 113 => ⟨S_, .f32⟩
  | 114 => ⟨S2048x16x4x128, .f32⟩
  | 115 => ⟨S_, .i32⟩
  | 116 => ⟨S2048x16x4x128, .f32⟩
  | 117 => ⟨S2048x16x4x128, .f32⟩
  | 118 => ⟨S2048x16x4x128, .f32⟩
  | 119 => ⟨S2048x16x4, .f32⟩
  | 120 => ⟨S2048x16x4, .f32⟩
  | 121 => ⟨S_, .i32⟩
  | 122 => ⟨S16x4x128x128, .f32⟩
  | 123 => ⟨S2048x16x4x128, .f32⟩
  | 124 => ⟨S_, .i32⟩
  | 125 => ⟨S_, .i1⟩
  | 126 => ⟨S_, .i32⟩
  | 127 => ⟨S_, .i32⟩
  | _ => ⟨S16x2048x3020, .f32⟩

abbrev hbmTy0_1 (i : Nat) : BufTy := match i % 128 with
  | 0 => ⟨S_, .i32⟩
  | 1 => ⟨S1x16x4x128, .f32⟩
  | 2 => ⟨S16x4x128, .f32⟩
  | 3 => ⟨S_, .i32⟩
  | 4 => ⟨S_, .i32⟩
  | 5 => ⟨S_, .i32⟩
  | 6 => ⟨S1x16x4x128, .f32⟩
  | 7 => ⟨S16x4x128, .f32⟩
  | 8 => ⟨S_, .i32⟩
  | 9 => ⟨S_, .i32⟩
  | 10 => ⟨S_, .i32⟩
  | 11 => ⟨S1x16x4x128, .f32⟩
  | 12 => ⟨S16x4x128, .f32⟩
  | 13 => ⟨S_, .i32⟩
  | 14 => ⟨S_, .i32⟩
  | 15 => ⟨S1x16x4, .f32⟩
  | 16 => ⟨S16x4, .f32⟩
  | 17 => ⟨S_, .i32⟩
  | 18 => ⟨S_, .i32⟩
  | 19 => ⟨S1x16x4, .f32⟩
  | 20 => ⟨S16x4, .f32⟩
  | 21 => ⟨S16x4, .f32⟩
  | 22 => ⟨S16x4x1x1, .f32⟩
  | 23 => ⟨S16x4x128x128, .f32⟩
  | 24 => ⟨S16x4x128x128, .f32⟩
  | 25 => ⟨S16x4x1, .f32⟩
  | 26 => ⟨S16x4x128, .f32⟩
  | 27 => ⟨S16x4x128, .f32⟩
  | 28 => ⟨S16x4x128, .f32⟩
  | 29 => ⟨S16x4x128, .f32⟩
  | 30 => ⟨S16x4x128x1, .f32⟩
  | 31 => ⟨S16x4x1x128, .f32⟩
  | 32 => ⟨S16x4x128x128, .f32⟩
  | 33 => ⟨S16x4x128x128, .f32⟩
  | 34 => ⟨S16x4x128x128, .f32⟩
  | 35 => ⟨S16x4x128x128, .f32⟩
  | 36 => ⟨S16x4x128, .f32⟩
  | 37 => ⟨S1x16x4x128, .f32⟩
  | 38 => ⟨S_, .i32⟩
  | 39 => ⟨S_, .i32⟩
  | 40 => ⟨S_, .i32⟩
  | 41 => ⟨S2048x16x4x128, .f32⟩
  | 42 => ⟨S_, .i32⟩
  | 43 => ⟨S_, .i32⟩
  | 44 => ⟨S16x2048x4x128, .f32⟩
  | 45 => ⟨S16x2048x512, .f32⟩
  | 46 => ⟨S16x2048x4x128, .f32⟩
  | 47 => ⟨S_, .f32⟩
  | 48 => ⟨S16x2048x4, .f32⟩
  | 49 => ⟨S16x2048x4x1, .f32⟩
  | 50 => ⟨S_, .f32⟩
  | 51 => ⟨S16x2048x4x1, .f32⟩
  | 52 => ⟨S16x2048x4x1, .f32⟩
  | 53 => ⟨S_, .f32⟩
  | 54 => ⟨S16x2048x4x1, .f32⟩
  | 55 => ⟨S16x2048x4x1, .f32⟩
  | 56 => ⟨S16x2048x4x1, .f32⟩
  | 57 => ⟨S16x2048x4x128, .f32⟩
  | 58 => ⟨S16x2048x4x128, .f32⟩
  | 59 => ⟨S1x1x1x128, .f32⟩
  | 60 => ⟨S16x2048x4x128, .f32⟩
  | 61 => ⟨S16x2048x4x128, .f32⟩
  | 62 => ⟨S16x2048x4x128, .f32⟩
  | 63 => ⟨S16x2048x4x128, .f32⟩
  | 64 => ⟨S16x2048x4x128, .f32⟩
  | 65 => ⟨S_, .f32⟩
  | 66 => ⟨S16x2048x4x128, .f32⟩
  | 67 => ⟨S16x2048x4x128, .f32⟩
  | 68 => ⟨S_, .f32⟩
  | 69 => ⟨S16x2048x4x128, .f32⟩
  | 70 => ⟨S16x2048x4x128, .f32⟩
  | 71 => ⟨S16x2048x4x128, .f32⟩
  | 72 => ⟨S16x2048x4x128, .f32⟩
  | 73 => ⟨S16x2048x512, .f32⟩
  | 74 => ⟨S16x2048x512, .bf16⟩
  | _ => ⟨S16x2048x3020, .f32⟩

abbrev hbmTy (i : Nat) : BufTy := match i / 128 with
  | 0 => hbmTy0_0 i
  | 1 => hbmTy0_1 i
  | _ => ⟨S16x2048x3020, .f32⟩

abbrev bufTy : (tb : Table) → Fin (tcTables nBuf tb) → BufTy
  | .hbm, ⟨i, _⟩ => hbmTy i
  | _, _ => ⟨S16x2048x3020, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_0 : Ref sig .tc := ⟨.hbm, 50, rfl⟩
abbrev main_v36 : Ref sig .tc := ⟨.hbm, 51, rfl⟩
abbrev main_v37 : Ref sig .tc := ⟨.hbm, 52, rfl⟩
abbrev main_cst_1 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_2 : Ref sig .tc := ⟨.hbm, 62, rfl⟩
abbrev main_v46 : Ref sig .tc := ⟨.hbm, 63, rfl⟩
abbrev main_v47 : Ref sig .tc := ⟨.hbm, 64, rfl⟩
abbrev main_cst_3 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_4 : Ref sig .tc := ⟨.hbm, 75, rfl⟩
abbrev main_v57 : Ref sig .tc := ⟨.hbm, 76, rfl⟩
abbrev main_v58 : Ref sig .tc := ⟨.hbm, 77, rfl⟩
abbrev main_cst_5 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_6 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_7 : Ref sig .tc := ⟨.hbm, 111, rfl⟩
abbrev main_v77 : Ref sig .tc := ⟨.hbm, 112, rfl⟩
abbrev main_cst_8 : Ref sig .tc := ⟨.hbm, 113, rfl⟩
abbrev main_v78 : Ref sig .tc := ⟨.hbm, 114, rfl⟩
abbrev main_c : Ref sig .tc := ⟨.hbm, 115, rfl⟩
abbrev main_v79_0 : Ref sig .tc := ⟨.hbm, 116, rfl⟩
abbrev main_v79_1 : Ref sig .tc := ⟨.hbm, 117, rfl⟩
abbrev main_v79_2 : Ref sig .tc := ⟨.hbm, 118, rfl⟩
abbrev main_v79_3 : Ref sig .tc := ⟨.hbm, 119, rfl⟩
abbrev main_v79_4 : Ref sig .tc := ⟨.hbm, 120, rfl⟩
abbrev main_v79_5 : Ref sig .tc := ⟨.hbm, 121, rfl⟩
abbrev main_v79_6 : Ref sig .tc := ⟨.hbm, 122, rfl⟩
abbrev main_v79_7 : Ref sig .tc := ⟨.hbm, 123, rfl⟩
abbrev main_while0c_c_19 : Ref sig .tc := ⟨.hbm, 124, rfl⟩
abbrev main_while0c_v100 : Ref sig .tc := ⟨.hbm, 125, rfl⟩
abbrev main_while0b_call2_c : Ref sig .tc := ⟨.hbm, 126, rfl⟩
abbrev main_while0b_call2_c_0 : Ref sig .tc := ⟨.hbm, 127, rfl⟩
abbrev main_while0b_call2_c_1 : Ref sig .tc := ⟨.hbm, 128, rfl⟩
abbrev main_while0b_call2_v0 : Ref sig .tc := ⟨.hbm, 129, rfl⟩
abbrev main_while0b_v100 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_c_1 : Ref sig .tc := ⟨.hbm, 133, rfl⟩
abbrev main_while0b_call3_v0 : Ref sig .tc := ⟨.hbm, 134, rfl⟩
abbrev main_while0b_v101 : Ref sig .tc := ⟨.hbm, 135, rfl⟩
abbrev main_while0b_call4_c : Ref sig .tc := ⟨.hbm, 136, rfl⟩
abbrev main_while0b_call4_c_0 : Ref sig .tc := ⟨.hbm, 137, rfl⟩
abbrev main_while0b_call4_c_1 : Ref sig .tc := ⟨.hbm, 138, rfl⟩
abbrev main_while0b_call4_v0 : Ref sig .tc := ⟨.hbm, 139, rfl⟩
abbrev main_while0b_v102 : Ref sig .tc := ⟨.hbm, 140, rfl⟩
abbrev main_while0b_call5_c : Ref sig .tc := ⟨.hbm, 141, rfl⟩
abbrev main_while0b_call5_c_0 : Ref sig .tc := ⟨.hbm, 142, rfl⟩
abbrev main_while0b_call5_v0 : Ref sig .tc := ⟨.hbm, 143, rfl⟩
abbrev main_while0b_v103 : Ref sig .tc := ⟨.hbm, 144, rfl⟩
abbrev main_while0b_call6_c : Ref sig .tc := ⟨.hbm, 145, rfl⟩
abbrev main_while0b_call6_c_0 : Ref sig .tc := ⟨.hbm, 146, rfl⟩
abbrev main_while0b_call6_v0 : Ref sig .tc := ⟨.hbm, 147, rfl⟩
abbrev main_while0b_v104 : Ref sig .tc := ⟨.hbm, 148, rfl⟩
abbrev main_while0b_v105 : Ref sig .tc := ⟨.hbm, 149, rfl⟩
abbrev main_while0b_v106 : Ref sig .tc := ⟨.hbm, 150, rfl⟩
abbrev main_while0b_v107 : Ref sig .tc := ⟨.hbm, 151, rfl⟩
abbrev main_while0b_v108 : Ref sig .tc := ⟨.hbm, 152, rfl⟩
abbrev main_while0b_v109 : Ref sig .tc := ⟨.hbm, 153, rfl⟩
abbrev main_while0b_v110 : Ref sig .tc := ⟨.hbm, 154, rfl⟩
abbrev main_while0b_v111 : Ref sig .tc := ⟨.hbm, 155, rfl⟩
abbrev main_while0b_v112 : Ref sig .tc := ⟨.hbm, 156, rfl⟩
abbrev main_while0b_v113 : Ref sig .tc := ⟨.hbm, 157, rfl⟩
abbrev main_while0b_v114 : Ref sig .tc := ⟨.hbm, 158, rfl⟩
abbrev main_while0b_v115 : Ref sig .tc := ⟨.hbm, 159, rfl⟩
abbrev main_while0b_v116 : Ref sig .tc := ⟨.hbm, 160, rfl⟩
abbrev main_while0b_v117 : Ref sig .tc := ⟨.hbm, 161, rfl⟩
abbrev main_while0b_v118 : Ref sig .tc := ⟨.hbm, 162, rfl⟩
abbrev main_while0b_v119 : Ref sig .tc := ⟨.hbm, 163, rfl⟩
abbrev main_while0b_v120 : Ref sig .tc := ⟨.hbm, 164, rfl⟩
abbrev main_while0b_call7_v0 : Ref sig .tc := ⟨.hbm, 165, rfl⟩
abbrev main_while0b_call7_c : Ref sig .tc := ⟨.hbm, 166, rfl⟩
abbrev main_while0b_call7_c_0 : Ref sig .tc := ⟨.hbm, 167, rfl⟩
abbrev main_while0b_call7_c_1 : Ref sig .tc := ⟨.hbm, 168, rfl⟩
abbrev main_while0b_v121 : Ref sig .tc := ⟨.hbm, 169, rfl⟩
abbrev main_while0b_c_19 : Ref sig .tc := ⟨.hbm, 170, rfl⟩
abbrev main_while0b_v122 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_cst_9 : Ref sig .tc := ⟨.hbm, 175, rfl⟩
abbrev main_v83 : Ref sig .tc := ⟨.hbm, 176, rfl⟩
abbrev main_v84 : Ref sig .tc := ⟨.hbm, 177, rfl⟩
abbrev main_cst_10 : Ref sig .tc := ⟨.hbm, 178, rfl⟩
abbrev main_v85 : Ref sig .tc := ⟨.hbm, 179, rfl⟩
abbrev main_v86 : Ref sig .tc := ⟨.hbm, 180, rfl⟩
abbrev main_cst_11 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_call8_v0 : Ref sig .tc := ⟨.hbm, 191, rfl⟩
abbrev main_call8_v1 : Ref sig .tc := ⟨.hbm, 192, rfl⟩
abbrev main_call8_cst : Ref sig .tc := ⟨.hbm, 193, rfl⟩
abbrev main_call8_v2 : Ref sig .tc := ⟨.hbm, 194, rfl⟩
abbrev main_call8_v3 : Ref sig .tc := ⟨.hbm, 195, rfl⟩
abbrev main_call8_cst_0 : Ref sig .tc := ⟨.hbm, 196, rfl⟩
abbrev main_call8_v4 : Ref sig .tc := ⟨.hbm, 197, rfl⟩
abbrev main_call8_v5 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S16x2048x1024 : Shape := ⟨3, ![16, 2048, 1024]⟩
abbrev S16x2048x256 : Shape := ⟨3, ![16, 2048, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S32768x1024 : Shape := ⟨2, ![32768, 1024]⟩
abbrev S32768x256 : Shape := ⟨2, ![32768, 256]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 19
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S32768x1024, .f32⟩
  | .hbm, ⟨10, _⟩ => ⟨S32768x256, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1x1024, .f32⟩
  | .hbm, ⟨16, _⟩ => ⟨S1024x1024, .bf16⟩
  | .hbm, ⟨17, _⟩ => ⟨S256x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S1024x1024, .bf16⟩
  | .local _ .vmem, ⟨10, _⟩ => ⟨S256x1024, .bf16⟩
  | .local _ .vmem, ⟨11, _⟩ => ⟨S1024x1024, .f32⟩
  | .local _ .vmem, ⟨12, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2048x1024 : Shape := ⟨3, ![16, 2048, 1024]⟩
abbrev S16x2048x256 : Shape := ⟨3, ![16, 2048, 256]⟩
abbrev S1024 : Shape := ⟨1, ![1024]⟩
abbrev S1024x2816 : Shape := ⟨2, ![1024, 2816]⟩
abbrev S2816x1024 : Shape := ⟨2, ![2816, 1024]⟩
abbrev S1024x1024 : Shape := ⟨2, ![1024, 1024]⟩
abbrev S256x1024 : Shape := ⟨2, ![256, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x256, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1024x1024, .f32⟩
  | .hbm, ⟨8, _⟩ => ⟨S256x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048, .f32⟩
  | .hbm, ⟨42, _⟩ => ⟨S16x2048x1, .f32⟩
  | .hbm, ⟨43, _⟩ => ⟨S_, .f32⟩
  | .hbm, ⟨44, _⟩ => ⟨S16x2048x1, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S1x1x1024, .f32⟩
  | .hbm, ⟨53, _⟩ => ⟨S16x2048x1024, .f32⟩
  | .hbm, ⟨54, _⟩ => ⟨S16x2048x1024, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S_, .f32⟩
  | .hbm, ⟨59, _⟩ => ⟨S16x2048x1024, .f32⟩
  | .hbm, ⟨60, _⟩ => ⟨S16x2048x1024, .f32⟩
  | .hbm, ⟨61, _⟩ => ⟨S_, .f32⟩
  | .hbm, ⟨62, _⟩ => ⟨S16x2048x1024, .f32⟩
  | .hbm, ⟨63, _⟩ => ⟨S16x2048x1024, .f32⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Kernel3.lean ====
abbrev S16x2048x1024 : Shape := ⟨3, ![16, 2048, 1024]⟩
abbrev S16x2048x512 : Shape := ⟨3, ![16, 2048, 512]⟩
abbrev S1024 : Shape := ⟨1, ![1024]⟩
abbrev S512x1024 : Shape := ⟨2, ![512, 1024]⟩
abbrev S1024x2048 : Shape := ⟨2, ![1024, 2048]⟩
abbrev S2048 : Shape := ⟨1, ![2048]⟩
abbrev S1024x1024 : Shape := ⟨2, ![1024, 1024]⟩
abbrev S32768x1024 : Shape := ⟨2, ![32768, 1024]⟩
abbrev S32768x512 : Shape := ⟨2, ![32768, 512]⟩
abbrev S1x1024 : Shape := ⟨2, ![1, 1024]⟩
abbrev S1x2048 : Shape := ⟨2, ![1, 2048]⟩
abbrev S1024x512 : Shape := ⟨2, ![1024, 512]⟩
abbrev S1024x1 : Shape := ⟨2, ![1024, 1]⟩
abbrev S1x512 : Shape := ⟨2, ![1, 512]⟩
abbrev S512x512 : Shape := ⟨2, ![512, 512]⟩

abbrev nBuf : Space → Nat
  | .hbm => 19
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024, .f32⟩
  | .hbm, ⟨4, _⟩ => ⟨S512x1024, .f32⟩
  | .hbm, ⟨5, _⟩ => ⟨S512x1024, .f32⟩
  | .hbm, ⟨6, _⟩ => ⟨S1024x2048, .f32⟩
  | .hbm, ⟨7, _⟩ => ⟨S2048, .f32⟩
  | .hbm, ⟨8, _⟩ => ⟨S1024x1024, .f32⟩
  | .hbm, ⟨9, _⟩ => ⟨S32768x1024, .f32⟩
  | .hbm, ⟨10, _⟩ => ⟨S32768x512, .bf16⟩
  | .hbm, ⟨11, _⟩ => ⟨S32768x512, .bf16⟩
  | .hbm, ⟨12, _⟩ => ⟨S1x1024, .f32⟩
  | .hbm, ⟨13, _⟩ => ⟨S1024x2048, .bf16⟩
  | .hbm, ⟨14, _⟩ => ⟨S1x2048, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16x2048x1024 : Shape := ⟨3, ![16, 2048, 1024]⟩
abbrev S16x2048x512 : Shape := ⟨3, ![16, 2048, 512]⟩
abbrev S1024 : Shape := ⟨1, ![1024]⟩
abbrev S512x1024 : Shape := ⟨2, ![512, 1024]⟩
abbrev S1024x2048 : Shape := ⟨2, ![1024, 2048]⟩
abbrev S2048 : Shape := ⟨1, ![2048]⟩
abbrev S1024x1024 : Shape := ⟨2, ![1024, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2048 : Shape := ⟨3, ![16, 2048, 2048]⟩
abbrev S1x1x2048 : Shape := ⟨3, ![1, 1, 2048]⟩
abbrev S32768x1024 : Shape := ⟨2, ![32768, 1024]⟩

abbrev nBuf : Space → Nat
  | .hbm => 49
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S1024, .f32⟩
  | .hbm, ⟨4, _⟩ => ⟨S512x1024, .f32⟩
  | .hbm, ⟨5, _⟩ => ⟨S512x1024, .f32⟩
  | .hbm, ⟨6, _⟩ => ⟨S1024x2048, .f32⟩
  | .hbm, ⟨7, _⟩ => ⟨S2048, .f32⟩
  | .hbm, ⟨8, _⟩ => ⟨S1024x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x512, .f32⟩
  | .hbm, ⟨26, _⟩ => ⟨S16x2048x1024, .f32⟩
  | .hbm, ⟨27, _⟩ => ⟨S16x2048x512, .f32⟩
  | .hbm, ⟨28, _⟩ => ⟨S16x2048x1024, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S_, .f32⟩
  | .hbm, ⟨36, _⟩ => ⟨S16x2048x2048, .f32⟩
  | .hbm, ⟨37, _⟩ => ⟨S16x2048x2048, .f32⟩
  | .hbm, ⟨38, _⟩ => ⟨S_, .f32⟩
  | .hbm, ⟨39, _⟩ => ⟨S16x2048x2048, .f32⟩
  | .hbm, ⟨40, _⟩ => ⟨S16x2048x2048, .f32⟩
  | .hbm, ⟨41, _⟩ => ⟨S16x2048x1024, .f32⟩
  | .hbm, ⟨42, _⟩ => ⟨S16x2048x1024, .f32⟩
  | .hbm, ⟨43, _⟩ => ⟨S16x2048x1024, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel4.lean ====
abbrev S16x2048x1024 : Shape := ⟨3, ![16, 2048, 1024]⟩
abbrev S1024 : Shape := ⟨1, ![1024]⟩
abbrev S1024x3020 : Shape := ⟨2, ![1024, 3020]⟩
abbrev S32768x1024 : Shape := ⟨2, ![32768, 1024]⟩
abbrev S1x1024 : Shape := ⟨2, ![1, 1024]⟩
abbrev S1024x1536 : Shape := ⟨2, ![1024, 1536]⟩
abbrev S1024x512 : Shape := ⟨2, ![1024, 512]⟩
abbrev S1024x4 : Shape := ⟨2, ![1024, 4]⟩
abbrev S1024x64 : Shape := ⟨2, ![1024, 64]⟩
abbrev S1024x256 : Shape := ⟨2, ![1024, 256]⟩
abbrev S_ : Shape := ⟨0, ![]⟩
abbrev S1024x52 : Shape := ⟨2, ![1024, 52]⟩
abbrev S1024x3072 : Shape := ⟨2, ![1024, 3072]⟩
abbrev S32768x3072 : Shape := ⟨2, ![32768, 3072]⟩
abbrev S1024x1024 : Shape := ⟨2, ![1024, 1024]⟩
abbrev S1024x1 : Shape := ⟨2, ![1024, 1]⟩

abbrev nBuf : Space → Nat
  | .hbm => 20
  | .vmem => 6
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3020, .f32⟩
  | .hbm, ⟨3, _⟩ => ⟨S32768x1024, .f32⟩
  | .hbm, ⟨4, _⟩ => ⟨S1x1024, .f32⟩
  | .hbm, ⟨5, _⟩ => ⟨S1024x1536, .f32⟩
  | .hbm, ⟨6, _⟩ => ⟨S1024x512, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x64, .f32⟩
  | .hbm, ⟨11, _⟩ => ⟨S1024x64, .f32⟩
  | .hbm, ⟨12, _⟩ => ⟨S1024x256, .f32⟩
  | .hbm, ⟨13, _⟩ => ⟨S1024x64, .f32⟩
  | .hbm, ⟨14, _⟩ => ⟨S1024x4, .f32⟩
  | .hbm, ⟨15, _⟩ => ⟨S_, .f32⟩
  | .hbm, ⟨16, _⟩ => ⟨S1024x52, .f32⟩
  | .hbm, ⟨17, _⟩ => ⟨S1024x3072, .f32⟩
  | .hbm, ⟨18, _⟩ => ⟨S1024x3072, .bf16⟩
  | .hbm, ⟨19, _⟩ => ⟨S32768x3072, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .bf16⟩
  | .local _ .vmem, ⟨4, _⟩ => ⟨S1024x3072, .f32⟩
  | .local _ .vmem, ⟨5, _⟩ => ⟨S1024x3072, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x2048x1024 : Shape := ⟨3, ![16, 2048, 1024]⟩
abbrev S1024 : Shape := ⟨1, ![1024]⟩
abbrev S1024x3020 : Shape := ⟨2, ![1024, 3020]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3020 : Shape := ⟨3, ![16, 2048, 3020]⟩
abbrev S32768x3020 : Shape := ⟨2, ![32768, 3020]⟩
abbrev S32768x2048 : Shape := ⟨2, ![32768, 2048]⟩
abbrev S32768x8 : Shape := ⟨2, ![32768, 8]⟩
abbrev S32768x512 : Shape := ⟨2, ![32768, 512]⟩
abbrev S32768x128 : Shape := ⟨2, ![32768, 128]⟩
abbrev S32768x256 : Shape := ⟨2, ![32768, 256]⟩
abbrev S32768x64 : Shape := ⟨2, ![32768, 64]⟩
abbrev S32768x4 : Shape := ⟨2, ![32768, 4]⟩
abbrev S32768x52 : Shape := ⟨2, ![32768, 52]⟩
abbrev S32768x3072 : Shape := ⟨2, ![32768, 3072]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3020, .f32⟩
  | .hbm, ⟨3, _⟩ => ⟨S16x2048x1024, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x1024, .f32⟩
  | .hbm, ⟨15, _⟩ => ⟨S16x2048x1024, .f32⟩
  | .hbm, ⟨16, _⟩ => ⟨S1x1x1024, .f32⟩
  | .hbm, ⟨17, _⟩ => ⟨S16x2048x1024, .f32⟩
  | .hbm, ⟨18, _⟩ => ⟨S16x2048x1024, .f32⟩
  | .hbm, ⟨19, _⟩ => ⟨S16x2048x3020, .f32⟩
  | .hbm, ⟨20, _⟩ => ⟨S32768x3020, .f32⟩
  | .hbm, ⟨21, _⟩ => ⟨S32768x2048, .f32⟩
  | .hbm, ⟨22, _⟩ => ⟨S32768x8, .f32⟩
  | .hbm, ⟨23, _⟩ => ⟨S32768x512, .f32⟩
  | .hbm, ⟨24, _⟩ => ⟨S32768x128, .f32⟩
  | .hbm, ⟨25, _⟩ => ⟨S32768x256, .f32⟩
  | .hbm, ⟨26, _⟩ => ⟨S32768x64, .f32⟩
  | .hbm, ⟨27, _⟩ => ⟨S32768x4, .f32⟩
  | .hbm, ⟨28, _⟩ => ⟨S_, .f32⟩
  | .hbm, ⟨29, _⟩ => ⟨S32768x52, .f32⟩
  | .hbm, ⟨30, _⟩ => ⟨S32768x3072, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Proof.Dn.Words.lean ====
module

public import proofs.«01_k».proof.Proof.Gen.KernelIdeal.Value

/-! The vector operations of one chunk of the kernel, named step by step: the convolutions, the chunk's
    matrices, and one step of the recurrence over chunks. Nothing here is proved; the definitions say once
    what the kernel's body writes out for every chunk. -/

@[expose] public section

noncomputable section

namespace Cert.Delta.Word

open Cert.KernelIdeal Cert.KernelIdeal.Gen Idealize.ShloMosaic Idealize.ShloMosaic.TcCoe

variable {F : FTy → Type} [FloatOps F]

/-- The zero and the one of the scalar arithmetic. -/
def zero : F .f32 := Scalar.ofBits .f32 0x00000000#32
def one : F .f32 := Scalar.ofBits .f32 0x3F800000#32

/-- `y` times its logistic sigmoid. -/
def silu (y : FVec F S128x128 .f32) : FVec F S128x128 .f32 :=
  mulf y (divf (broadcast S128x128 one) (addf (broadcast S128x128 one) (exp (subf (broadcast S128x128 zero) y))))

/-- Four taps, each times its row of weights. -/
def conv (w3 w2 w1 w0 : Vec F S1x128 .f32) (t0 t1 t2 t3 : FVec F S128x128 .f32) : FVec F S128x128 .f32 :=
  addf (addf (addf (mulf (broadcastTo S128x128 w3 broadcasts_S1x128_S128x128) t0)
    (mulf (broadcastTo S128x128 w2 broadcasts_S1x128_S128x128) t1))
    (mulf (broadcastTo S128x128 w1 broadcasts_S1x128_S128x128) t2))
    (mulf (broadcastTo S128x128 w0 broadcasts_S1x128_S128x128) t3)

/-- Every row over the square root of its sum of squares. -/
def unit (y : FVec F S128x128 .f32) : FVec F S128x128 .f32 :=
  mulf y (broadcastTo S128x128 (rsqrt (addf
    (shapeCast S128x1 (multiReduction .add [1] S128 (mulf y y) 0x00000000#32 reduces_S128x128_S128 (.inl rfl) rfl)
      shapeCasts_S128_S128x1)
    (broadcast S128x1 (Scalar.ofBits .f32 0x358637BD#32)))) broadcasts_S128x1_S128x128)

/-- The query, key and value rows of a chunk from its convolution. -/
def qOf (y : FVec F S128x128 .f32) : FVec F S128x128 .f32 :=
  shapeCast S128x128 (mulf (unit (silu y)) (broadcast S128x128 (Scalar.ofBits .f32 0x3DB504F3#32)))
    shapeCasts_S128x128_S128x128
def kOf (y : FVec F S128x128 .f32) : FVec F S128x128 .f32 :=
  shapeCast S128x128 (unit (silu y)) shapeCasts_S128x128_S128x128
def vOf (y : FVec F S128x128 .f32) : FVec F S128x128 .f32 :=
  shapeCast S128x128 (silu y) shapeCasts_S128x128_S128x128

/-- The eight gate rows of a chunk, one row for each of the chunk's scalars. -/
def slab (x : Vec F S1x128x128 .f32) : FVec F S8x128 .f32 :=
  extractStridedSlice S8x128 ![64, 0]
    (transpose S128x128 [1, 0] (shapeCast S128x128 x shapeCasts_S1x128x128_S128x128) transposes_S128x128_p1_0_S128x128)
    slices_S128x128_o64_0_S8x128

/-- Row `h` of `x`, given to all eight rows. -/
def pick (h : BitVec 32) (x : FVec F S8x128 .f32) : FVec F S1x8x128 .f32 :=
  shapeCast S1x8x128 (broadcastTo S8x128 (shapeCast S1x128 (shapeCast S1x128
    (multiReduction .add [0] S128
      (select (cmpi .eq (iota .tc S8x128 32 [0] iota_S8x128_d0_w32) (broadcast S8x128 h)) x (broadcast S8x128 zero))
      0x00000000#32 reduces_S8x128_S128 (.inl rfl) rfl)
    shapeCasts_S128_S1x128) shapeCasts_S1x128_S1x128) broadcasts_S1x128_S8x128) shapeCasts_S8x128_S1x8x128

/-- The write strengths of a chunk of head `h`. -/
def beta (h : BitVec 32) (x : Vec F S1x128x128 .f32) : FVec F S1x8x128 .f32 :=
  pick h (divf (broadcast S8x128 one) (addf (broadcast S8x128 one) (exp (subf (broadcast S8x128 zero) (slab x)))))

/-- The log-decays of a chunk, by gate row. -/
def gates (al dt : Vec F S8x128 .f32) (x : Vec F S1x128x128 .f32) : FVec F S8x128 .f32 :=
  mulf (subf (broadcast S8x128 zero) (exp (shapeCast S8x128 al shapeCasts_S8x128_S8x128)))
    (addf (maximumf (addf (slab x) (shapeCast S8x128 dt shapeCasts_S8x128_S8x128)) (broadcast S8x128 zero))
      (log1p (exp (subf (broadcast S8x128 zero)
        (absf (addf (slab x) (shapeCast S8x128 dt shapeCasts_S8x128_S8x128)))))))

/-- The row number and the column number of every entry. -/
def rowI : IVec S128x128 32 := iota .tc S128x128 32 [0] iota_S128x128_d0_w32
def colI : IVec S128x128 32 := iota .tc S128x128 32 [1] iota_S128x128_d1_w32

/-- The log-decays of head `h` (gate row `h + 4`) summed up within the chunk. -/
def cum (h : BitVec 32) (al dt : Vec F S8x128 .f32) (x : Vec F S1x128x128 .f32) : FVec F S1x8x128 .f32 :=
  pick (Scalar.addi h 4#32) (matmul dot_S8x128_S128x128_S8x128_1_0_0_1_n_n (some .fp32) (gates al dt x)
    (select (cmpi .sle rowI colI) (broadcast S128x128 one) (broadcast S128x128 zero))
    (constant S8x128 .f32 0x00000000#32))

/-- A row of scalars across every row, down every column, and its last entry everywhere. -/
def across (g : Vec F S1x8x128 .f32) : FVec F S128x128 .f32 :=
  broadcastTo S128x128 (shapeCast S1x128 (extractStridedSlice S1x128 ![0, 0]
    (shapeCast S8x128 g shapeCasts_S1x8x128_S8x128) slices_S8x128_o0_0_S1x128) shapeCasts_S1x128_S1x128)
    broadcasts_S1x128_S128x128
def down (g : Vec F S1x8x128 .f32) : FVec F S128x128 .f32 :=
  transpose S128x128 [1, 0] (across g) transposes_S128x128_p1_0_S128x128
def lastOf (g : Vec F S1x8x128 .f32) : FVec F S128x128 .f32 :=
  broadcastTo S128x128 (shapeCast S1x128 (extractStridedSlice S1x128 ![127, 0] (down g) slices_S128x128_o127_0_S1x128)
    shapeCasts_S1x128_S1x128) broadcasts_S1x128_S128x128

/-- The all-zero matrix. -/
def nil : FVec F S128x128 .f32 := broadcast S128x128 zero

/-- The decay from column token to row token. -/
def decay (g : Vec F S1x8x128 .f32) : FVec F S128x128 .f32 :=
  select (cmpi .sge rowI colI) (exp (minimumf (subf (down g) (across g)) nil)) nil

/-- A product of two matrices, of two stacked ones with a third, and of one with two side by side. -/
def mm (a b : FVec F S128x128 .f32) : FVec F S128x128 .f32 :=
  matmul dot_S128x128_S128x128_S128x128_1_0_0_1_n_n none (truncf .bf16 a bitsLt_bf16_f32)
    (truncf .bf16 b bitsLt_bf16_f32) (constant S128x128 .f32 0x00000000#32)
def mm2 (a a' b : FVec F S128x128 .f32) : FVec F S256x128 .f32 :=
  matmul dot_S256x128_S128x128_S256x128_1_0_0_1_n_n none
    (truncf .bf16 (concatenate S256x128 0 [⟨S128x128, a⟩, ⟨S128x128, a'⟩]
      concatenates_S128x128_S128x128_S256x128_d0) bitsLt_bf16_f32)
    (truncf .bf16 b bitsLt_bf16_f32) (constant S256x128 .f32 0x00000000#32)
def mmW (a : FVec F S128x128 .f32) (b : FVec F S128x256 .f32) : FVec F S128x256 .f32 :=
  matmul dot_S128x128_S128x256_S128x256_1_0_0_1_n_n none (truncf .bf16 a bitsLt_bf16_f32)
    (truncf .bf16 b bitsLt_bf16_f32) (constant S128x256 .f32 0x00000000#32)
def top (x : FVec F S256x128 .f32) : FVec F S128x128 .f32 :=
  extractStridedSlice S128x128 ![0, 0] x slices_S256x128_o0_0_S128x128
def bot (x : FVec F S256x128 .f32) : FVec F S128x128 .f32 :=
  extractStridedSlice S128x128 ![128, 0] x slices_S256x128_o128_0_S128x128

/-- The keys times the write strengths, and the keys and queries against the keys. -/
def kb (k : FVec F S128x128 .f32) (b : Vec F S1x8x128 .f32) : FVec F S128x128 .f32 := mulf k (down b)
def kq (q k : FVec F S128x128 .f32) (b : Vec F S1x8x128 .f32) : FVec F S256x128 .f32 :=
  matmul dot_S256x128_S128x128_S256x128_1_1_0_0_n_n none
    (truncf .bf16 (concatenate S256x128 0 [⟨S128x128, kb k b⟩, ⟨S128x128, q⟩]
      concatenates_S128x128_S128x128_S256x128_d0) bitsLt_bf16_f32)
    (truncf .bf16 k bitsLt_bf16_f32) (constant S256x128 .f32 0x00000000#32)

/-- The strictly lower coupling of the chunk's writes, and the lower attention. -/
def low (q k : FVec F S128x128 .f32) (b g : Vec F S1x8x128 .f32) : FVec F S128x128 .f32 :=
  select (cmpi .sgt rowI colI) (mulf (top (kq q k b)) (decay g)) nil
def att (q k : FVec F S128x128 .f32) (b g : Vec F S1x8x128 .f32) : FVec F S128x128 .f32 :=
  select (cmpi .sge rowI colI) (mulf (bot (kq q k b)) (decay g)) nil

/-- Every entry of `x` divided by `b`, rounding down, as the body spells it. -/
def fdiv (x : IVec S128x128 32) (b : BitVec 32) : IVec S128x128 32 :=
  select (andi
    (cmpi .ne (subi (extui 32 (cmpi .sgt x (broadcast S128x128 0#32)) natLt_1_32)
        (extui 32 (cmpi .slt x (broadcast S128x128 0#32)) natLt_1_32))
      (broadcast S128x128 (Scalar.subi (Scalar.extui (Scalar.cmpi .sgt b 0#32)) (Scalar.extui (Scalar.cmpi .slt b 0#32)))))
    (cmpi .ne (remsi x (broadcast S128x128 b)) (broadcast S128x128 0#32)))
    (subi (divsi x (broadcast S128x128 b)) (broadcast S128x128 1#32)) (divsi x (broadcast S128x128 b))

/-- Row and column in one block of `b`; in one block of `b'` and not of `b`. -/
def same (b : BitVec 32) : IVec S128x128 1 := cmpi .eq (fdiv rowI b) (fdiv colI b)
def below (b b' : BitVec 32) : IVec S128x128 1 :=
  andi (same b') (xori (same b) (constantI S128x128 1 1#1))

/-- The inverse of `1 + l`: a truncated series within blocks of 32, then two doublings of the block. -/
def eye : FVec F S128x128 .f32 := select (cmpi .eq rowI colI) (broadcast S128x128 one) nil
def inBlock (l : FVec F S128x128 .f32) : FVec F S128x128 .f32 := select (same 32#32) l nil
def x0 (l : FVec F S128x128 .f32) : FVec F S128x128 .f32 := subf eye (inBlock l)
def m0 (l : FVec F S128x128 .f32) : FVec F S128x128 .f32 := mm (inBlock l) (inBlock l)
def more (x m : FVec F S128x128 .f32) : FVec F S128x128 .f32 := addf x (top (mm2 x m m))
def m1 (l : FVec F S128x128 .f32) : FVec F S128x128 .f32 := bot (mm2 (x0 l) (m0 l) (m0 l))
def x1 (l : FVec F S128x128 .f32) : FVec F S128x128 .f32 := more (x0 l) (m0 l)
def m2 (l : FVec F S128x128 .f32) : FVec F S128x128 .f32 := bot (mm2 (x1 l) (m1 l) (m1 l))
def x2 (l : FVec F S128x128 .f32) : FVec F S128x128 .f32 := more (x1 l) (m1 l)
def m3 (l : FVec F S128x128 .f32) : FVec F S128x128 .f32 := bot (mm2 (x2 l) (m2 l) (m2 l))
def x3 (l : FVec F S128x128 .f32) : FVec F S128x128 .f32 := more (x2 l) (m2 l)
def x4 (l : FVec F S128x128 .f32) : FVec F S128x128 .f32 := addf (x3 l) (mm (x3 l) (m3 l))
def wider (b b' : BitVec 32) (l x : FVec F S128x128 .f32) : FVec F S128x128 .f32 :=
  subf x (mm x (mm (select (below b b') l nil) x))
def x5 (l : FVec F S128x128 .f32) : FVec F S128x128 .f32 := wider 32#32 64#32 l (x4 l)
def inv (l : FVec F S128x128 .f32) : FVec F S128x128 .f32 := wider 64#32 128#32 l (x5 l)

/-- The chunk's solution: its writes without the state, and what the state adds to them. -/
def sol (q k v : FVec F S128x128 .f32) (b g : Vec F S1x8x128 .f32) : FVec F S128x256 .f32 :=
  mmW (inv (low q k b g)) (concatenate S128x256 1
    [⟨S128x128, mulf v (down b)⟩, ⟨S128x128, mulf (kb k b) (exp (down g))⟩]
    concatenates_S128x128_S128x128_S128x256_d1)
def kd (k : FVec F S128x128 .f32) (g : Vec F S1x8x128 .f32) : FVec F S128x128 .f32 :=
  transpose S128x128 [1, 0] (mulf k (exp (subf (lastOf g) (down g)))) transposes_S128x128_p1_0_S128x128
def cn (q k v : FVec F S128x128 .f32) (b g : Vec F S1x8x128 .f32) : FVec F S128x256 .f32 :=
  mmW (kd k g) (sol q k v b g)
def left (x : FVec F S128x256 .f32) : FVec F S1x128x128 .f32 :=
  shapeCast S1x128x128 (extractStridedSlice S128x128 ![0, 0] x slices_S128x256_o0_0_S128x128) shapeCasts_S128x128_S1x128x128
def right (x : FVec F S128x256 .f32) : FVec F S1x128x128 .f32 :=
  shapeCast S1x128x128 (extractStridedSlice S128x128 ![0, 128] x slices_S128x256_o0_128_S128x128) shapeCasts_S128x128_S1x128x128
def full (x : FVec F S128x128 .f32) : FVec F S1x128x128 .f32 := shapeCast S1x128x128 x shapeCasts_S128x128_S1x128x128
def aOf (q k : FVec F S128x128 .f32) (b g : Vec F S1x8x128 .f32) : FVec F S1x128x128 .f32 := full (att q k b g)
def qgOf (q : FVec F S128x128 .f32) (g : Vec F S1x8x128 .f32) : FVec F S1x128x128 .f32 := full (mulf q (exp (down g)))
def elOf (g : Vec F S1x8x128 .f32) : FVec F S1x8x128 .f32 :=
  shapeCast S1x8x128 (extractStridedSlice S8x128 ![0, 0] (exp (lastOf g)) slices_S128x128_o0_0_S8x128) shapeCasts_S8x128_S1x8x128

/-- One chunk of the recurrence: the three products with the state, the next state, the chunk's output. -/
def flat (x : Vec F S1x128x128 .f32) : FVec F S128x128 .f32 := shapeCast S128x128 x shapeCasts_S1x128x128_S128x128
def nws (n w qg : Vec F S1x128x128 .f32) (s : FVec F S128x128 .f32) : FVec F S384x128 .f32 :=
  matmul dot_S384x128_S128x128_S384x128_1_0_0_1_n_n none
    (truncf .bf16 (concatenate S384x128 0 [⟨S128x128, flat n⟩, ⟨S128x128, flat w⟩, ⟨S128x128, flat qg⟩]
      concatenates_S128x128_S128x128_S128x128_S384x128_d0) bitsLt_bf16_f32)
    (truncf .bf16 s bitsLt_bf16_f32) (constant S384x128 .f32 0x00000000#32)
def next (n w qg c : Vec F S1x128x128 .f32) (el : Vec F S1x8x128 .f32) (s : FVec F S128x128 .f32) : FVec F S128x128 .f32 :=
  subf (addf (mulf s (across el)) (flat c)) (extractStridedSlice S128x128 ![0, 0] (nws n w qg s) slices_S384x128_o0_0_S128x128)
def read (n w qg a u : Vec F S1x128x128 .f32) (s : FVec F S128x128 .f32) : FVec F S128x128 .f32 :=
  addf (extractStridedSlice S128x128 ![256, 0] (nws n w qg s) slices_S384x128_o256_0_S128x128)
    (mm (flat a) (subf (flat u) (extractStridedSlice S128x128 ![128, 0] (nws n w qg s) slices_S384x128_o128_0_S128x128)))
def outOf (o : FVec F S128x128 .f32) (gain : Vec F S1x128 .f32) (z : Vec F S1x128x128 .f32) : FVec F S1x128x128 .bf16 :=
  shapeCast S1x128x128 (truncf .bf16 (mulf (mulf (mulf o (broadcastTo S128x128 (rsqrt (addf (divf
      (shapeCast S128x1 (multiReduction .add [1] S128 (mulf o o) 0x00000000#32 reduces_S128x128_S128 (.inl rfl) rfl)
        shapeCasts_S128_S128x1) (broadcast S128x1 (Scalar.ofBits .f32 0x43000000#32)))
      (broadcast S128x1 (Scalar.ofBits .f32 0x358637BD#32)))) broadcasts_S128x1_S128x128))
    (broadcastTo S128x128 (shapeCast S1x128 gain shapeCasts_S1x128_S1x128) broadcasts_S1x128_S128x128))
    (silu (flat z))) bitsLt_bf16_f32) shapeCasts_S128x128_S1x128x128

end Cert.Delta.Word
-- ==== Proof.Dn.Run.lean ====
module

public import proofs.«01_k».proof.Proof.Dn.Words

/-! What one run of the kernel's body leaves in its scratch buffers and in its output block: chunk by chunk,
    the words of `Words`. -/

@[expose] public section

noncomputable section

namespace Cert.Delta

open Cert.KernelIdeal Cert.KernelIdeal.Gen Idealize.ShloMosaic Idealize.ShloMosaic.TcCoe

/-- One run of the body: its device and grid point, its buffers, and the blocks it reads. -/
structure Run (F : FTy → Type) [FloatOps F] where
  c : Dev nD
  i : grid0.Coords
  arg2 : Memref sig .tc .vmem S1x2048x128 .f32
  harg2 : arg2.IsWhole
  arg3 : Memref sig .tc .vmem S1x2048x128 .f32
  harg3 : arg3.IsWhole
  arg4 : Memref sig .tc .vmem S1x2048x128 .f32
  harg4 : arg4.IsWhole
  arg5 : Memref sig .tc .vmem S1x2048x128 .f32
  harg5 : arg5.IsWhole
  arg6 : Memref sig .tc .vmem S1x2048x128 .f32
  harg6 : arg6.IsWhole
  arg7 : Memref sig .tc .vmem S4x128 .f32
  harg7 : arg7.IsWhole
  arg8 : Memref sig .tc .vmem S4x128 .f32
  harg8 : arg8.IsWhole
  arg9 : Memref sig .tc .vmem S4x128 .f32
  harg9 : arg9.IsWhole
  arg10 : Memref sig .tc .vmem S8x128 .f32
  harg10 : arg10.IsWhole
  arg11 : Memref sig .tc .vmem S8x128 .f32
  harg11 : arg11.IsWhole
  arg12 : Memref sig .tc .vmem S1x128 .f32
  harg12 : arg12.IsWhole
  arg13 : Memref sig .tc .vmem S1x2048x128 .bf16
  harg13 : arg13.IsWhole
  arg14 : Memref sig .tc .vmem S136x128 .f32
  harg14 : arg14.IsWhole
  arg15 : Memref sig .tc .vmem S2048x128 .f32
  harg15 : arg15.IsWhole
  arg16 : Memref sig .tc .vmem S2048x128 .f32
  harg16 : arg16.IsWhole
  arg17 : Memref sig .tc .vmem S2048x128 .f32
  harg17 : arg17.IsWhole
  arg18 : Memref sig .tc .vmem S16x8x128 .f32
  harg18 : arg18.IsWhole
  arg19 : Memref sig .tc .vmem S16x8x128 .f32
  harg19 : arg19.IsWhole
  arg20 : Memref sig .tc .vmem S16x128x128 .f32
  harg20 : arg20.IsWhole
  arg21 : Memref sig .tc .vmem S16x128x128 .f32
  harg21 : arg21.IsWhole
  arg22 : Memref sig .tc .vmem S16x128x128 .f32
  harg22 : arg22.IsWhole
  arg23 : Memref sig .tc .vmem S16x128x128 .f32
  harg23 : arg23.IsWhole
  arg24 : Memref sig .tc .vmem S16x128x128 .f32
  harg24 : arg24.IsWhole
  arg25 : Memref sig .tc .vmem S16x128x128 .f32
  harg25 : arg25.IsWhole
  arg26 : Memref sig .tc .vmem S16x8x128 .f32
  harg26 : arg26.IsWhole
  x0 : Vec F S1x2048x128 .f32
  x1 : Vec F S1x2048x128 .f32
  x2 : Vec F S1x2048x128 .f32
  x3 : Vec F S1x2048x128 .f32
  x4 : Vec F S1x2048x128 .f32
  x5 : Vec F S4x128 .f32
  x6 : Vec F S4x128 .f32
  x7 : Vec F S4x128 .f32
  x8 : Vec F S8x128 .f32
  x9 : Vec F S8x128 .f32
  x10 : Vec F S1x128 .f32

variable {F : FTy → Type} [FloatOps F]

/-- The first eight slabs of a stack of matrices, last stored first. -/
def mats8 (f : Fin 16 → Vec F S1x128x128 .f32) : List (View.Piece (Elt F) S16x128x128 .f32) :=
  [⟨Rect.unit ![7, 0, 0] S1x128x128.size inb_S16x128x128_S1x128x128_7_0_0, f 7⟩,
   ⟨Rect.unit ![6, 0, 0] S1x128x128.size inb_S16x128x128_S1x128x128_6_0_0, f 6⟩,
   ⟨Rect.unit ![5, 0, 0] S1x128x128.size inb_S16x128x128_S1x128x128_5_0_0, f 5⟩,
   ⟨Rect.unit ![4, 0, 0] S1x128x128.size inb_S16x128x128_S1x128x128_4_0_0, f 4⟩,
   ⟨Rect.unit ![3, 0, 0] S1x128x128.size inb_S16x128x128_S1x128x128_3_0_0, f 3⟩,
   ⟨Rect.unit ![2, 0, 0] S1x128x128.size inb_S16x128x128_S1x128x128_2_0_0, f 2⟩,
   ⟨Rect.unit ![1, 0, 0] S1x128x128.size inb_S16x128x128_S1x128x128_1_0_0, f 1⟩,
   ⟨Rect.unit ![0, 0, 0] S1x128x128.size inb_S16x128x128_S1x128x128_0_0_0, f 0⟩]
/-- The remaining slabs above those already there. -/
def matsUp (f : Fin 16 → Vec F S1x128x128 .f32) (L : List (View.Piece (Elt F) S16x128x128 .f32)) : List (View.Piece (Elt F) S16x128x128 .f32) :=
  [⟨Rect.unit ![15, 0, 0] S1x128x128.size inb_S16x128x128_S1x128x128_15_0_0, f 15⟩,
   ⟨Rect.unit ![14, 0, 0] S1x128x128.size inb_S16x128x128_S1x128x128_14_0_0, f 14⟩,
   ⟨Rect.unit ![13, 0, 0] S1x128x128.size inb_S16x128x128_S1x128x128_13_0_0, f 13⟩,
   ⟨Rect.unit ![12, 0, 0] S1x128x128.size inb_S16x128x128_S1x128x128_12_0_0, f 12⟩,
   ⟨Rect.unit ![11, 0, 0] S1x128x128.size inb_S16x128x128_S1x128x128_11_0_0, f 11⟩,
   ⟨Rect.unit ![10, 0, 0] S1x128x128.size inb_S16x128x128_S1x128x128_10_0_0, f 10⟩,
   ⟨Rect.unit ![9, 0, 0] S1x128x128.size inb_S16x128x128_S1x128x128_9_0_0, f 9⟩,
   ⟨Rect.unit ![8, 0, 0] S1x128x128.size inb_S16x128x128_S1x128x128_8_0_0, f 8⟩] ++ L
/-- All sixteen. -/
def mats16 (f : Fin 16 → Vec F S1x128x128 .f32) : List (View.Piece (Elt F) S16x128x128 .f32) := matsUp f (mats8 f)
/-- The first eight slabs of a stack of rows. -/
def rows8 (f : Fin 16 → Vec F S1x8x128 .f32) : List (View.Piece (Elt F) S16x8x128 .f32) :=
  [⟨Rect.unit ![7, 0, 0] S1x8x128.size inb_S16x8x128_S1x8x128_7_0_0, f 7⟩,
   ⟨Rect.unit ![6, 0, 0] S1x8x128.size inb_S16x8x128_S1x8x128_6_0_0, f 6⟩,
   ⟨Rect.unit ![5, 0, 0] S1x8x128.size inb_S16x8x128_S1x8x128_5_0_0, f 5⟩,
   ⟨Rect.unit ![4, 0, 0] S1x8x128.size inb_S16x8x128_S1x8x128_4_0_0, f 4⟩,
   ⟨Rect.unit ![3, 0, 0] S1x8x128.size inb_S16x8x128_S1x8x128_3_0_0, f 3⟩,
   ⟨Rect.unit ![2, 0, 0] S1x8x128.size inb_S16x8x128_S1x8x128_2_0_0, f 2⟩,
   ⟨Rect.unit ![1, 0, 0] S1x8x128.size inb_S16x8x128_S1x8x128_1_0_0, f 1⟩,
   ⟨Rect.unit ![0, 0, 0] S1x8x128.size inb_S16x8x128_S1x8x128_0_0_0, f 0⟩]
/-- The remaining slabs above those already there. -/
def rowsUp (f : Fin 16 → Vec F S1x8x128 .f32) (L : List (View.Piece (Elt F) S16x8x128 .f32)) : List (View.Piece (Elt F) S16x8x128 .f32) :=
  [⟨Rect.unit ![15, 0, 0] S1x8x128.size inb_S16x8x128_S1x8x128_15_0_0, f 15⟩,
   ⟨Rect.unit ![14, 0, 0] S1x8x128.size inb_S16x8x128_S1x8x128_14_0_0, f 14⟩,
   ⟨Rect.unit ![13, 0, 0] S1x8x128.size inb_S16x8x128_S1x8x128_13_0_0, f 13⟩,
   ⟨Rect.unit ![12, 0, 0] S1x8x128.size inb_S16x8x128_S1x8x128_12_0_0, f 12⟩,
   ⟨Rect.unit ![11, 0, 0] S1x8x128.size inb_S16x8x128_S1x8x128_11_0_0, f 11⟩,
   ⟨Rect.unit ![10, 0, 0] S1x8x128.size inb_S16x8x128_S1x8x128_10_0_0, f 10⟩,
   ⟨Rect.unit ![9, 0, 0] S1x8x128.size inb_S16x8x128_S1x8x128_9_0_0, f 9⟩,
   ⟨Rect.unit ![8, 0, 0] S1x8x128.size inb_S16x8x128_S1x8x128_8_0_0, f 8⟩] ++ L
/-- All sixteen. -/
def rows16 (f : Fin 16 → Vec F S1x8x128 .f32) : List (View.Piece (Elt F) S16x8x128 .f32) := rowsUp f (rows8 f)
/-- The first nine chunks of a sequence. -/
def seq9 (f : Fin 16 → Vec F S128x128 .f32) : List (View.Piece (Elt F) S2048x128 .f32) :=
  [⟨Rect.unit ![1024, 0] S128x128.size inb_S2048x128_S128x128_1024_0, f 8⟩,
   ⟨Rect.unit ![896, 0] S128x128.size inb_S2048x128_S128x128_896_0, f 7⟩,
   ⟨Rect.unit ![768, 0] S128x128.size inb_S2048x128_S128x128_768_0, f 6⟩,
   ⟨Rect.unit ![640, 0] S128x128.size inb_S2048x128_S128x128_640_0, f 5⟩,
   ⟨Rect.unit ![512, 0] S128x128.size inb_S2048x128_S128x128_512_0, f 4⟩,
   ⟨Rect.unit ![384, 0] S128x128.size inb_S2048x128_S128x128_384_0, f 3⟩,
   ⟨Rect.unit ![256, 0] S128x128.size inb_S2048x128_S128x128_256_0, f 2⟩,
   ⟨Rect.unit ![128, 0] S128x128.size inb_S2048x128_S128x128_128_0, f 1⟩,
   ⟨Rect.unit ![0, 0] S128x128.size inb_S2048x128_S128x128_0_0, f 0⟩]
/-- The remaining slabs above those already there. -/
def seqUp (f : Fin 16 → Vec F S128x128 .f32) (L : List (View.Piece (Elt F) S2048x128 .f32)) : List (View.Piece (Elt F) S2048x128 .f32) :=
  [⟨Rect.unit ![1920, 0] S128x128.size inb_S2048x128_S128x128_1920_0, f 15⟩,
   ⟨Rect.unit ![1792, 0] S128x128.size inb_S2048x128_S128x128_1792_0, f 14⟩,
   ⟨Rect.unit ![1664, 0] S128x128.size inb_S2048x128_S128x128_1664_0, f 13⟩,
   ⟨Rect.unit ![1536, 0] S128x128.size inb_S2048x128_S128x128_1536_0, f 12⟩,
   ⟨Rect.unit ![1408, 0] S128x128.size inb_S2048x128_S128x128_1408_0, f 11⟩,
   ⟨Rect.unit ![1280, 0] S128x128.size inb_S2048x128_S128x128_1280_0, f 10⟩,
   ⟨Rect.unit ![1152, 0] S128x128.size inb_S2048x128_S128x128_1152_0, f 9⟩] ++ L
/-- All sixteen. -/
def seq16 (f : Fin 16 → Vec F S128x128 .f32) : List (View.Piece (Elt F) S2048x128 .f32) := seqUp f (seq9 f)
/-- The first six chunks of the output block. -/
def outs6 (f : Fin 16 → Vec F S1x128x128 .bf16) : List (View.Piece (Elt F) S1x2048x128 .bf16) :=
  [⟨Rect.unit ![0, 640, 0] S1x128x128.size inb_S1x2048x128_S1x128x128_0_640_0, f 5⟩,
   ⟨Rect.unit ![0, 512, 0] S1x128x128.size inb_S1x2048x128_S1x128x128_0_512_0, f 4⟩,
   ⟨Rect.unit ![0, 384, 0] S1x128x128.size inb_S1x2048x128_S1x128x128_0_384_0, f 3⟩,
   ⟨Rect.unit ![0, 256, 0] S1x128x128.size inb_S1x2048x128_S1x128x128_0_256_0, f 2⟩,
   ⟨Rect.unit ![0, 128, 0] S1x128x128.size inb_S1x2048x128_S1x128x128_0_128_0, f 1⟩,
   ⟨Rect.unit ![0, 0, 0] S1x128x128.size inb_S1x2048x128_S1x128x128_0_0_0, f 0⟩]
/-- The other ten above them. -/
def outsUp (f : Fin 16 → Vec F S1x128x128 .bf16) (L : List (View.Piece (Elt F) S1x2048x128 .bf16)) : List (View.Piece (Elt F) S1x2048x128 .bf16) :=
  [⟨Rect.unit ![0, 1920, 0] S1x128x128.size inb_S1x2048x128_S1x128x128_0_1920_0, f 15⟩,
   ⟨Rect.unit ![0, 1792, 0] S1x128x128.size inb_S1x2048x128_S1x128x128_0_1792_0, f 14⟩,
   ⟨Rect.unit ![0, 1664, 0] S1x128x128.size inb_S1x2048x128_S1x128x128_0_1664_0, f 13⟩,
   ⟨Rect.unit ![0, 1536, 0] S1x128x128.size inb_S1x2048x128_S1x128x128_0_1536_0, f 12⟩,
   ⟨Rect.unit ![0, 1408, 0] S1x128x128.size inb_S1x2048x128_S1x128x128_0_1408_0, f 11⟩,
   ⟨Rect.unit ![0, 1280, 0] S1x128x128.size inb_S1x2048x128_S1x128x128_0_1280_0, f 10⟩,
   ⟨Rect.unit ![0, 1152, 0] S1x128x128.size inb_S1x2048x128_S1x128x128_0_1152_0, f 9⟩,
   ⟨Rect.unit ![0, 1024, 0] S1x128x128.size inb_S1x2048x128_S1x128x128_0_1024_0, f 8⟩,
   ⟨Rect.unit ![0, 896, 0] S1x128x128.size inb_S1x2048x128_S1x128x128_0_896_0, f 7⟩,
   ⟨Rect.unit ![0, 768, 0] S1x128x128.size inb_S1x2048x128_S1x128x128_0_768_0, f 6⟩] ++ L

/-- A stored matrix lies inside its buffer. -/
theorem inb_mat (n : Fin 16) : ∀ a, (![n.val, 0, 0] : Fin 3 → Nat) a + S1x128x128.size a ≤ S16x128x128.size a := by
  revert n; decide
/-- A stored row lies inside its buffer. -/
theorem inb_row (n : Fin 16) : ∀ a, (![n.val, 0, 0] : Fin 3 → Nat) a + S1x8x128.size a ≤ S16x8x128.size a := by
  revert n; decide
/-- A chunk lies inside its sequence. -/
theorem inb_seq (n : Fin 16) : ∀ a, (![128 * n.val, 0] : Fin 2 → Nat) a + S128x128.size a ≤ S2048x128.size a := by
  revert n; decide
/-- A window of 128 tokens lies inside the sequence. -/
theorem inb_tap (o : ℕ) (h : o + 128 ≤ 2048) :
    ∀ a, (![0, o, 0] : Fin 3 → Nat) a + S1x128x128.size a ≤ S1x2048x128.size a := by
  intro a
  match a with
  | ⟨0, _⟩ => exact (by decide : 0 + 1 ≤ 1)
  | ⟨1, _⟩ => exact h
  | ⟨2, _⟩ => exact (by decide : 0 + 128 ≤ 128)
/-- A row of taps lies inside the taps. -/
theorem inb_wt (j : Fin 4) : ∀ a, (![j.val, 0] : Fin 2 → Nat) a + S1x128.size a ≤ S4x128.size a := by
  revert j; decide

/-- A slab of a stack, and a chunk of a sequence, read back from what was stored. -/
def matAt (arg : Memref sig .tc .vmem S16x128x128 .f32) (L : List (View.Piece (Elt F) S16x128x128 .f32)) (n : Fin 16) :
    Vec F S1x128x128 .f32 :=
  arg.view.readCov L (Rect.unit (s := S16x128x128) ![n.val, 0, 0] S1x128x128.size (inb_mat n)).toLoadRect
def rowAt (arg : Memref sig .tc .vmem S16x8x128 .f32) (L : List (View.Piece (Elt F) S16x8x128 .f32)) (n : Fin 16) :
    Vec F S1x8x128 .f32 :=
  arg.view.readCov L (Rect.unit (s := S16x8x128) ![n.val, 0, 0] S1x8x128.size (inb_row n)).toLoadRect
def seqAt (arg : Memref sig .tc .vmem S2048x128 .f32) (L : List (View.Piece (Elt F) S2048x128 .f32)) (n : Fin 16) :
    Vec F S128x128 .f32 :=
  arg.view.readCov L (Rect.unit (s := S2048x128) ![128 * n.val, 0] S128x128.size (inb_seq n)).toLoadRect

/-- 128 tokens of a block from token `o`, and one row of the taps' weights. -/
def tapAt (arg : Memref sig .tc .vmem S1x2048x128 .f32) (h : arg.IsWhole) (x : Vec F S1x2048x128 .f32) (o : ℕ)
    (ho : o + 128 ≤ 2048) : Vec F S1x128x128 .f32 :=
  View.readAt (Elt F) arg.view (Rect.unit (s := S1x2048x128) ![0, o, 0] S1x128x128.size (inb_tap o ho)).toLoadRect (h.unread x)
def wtAt (arg : Memref sig .tc .vmem S4x128 .f32) (h : arg.IsWhole) (x : Vec F S4x128 .f32) (j : Fin 4) :
    Vec F S1x128 .f32 :=
  View.readAt (Elt F) arg.view (Rect.unit (s := S4x128) ![j.val, 0] S1x128.size (inb_wt j)).toLoadRect (h.unread x)
def rowsAt (arg : Memref sig .tc .vmem S8x128 .f32) (h : arg.IsWhole) (x : Vec F S8x128 .f32) : Vec F S8x128 .f32 :=
  View.readAt (Elt F) arg.view (Rect.unit (s := S8x128) ![0, 0] S8x128.size inb_S8x128_S8x128_0_0).toLoadRect (h.unread x)

/-- The padded first chunk: eight zero rows, then 128 tokens. -/
def padL (x : Vec F S1x128x128 .f32) (L : List (View.Piece (Elt F) S136x128 .f32)) : List (View.Piece (Elt F) S136x128 .f32) :=
  ⟨Rect.unit ![8, 0] S128x128.size inb_S136x128_S128x128_8_0,
    shapeCast S128x128 (shapeCast S128x128 x shapeCasts_S1x128x128_S128x128) shapeCasts_S128x128_S128x128⟩ ::
  ⟨Rect.unit ![0, 0] S8x128.size inb_S136x128_S8x128_0_0,
    shapeCast S8x128 (broadcast S8x128 Word.zero) shapeCasts_S8x128_S8x128⟩ :: L
/-- A shifted window lies inside the padded chunk. -/
theorem inb_pad (j : Fin 4) : ∀ a, (![8 - j.val, 0] : Fin 2 → Nat) a + S128x128.size a ≤ S136x128.size a := by
  revert j; decide
def padAt (arg : Memref sig .tc .vmem S136x128 .f32) (L : List (View.Piece (Elt F) S136x128 .f32)) (j : Fin 4) :
    Vec F S128x128 .f32 :=
  arg.view.readCov L (Rect.unit (s := S136x128) ![8 - j.val, 0] S128x128.size (inb_pad j)).toLoadRect

/-- The convolution of chunk `n`: its first chunk reads the padded rows. -/
def convAt (arg : Memref sig .tc .vmem S1x2048x128 .f32) (h : arg.IsWhole) (x : Vec F S1x2048x128 .f32)
    (wa : Memref sig .tc .vmem S4x128 .f32) (hw : wa.IsWhole) (w : Vec F S4x128 .f32)
    (pad : Memref sig .tc .vmem S136x128 .f32) (L : List (View.Piece (Elt F) S136x128 .f32)) :
    Fin 16 → FVec F S128x128 .f32
  | ⟨0, _⟩ => Word.conv (wtAt wa hw w 3) (wtAt wa hw w 2) (wtAt wa hw w 1) (wtAt wa hw w 0)
      (padAt pad L 0) (padAt pad L 1) (padAt pad L 2) (padAt pad L 3)
  | ⟨n + 1, hn⟩ => Word.conv (wtAt wa hw w 3) (wtAt wa hw w 2) (wtAt wa hw w 1) (wtAt wa hw w 0)
      (Word.flat (tapAt arg h x (128 * (n + 1) - 0) (by omega))) (Word.flat (tapAt arg h x (128 * (n + 1) - 1) (by omega)))
      (Word.flat (tapAt arg h x (128 * (n + 1) - 2) (by omega))) (Word.flat (tapAt arg h x (128 * (n + 1) - 3) (by omega)))

namespace Run

variable (r : Run F)

/-- The head of the grid point. -/
def head : BitVec 32 := BitVec.ofNat 32 (r.i 1).val
/-- The padded first chunks of queries, keys and values, each stored over the one before. -/
def padQ : List (View.Piece (Elt F) S136x128 .f32) := padL (tapAt r.arg2 r.harg2 r.x0 0 (by decide)) []
def padK : List (View.Piece (Elt F) S136x128 .f32) := padL (tapAt r.arg3 r.harg3 r.x1 0 (by decide)) r.padQ
def padV : List (View.Piece (Elt F) S136x128 .f32) := padL (tapAt r.arg4 r.harg4 r.x2 0 (by decide)) r.padK
/-- The chunk's queries, keys, values, write strengths and summed log-decays. -/
def q (n : Fin 16) : FVec F S128x128 .f32 := Word.qOf (convAt r.arg2 r.harg2 r.x0 r.arg7 r.harg7 r.x5 r.arg14 r.padQ n)
def k (n : Fin 16) : FVec F S128x128 .f32 := Word.kOf (convAt r.arg3 r.harg3 r.x1 r.arg8 r.harg8 r.x6 r.arg14 r.padK n)
def v (n : Fin 16) : FVec F S128x128 .f32 := Word.vOf (convAt r.arg4 r.harg4 r.x2 r.arg9 r.harg9 r.x7 r.arg14 r.padV n)
def misc (n : Fin 16) : Vec F S1x128x128 .f32 := tapAt r.arg6 r.harg6 r.x4 (128 * n.val) (by omega)
def β (n : Fin 16) : FVec F S1x8x128 .f32 := Word.beta r.head (r.misc n)
def g (n : Fin 16) : FVec F S1x8x128 .f32 :=
  Word.cum r.head (rowsAt r.arg10 r.harg10 r.x8) (rowsAt r.arg11 r.harg11 r.x9) (r.misc n)

end Run

end Cert.Delta
-- ==== Proof.Dn.Stores.lean ====
module

public import proofs.«01_k».proof.Proof.Dn.Run

/-! Each scratch buffer's list of stores, the states the body names, and its output block, as the words of
    `Words` of what the body reads back: the two sides are the same term once the names are opened. -/

@[expose] public section

noncomputable section

namespace Cert.Delta

open Cert.KernelIdeal Cert.KernelIdeal.Gen Idealize.ShloMosaic Idealize.ShloMosaic.TcCoe

variable {F : FTy → Type} [FloatOps F]

namespace Run

variable (r : Run F)

/-- The padded chunk, as stored. -/
theorem pad_q : kernelRun0_A.sl.HS0_2 r.c r.arg2 r.harg2 r.x0
    = r.padQ := rfl

/-- The padded key chunk. -/
theorem pad_k : kernelRun0_A.sl.HS0_4 r.c r.arg2 r.harg2 r.arg3 r.harg3 r.x0 r.x1
    = r.padK := rfl

/-- The padded value chunk. -/
theorem pad_v : kernelRun0_A.sl.HS0_6 r.c r.arg2 r.harg2 r.arg3 r.harg3 r.arg4 r.harg4 r.x0 r.x1 r.x2
    = r.padV := rfl

/-- The convolved rows, as stored: nine chunks, then all of them. -/
theorem st_q9 : kernelRun0_A.sl.HS1_9 r.c r.arg2 r.harg2 r.arg7 r.harg7 r.arg14 r.x0 r.x5
    = seq9 r.q := rfl

/-- The sixteen stores of the queries. -/
theorem st_q16 : kernelRun0_A.sl.HS1_16 r.c r.arg2 r.harg2 r.arg7 r.harg7 r.arg14 r.x0 r.x5
    = seq16 r.q := rfl

/-- The first stores of the keys. -/
theorem st_k9 : kernelRun0_A.sl.HS2_9 r.c r.arg2 r.harg2 r.arg3 r.harg3 r.arg8 r.harg8 r.arg14 r.x0 r.x1 r.x6
    = seq9 r.k := rfl

/-- The sixteen stores of the keys. -/
theorem st_k16 : kernelRun0_A.sl.HS2_16 r.c r.arg2 r.harg2 r.arg3 r.harg3 r.arg8 r.harg8 r.arg14 r.x0 r.x1 r.x6
    = seq16 r.k := rfl

/-- The first stores of the values. -/
theorem st_v9 : kernelRun0_A.sl.HS3_9 r.c r.arg2 r.harg2 r.arg3 r.harg3 r.arg4 r.harg4 r.arg9 r.harg9 r.arg14 r.x0 r.x1 r.x2 r.x7
    = seq9 r.v := rfl

/-- The sixteen stores of the values. -/
theorem st_v16 : kernelRun0_A.sl.HS3_16 r.c r.arg2 r.harg2 r.arg3 r.harg3 r.arg4 r.harg4 r.arg9 r.harg9 r.arg14 r.x0 r.x1 r.x2 r.x7
    = seq16 r.v := rfl

/-- The write strengths and the summed log-decays, as stored. -/
theorem st_β : kernelRun0_A.sl.HS4_16 r.c r.i r.arg6 r.harg6 r.x4
    = rows16 r.β := rfl

/-- The sixteen stores of the summed decays. -/
theorem st_g : kernelRun0_A.sl.HS5_16 r.c r.i r.arg6 r.harg6 r.arg10 r.harg10 r.arg11 r.harg11 r.x4 r.x8 r.x9
    = rows16 r.g := rfl

/-- The operands of a chunk as read back once nine chunks were convolved, and once all were. -/
def qAt9 (n : Fin 16) : Vec F S128x128 .f32 := seqAt r.arg15 (kernelRun0_A.sl.HS1_9 r.c r.arg2 r.harg2 r.arg7 r.harg7 r.arg14 r.x0 r.x5) n
def kAt9 (n : Fin 16) : Vec F S128x128 .f32 := seqAt r.arg16 (kernelRun0_A.sl.HS2_9 r.c r.arg2 r.harg2 r.arg3 r.harg3 r.arg8 r.harg8 r.arg14 r.x0 r.x1 r.x6) n
def vAt9 (n : Fin 16) : Vec F S128x128 .f32 := seqAt r.arg17 (kernelRun0_A.sl.HS3_9 r.c r.arg2 r.harg2 r.arg3 r.harg3 r.arg4 r.harg4 r.arg9 r.harg9 r.arg14 r.x0 r.x1 r.x2 r.x7) n
def qAt16 (n : Fin 16) : Vec F S128x128 .f32 := seqAt r.arg15 (kernelRun0_A.sl.HS1_16 r.c r.arg2 r.harg2 r.arg7 r.harg7 r.arg14 r.x0 r.x5) n
def kAt16 (n : Fin 16) : Vec F S128x128 .f32 := seqAt r.arg16 (kernelRun0_A.sl.HS2_16 r.c r.arg2 r.harg2 r.arg3 r.harg3 r.arg8 r.harg8 r.arg14 r.x0 r.x1 r.x6) n
def vAt16 (n : Fin 16) : Vec F S128x128 .f32 := seqAt r.arg17 (kernelRun0_A.sl.HS3_16 r.c r.arg2 r.harg2 r.arg3 r.harg3 r.arg4 r.harg4 r.arg9 r.harg9 r.arg14 r.x0 r.x1 r.x2 r.x7) n
/-- The chunk's scalars as read back. -/
def βAt (n : Fin 16) : Vec F S1x8x128 .f32 := rowAt r.arg18 (kernelRun0_A.sl.HS4_16 r.c r.i r.arg6 r.harg6 r.x4) n
def gAt (n : Fin 16) : Vec F S1x8x128 .f32 := rowAt r.arg19 (kernelRun0_A.sl.HS5_16 r.c r.i r.arg6 r.harg6 r.arg10 r.harg10 r.arg11 r.harg11 r.x4 r.x8 r.x9) n

/-- What the chunks' preparation leaves, slab by slab: the first eight chunks, then the other eight above them. -/
theorem st_u8 : kernelRun0_A.sl.HS6_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = mats8 fun n => Word.left (Word.sol (r.qAt9 n) (r.kAt9 n) (r.vAt9 n) (r.βAt n) (r.gAt n)) := rfl

/-- The sixteen stores of the corrected values. -/
theorem st_u16 : kernelRun0_A.sl.HS6_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = matsUp (fun n => Word.left (Word.sol (r.qAt16 n) (r.kAt16 n) (r.vAt16 n) (r.βAt n) (r.gAt n))) (kernelRun0_A.sl.HS6_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) := rfl

/-- The first stores of the corrected keys. -/
theorem st_w8 : kernelRun0_A.sl.HS7_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = mats8 fun n => Word.right (Word.sol (r.qAt9 n) (r.kAt9 n) (r.vAt9 n) (r.βAt n) (r.gAt n)) := rfl

/-- The sixteen stores of the corrected keys. -/
theorem st_w16 : kernelRun0_A.sl.HS7_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = matsUp (fun n => Word.right (Word.sol (r.qAt16 n) (r.kAt16 n) (r.vAt16 n) (r.βAt n) (r.gAt n))) (kernelRun0_A.sl.HS7_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) := rfl

/-- The first stores of the attention matrices. -/
theorem st_a8 : kernelRun0_A.sl.HS8_8 r.c r.i r.arg2 r.harg2 r.arg3 r.harg3 r.arg6 r.harg6 r.arg7 r.harg7 r.arg8 r.harg8 r.arg10 r.harg10 r.arg11 r.harg11 r.arg14 r.arg15 r.arg16 r.arg18 r.arg19 r.x0 r.x1 r.x4 r.x5 r.x6 r.x8 r.x9
    = mats8 fun n => Word.aOf (r.qAt9 n) (r.kAt9 n) (r.βAt n) (r.gAt n) := rfl

/-- The sixteen stores of the attention matrices. -/
theorem st_a16 : kernelRun0_A.sl.HS8_16 r.c r.i r.arg2 r.harg2 r.arg3 r.harg3 r.arg6 r.harg6 r.arg7 r.harg7 r.arg8 r.harg8 r.arg10 r.harg10 r.arg11 r.harg11 r.arg14 r.arg15 r.arg16 r.arg18 r.arg19 r.x0 r.x1 r.x4 r.x5 r.x6 r.x8 r.x9
    = matsUp (fun n => Word.aOf (r.qAt16 n) (r.kAt16 n) (r.βAt n) (r.gAt n)) (kernelRun0_A.sl.HS8_8 r.c r.i r.arg2 r.harg2 r.arg3 r.harg3 r.arg6 r.harg6 r.arg7 r.harg7 r.arg8 r.harg8 r.arg10 r.harg10 r.arg11 r.harg11 r.arg14 r.arg15 r.arg16 r.arg18 r.arg19 r.x0 r.x1 r.x4 r.x5 r.x6 r.x8 r.x9) := rfl

/-- The first stores of the decayed queries. -/
theorem st_qg8 : kernelRun0_A.sl.HS9_8 r.c r.i r.arg2 r.harg2 r.arg6 r.harg6 r.arg7 r.harg7 r.arg10 r.harg10 r.arg11 r.harg11 r.arg14 r.arg15 r.arg19 r.x0 r.x4 r.x5 r.x8 r.x9
    = mats8 fun n => Word.qgOf (r.qAt9 n) (r.gAt n) := rfl

/-- The sixteen stores of the decayed queries. -/
theorem st_qg16 : kernelRun0_A.sl.HS9_16 r.c r.i r.arg2 r.harg2 r.arg6 r.harg6 r.arg7 r.harg7 r.arg10 r.harg10 r.arg11 r.harg11 r.arg14 r.arg15 r.arg19 r.x0 r.x4 r.x5 r.x8 r.x9
    = matsUp (fun n => Word.qgOf (r.qAt16 n) (r.gAt n)) (kernelRun0_A.sl.HS9_8 r.c r.i r.arg2 r.harg2 r.arg6 r.harg6 r.arg7 r.harg7 r.arg10 r.harg10 r.arg11 r.harg11 r.arg14 r.arg15 r.arg19 r.x0 r.x4 r.x5 r.x8 r.x9) := rfl

/-- The first stores of the additions to the state. -/
theorem st_cc8 : kernelRun0_A.sl.HS10_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = mats8 fun n => Word.left (Word.cn (r.qAt9 n) (r.kAt9 n) (r.vAt9 n) (r.βAt n) (r.gAt n)) := rfl

/-- The sixteen stores of the additions to the state. -/
theorem st_cc16 : kernelRun0_A.sl.HS10_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = matsUp (fun n => Word.left (Word.cn (r.qAt16 n) (r.kAt16 n) (r.vAt16 n) (r.βAt n) (r.gAt n))) (kernelRun0_A.sl.HS10_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) := rfl

/-- The first stores of the matrices that act on the state. -/
theorem st_nn8 : kernelRun0_A.sl.HS11_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = mats8 fun n => Word.right (Word.cn (r.qAt9 n) (r.kAt9 n) (r.vAt9 n) (r.βAt n) (r.gAt n)) := rfl

/-- The sixteen stores of the matrices that act on the state. -/
theorem st_nn16 : kernelRun0_A.sl.HS11_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9
    = matsUp (fun n => Word.right (Word.cn (r.qAt16 n) (r.kAt16 n) (r.vAt16 n) (r.βAt n) (r.gAt n))) (kernelRun0_A.sl.HS11_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) := rfl

/-- The first stores of the whole-chunk decays. -/
theorem st_el8 : kernelRun0_A.sl.HS12_8 r.c r.i r.arg6 r.harg6 r.arg10 r.harg10 r.arg11 r.harg11 r.arg19 r.x4 r.x8 r.x9
    = rows8 fun n => Word.elOf (r.gAt n) := rfl

/-- The sixteen stores of the whole-chunk decays. -/
theorem st_el16 : kernelRun0_A.sl.HS12_16 r.c r.i r.arg6 r.harg6 r.arg10 r.harg10 r.arg11 r.harg11 r.arg19 r.x4 r.x8 r.x9
    = rowsUp (fun n => Word.elOf (r.gAt n)) (kernelRun0_A.sl.HS12_8 r.c r.i r.arg6 r.harg6 r.arg10 r.harg10 r.arg11 r.harg11 r.arg19 r.x4 r.x8 r.x9) := rfl

/-- The recurrence's operands of a chunk as read back: the first six chunks before the second half is prepared, the others after. -/
def uAt8 (n : Fin 16) : Vec F S1x128x128 .f32 :=
  matAt r.arg20 (kernelRun0_A.sl.HS6_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def wAt8 (n : Fin 16) : Vec F S1x128x128 .f32 :=
  matAt r.arg21 (kernelRun0_A.sl.HS7_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def aAt8 (n : Fin 16) : Vec F S1x128x128 .f32 :=
  matAt r.arg22 (kernelRun0_A.sl.HS8_8 r.c r.i r.arg2 r.harg2 r.arg3 r.harg3 r.arg6 r.harg6 r.arg7 r.harg7 r.arg8 r.harg8 r.arg10 r.harg10 r.arg11 r.harg11 r.arg14 r.arg15 r.arg16 r.arg18 r.arg19 r.x0 r.x1 r.x4 r.x5 r.x6 r.x8 r.x9) n
def qgAt8 (n : Fin 16) : Vec F S1x128x128 .f32 :=
  matAt r.arg23 (kernelRun0_A.sl.HS9_8 r.c r.i r.arg2 r.harg2 r.arg6 r.harg6 r.arg7 r.harg7 r.arg10 r.harg10 r.arg11 r.harg11 r.arg14 r.arg15 r.arg19 r.x0 r.x4 r.x5 r.x8 r.x9) n
def ccAt8 (n : Fin 16) : Vec F S1x128x128 .f32 :=
  matAt r.arg24 (kernelRun0_A.sl.HS10_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def nnAt8 (n : Fin 16) : Vec F S1x128x128 .f32 :=
  matAt r.arg25 (kernelRun0_A.sl.HS11_8 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def elAt8 (n : Fin 16) : Vec F S1x8x128 .f32 :=
  rowAt r.arg26 (kernelRun0_A.sl.HS12_8 r.c r.i r.arg6 r.harg6 r.arg10 r.harg10 r.arg11 r.harg11 r.arg19 r.x4 r.x8 r.x9) n
def uAt16 (n : Fin 16) : Vec F S1x128x128 .f32 :=
  matAt r.arg20 (kernelRun0_A.sl.HS6_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def wAt16 (n : Fin 16) : Vec F S1x128x128 .f32 :=
  matAt r.arg21 (kernelRun0_A.sl.HS7_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def aAt16 (n : Fin 16) : Vec F S1x128x128 .f32 :=
  matAt r.arg22 (kernelRun0_A.sl.HS8_16 r.c r.i r.arg2 r.harg2 r.arg3 r.harg3 r.arg6 r.harg6 r.arg7 r.harg7 r.arg8 r.harg8 r.arg10 r.harg10 r.arg11 r.harg11 r.arg14 r.arg15 r.arg16 r.arg18 r.arg19 r.x0 r.x1 r.x4 r.x5 r.x6 r.x8 r.x9) n
def qgAt16 (n : Fin 16) : Vec F S1x128x128 .f32 :=
  matAt r.arg23 (kernelRun0_A.sl.HS9_16 r.c r.i r.arg2 r.harg2 r.arg6 r.harg6 r.arg7 r.harg7 r.arg10 r.harg10 r.arg11 r.harg11 r.arg14 r.arg15 r.arg19 r.x0 r.x4 r.x5 r.x8 r.x9) n
def ccAt16 (n : Fin 16) : Vec F S1x128x128 .f32 :=
  matAt r.arg24 (kernelRun0_A.sl.HS10_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def nnAt16 (n : Fin 16) : Vec F S1x128x128 .f32 :=
  matAt r.arg25 (kernelRun0_A.sl.HS11_16 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.x0 r.x1 r.x2 r.x4 r.x5 r.x6 r.x7 r.x8 r.x9) n
def elAt16 (n : Fin 16) : Vec F S1x8x128 .f32 :=
  rowAt r.arg26 (kernelRun0_A.sl.HS12_16 r.c r.i r.arg6 r.harg6 r.arg10 r.harg10 r.arg11 r.harg11 r.arg19 r.x4 r.x8 r.x9) n
/-- The state before chunk `n`, as the body names it. -/
def st : ℕ → FVec F S128x128 .f32
  | 0 => Word.nil
  | 1 => kernelRun0_A.sl.r_420 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 2 => kernelRun0_A.sl.r_454 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 3 => kernelRun0_A.sl.r_486 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 4 => kernelRun0_A.sl.r_510 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 5 => kernelRun0_A.sl.r_534 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 6 => kernelRun0_A.sl.r_567 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 7 => kernelRun0_A.sl.r_582 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 8 => kernelRun0_A.sl.r_586 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 9 => kernelRun0_A.sl.r_592 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 10 => kernelRun0_A.sl.r_596 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 11 => kernelRun0_A.sl.r_602 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 12 => kernelRun0_A.sl.r_608 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 13 => kernelRun0_A.sl.r_610 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 14 => kernelRun0_A.sl.r_616 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | 15 => kernelRun0_A.sl.r_622 r.c r.i r.arg2 r.harg2 r.arg3 r.harg3 r.arg4 r.harg4 r.arg6 r.harg6 r.arg7 r.harg7 r.arg8 r.harg8 r.arg9 r.harg9 r.arg10 r.harg10 r.arg11 r.harg11 r.arg14 r.arg15 r.arg16 r.arg17 r.arg18 r.arg19 r.arg21 r.arg23 r.arg24 r.arg25 r.arg26 r.x0 r.x1 r.x2 r.x4 r.x5 r.x6 r.x7 r.x8 r.x9
  | _ => Word.nil
/-- The output gain, and a chunk's gate rows. -/
def gain : Vec F S1x128 .f32 :=
  View.readAt (Elt F) r.arg12.view (Rect.unit (s := S1x128) ![0, 0] S1x128.size inb_S1x128_S1x128_0_0).toLoadRect (r.harg12.unread r.x10)
def z (n : Fin 16) : Vec F S1x128x128 .f32 := tapAt r.arg5 r.harg5 r.x3 (128 * n.val) (by omega)
/-- The output of chunk `n`, as computed from what is read back. -/
def outAt8 (n : Fin 16) : FVec F S1x128x128 .bf16 :=
  Word.outOf (Word.read (r.nnAt8 n) (r.wAt8 n) (r.qgAt8 n) (r.aAt8 n) (r.uAt8 n) (r.st n.val)) r.gain (r.z n)
def outAt16 (n : Fin 16) : FVec F S1x128x128 .bf16 :=
  Word.outOf (Word.read (r.nnAt16 n) (r.wAt16 n) (r.qgAt16 n) (r.aAt16 n) (r.uAt16 n) (r.st n.val)) r.gain (r.z n)

/-- Each state is one chunk of the recurrence from the state before. -/
theorem st_succ8 (n : Fin 6) : r.st (n.val + 1) = Word.next (r.nnAt8 (Fin.ofNat 16 n.val)) (r.wAt8 (Fin.ofNat 16 n.val))
    (r.qgAt8 (Fin.ofNat 16 n.val)) (r.ccAt8 (Fin.ofNat 16 n.val)) (r.elAt8 (Fin.ofNat 16 n.val)) (r.st n.val) := by
  match n with
  | 0 => rfl
  | 1 => rfl
  | 2 => rfl
  | 3 => rfl
  | 4 => rfl
  | 5 => rfl

/-- The state after a later chunk, from the state before it. -/
theorem st_succ16 (n : Fin 9) : r.st ((n.val + 6) + 1) = Word.next (r.nnAt16 (Fin.ofNat 16 (n.val + 6))) (r.wAt16 (Fin.ofNat 16 (n.val + 6)))
    (r.qgAt16 (Fin.ofNat 16 (n.val + 6))) (r.ccAt16 (Fin.ofNat 16 (n.val + 6))) (r.elAt16 (Fin.ofNat 16 (n.val + 6))) (r.st (n.val + 6)) := by
  match n with
  | 0 => rfl
  | 1 => rfl
  | 2 => rfl
  | 3 => rfl
  | 4 => rfl
  | 5 => rfl
  | 6 => rfl
  | 7 => rfl
  | 8 => rfl

/-- The output block, as stored. -/
theorem st_out : (kernelRun0_A r.c r.i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 r.arg14 r.harg14 r.arg15 r.harg15 r.arg16 r.harg16 r.arg17 r.harg17 r.arg18 r.harg18 r.arg19 r.harg19 r.arg20 r.harg20 r.arg21 r.harg21 r.arg22 r.harg22 r.arg23 r.harg23 r.arg24 r.harg24 r.arg25 r.harg25 r.arg26 r.harg26 r.x0 r.x1 r.x2 r.x3 r.x4 r.x5 r.x6 r.x7 r.x8 r.x9 r.x10).1
    = outsUp r.outAt16 (outs6 r.outAt8) := rfl

end Run

end Cert.Delta
-- ==== Proof.Dn.Readback.lean ====
module

public import proofs.«01_k».proof.Proof.Dn.Stores
public import Idealize.ShloMosaic.Lib.Pipeline.ReadBack

/-! A slab read back from the list of stores that wrote it is what was stored. -/

@[expose] public section

noncomputable section

namespace Cert.Delta

open Cert.KernelIdeal Cert.KernelIdeal.Gen Idealize.ShloMosaic Idealize.ShloMosaic.TcCoe

variable {F : FTy → Type} [FloatOps F]

/-- A matrix of the first eight, a matrix of all; the same for rows and for chunks of a sequence. -/
theorem matAt_mats8 (arg) (f : Fin 16 → Vec F S1x128x128 .f32) (n : Fin 16) (hn : n.val < 8) : matAt arg (mats8 f) n = f n := by
  simp only [matAt, mats8, List.cons_append, List.nil_append]
  fin_cases n <;> first
    | (exfalso; revert hn; decide)
    | ((try simp (disch := decide) only [↓ View.readCov_skip]); exact View.readCov_cons_toLoadRect arg.view _ _ _)

/-- All matrices stored, any one read back. -/
theorem matAt_mats16 (arg) (f : Fin 16 → Vec F S1x128x128 .f32) (n : Fin 16) : matAt arg (mats16 f) n = f n := by
  simp only [matAt, mats16, matsUp, mats8, List.cons_append, List.nil_append]
  fin_cases n <;> ((try simp (disch := decide) only [↓ View.readCov_skip]); exact View.readCov_cons_toLoadRect arg.view _ _ _)

/-- Eight rows stored, one of them read back. -/
theorem rowAt_rows8 (arg) (f : Fin 16 → Vec F S1x8x128 .f32) (n : Fin 16) (hn : n.val < 8) : rowAt arg (rows8 f) n = f n := by
  simp only [rowAt, rows8, List.cons_append, List.nil_append]
  fin_cases n <;> first
    | (exfalso; revert hn; decide)
    | ((try simp (disch := decide) only [↓ View.readCov_skip]); exact View.readCov_cons_toLoadRect arg.view _ _ _)

/-- All rows stored, any one read back. -/
theorem rowAt_rows16 (arg) (f : Fin 16 → Vec F S1x8x128 .f32) (n : Fin 16) : rowAt arg (rows16 f) n = f n := by
  simp only [rowAt, rows16, rowsUp, rows8, List.cons_append, List.nil_append]
  fin_cases n <;> ((try simp (disch := decide) only [↓ View.readCov_skip]); exact View.readCov_cons_toLoadRect arg.view _ _ _)

/-- The first nine chunks of a sequence stored, one of them read back. -/
theorem seqAt_seq9 (arg) (f : Fin 16 → Vec F S128x128 .f32) (n : Fin 16) (hn : n.val < 9) : seqAt arg (seq9 f) n = f n := by
  simp only [seqAt, seq9, List.cons_append, List.nil_append]
  fin_cases n <;> first
    | (exfalso; revert hn; decide)
    | ((try simp (disch := decide) only [↓ View.readCov_skip]); exact View.readCov_cons_toLoadRect arg.view _ _ _)

/-- All chunks of a sequence stored, any one read back. -/
theorem seqAt_seq16 (arg) (f : Fin 16 → Vec F S128x128 .f32) (n : Fin 16) : seqAt arg (seq16 f) n = f n := by
  simp only [seqAt, seq16, seqUp, seq9, List.cons_append, List.nil_append]
  fin_cases n <;> ((try simp (disch := decide) only [↓ View.readCov_skip]); exact View.readCov_cons_toLoadRect arg.view _ _ _)

/-- The lists depend only on the slabs that they hold. -/
theorem mats8_congr {f f' : Fin 16 → Vec F S1x128x128 .f32} (h : ∀ n : Fin 16, n.val < 8 → f n = f' n) : mats8 f = mats8 f' := by
  simp only [mats8, h 0 (by decide), h 1 (by decide), h 2 (by decide), h 3 (by decide), h 4 (by decide), h 5 (by decide), h 6 (by decide), h 7 (by decide)]
/-- Eight stored rows depend on those eight alone. -/
theorem rows8_congr {f f' : Fin 16 → Vec F S1x8x128 .f32} (h : ∀ n : Fin 16, n.val < 8 → f n = f' n) : rows8 f = rows8 f' := by
  simp only [rows8, h 0 (by decide), h 1 (by decide), h 2 (by decide), h 3 (by decide), h 4 (by decide), h 5 (by decide), h 6 (by decide), h 7 (by decide)]

namespace Run

variable (r : Run F)

/-- What a chunk's preparation computes from its queries, keys, values, write strengths and log-decays. -/
def u (n : Fin 16) : FVec F S1x128x128 .f32 := Word.left (Word.sol (r.q n) (r.k n) (r.v n) (r.β n) (r.g n))
def w (n : Fin 16) : FVec F S1x128x128 .f32 := Word.right (Word.sol (r.q n) (r.k n) (r.v n) (r.β n) (r.g n))
def a (n : Fin 16) : FVec F S1x128x128 .f32 := Word.aOf (r.q n) (r.k n) (r.β n) (r.g n)
def qg (n : Fin 16) : FVec F S1x128x128 .f32 := Word.qgOf (r.q n) (r.g n)
def cc (n : Fin 16) : FVec F S1x128x128 .f32 := Word.left (Word.cn (r.q n) (r.k n) (r.v n) (r.β n) (r.g n))
def nn (n : Fin 16) : FVec F S1x128x128 .f32 := Word.right (Word.cn (r.q n) (r.k n) (r.v n) (r.β n) (r.g n))
def el (n : Fin 16) : FVec F S1x8x128 .f32 := Word.elOf (r.g n)

/-- The stored queries (first stores) are the run's. -/
theorem qAt9_eq (n : Fin 16) (hn : n.val < 9) : r.qAt9 n = r.q n := by
  unfold qAt9; rw [r.st_q9]; exact seqAt_seq9 _ _ n hn
/-- The stored queries are the run's. -/
theorem qAt16_eq (n : Fin 16) : r.qAt16 n = r.q n := by
  unfold qAt16; rw [r.st_q16]; exact seqAt_seq16 _ _ n
/-- The stored keys (first stores) are the run's. -/
theorem kAt9_eq (n : Fin 16) (hn : n.val < 9) : r.kAt9 n = r.k n := by
  unfold kAt9; rw [r.st_k9]; exact seqAt_seq9 _ _ n hn
/-- The stored keys are the run's. -/
theorem kAt16_eq (n : Fin 16) : r.kAt16 n = r.k n := by
  unfold kAt16; rw [r.st_k16]; exact seqAt_seq16 _ _ n
/-- The stored values (first stores) are the run's. -/
theorem vAt9_eq (n : Fin 16) (hn : n.val < 9) : r.vAt9 n = r.v n := by
  unfold vAt9; rw [r.st_v9]; exact seqAt_seq9 _ _ n hn
/-- The stored values are the run's. -/
theorem vAt16_eq (n : Fin 16) : r.vAt16 n = r.v n := by
  unfold vAt16; rw [r.st_v16]; exact seqAt_seq16 _ _ n
/-- The stored write strengths are the run's. -/
theorem βAt_eq (n : Fin 16) : r.βAt n = r.β n := by
  unfold βAt; rw [r.st_β]; exact rowAt_rows16 _ _ n
/-- The stored summed decays are the run's. -/
theorem gAt_eq (n : Fin 16) : r.gAt n = r.g n := by
  unfold gAt; rw [r.st_g]; exact rowAt_rows16 _ _ n

/-- The stored corrected values (first stores) are the run's. -/
theorem uAt8_eq (n : Fin 16) (hn : n.val < 8) : r.uAt8 n = r.u n := by
  unfold uAt8
  rw [r.st_u8]
  exact (matAt_mats8 _ _ n hn).trans (by simp only [u, r.qAt9_eq n (by omega), r.kAt9_eq n (by omega), r.vAt9_eq n (by omega), r.βAt_eq n, r.gAt_eq n])
/-- The stored corrected values are the run's. -/
theorem uAt16_eq (n : Fin 16) : r.uAt16 n = r.u n := by
  unfold uAt16
  rw [r.st_u16, r.st_u8, mats8_congr (f' := r.u) fun n hn => by simp only [u, r.qAt9_eq n (by omega), r.kAt9_eq n (by omega), r.vAt9_eq n (by omega), r.βAt_eq n, r.gAt_eq n]]
  simp only [r.qAt16_eq, r.kAt16_eq, r.vAt16_eq, r.βAt_eq, r.gAt_eq]
  exact matAt_mats16 _ r.u n

/-- The stored corrected keys (first stores) are the run's. -/
theorem wAt8_eq (n : Fin 16) (hn : n.val < 8) : r.wAt8 n = r.w n := by
  unfold wAt8
  rw [r.st_w8]
  exact (matAt_mats8 _ _ n hn).trans (by simp only [w, r.qAt9_eq n (by omega), r.kAt9_eq n (by omega), r.vAt9_eq n (by omega), r.βAt_eq n, r.gAt_eq n])
/-- The stored corrected keys are the run's. -/
theorem wAt16_eq (n : Fin 16) : r.wAt16 n = r.w n := by
  unfold wAt16
  rw [r.st_w16, r.st_w8, mats8_congr (f' := r.w) fun n hn => by simp only [w, r.qAt9_eq n (by omega), r.kAt9_eq n (by omega), r.vAt9_eq n (by omega), r.βAt_eq n, r.gAt_eq n]]
  simp only [r.qAt16_eq, r.kAt16_eq, r.vAt16_eq, r.βAt_eq, r.gAt_eq]
  exact matAt_mats16 _ r.w n

/-- The stored attention matrices (first stores) are the run's. -/
theorem aAt8_eq (n : Fin 16) (hn : n.val < 8) : r.aAt8 n = r.a n := by
  unfold aAt8
  rw [r.st_a8]
  exact (matAt_mats8 _ _ n hn).trans (by simp only [a, r.qAt9_eq n (by omega), r.kAt9_eq n (by omega), r.βAt_eq n, r.gAt_eq n])
/-- The stored attention matrices are the run's. -/
theorem aAt16_eq (n : Fin 16) : r.aAt16 n = r.a n := by
  unfold aAt16
  rw [r.st_a16, r.st_a8, mats8_congr (f' := r.a) fun n hn => by simp only [a, r.qAt9_eq n (by omega), r.kAt9_eq n (by omega), r.βAt_eq n, r.gAt_eq n]]
  simp only [r.qAt16_eq, r.kAt16_eq, r.βAt_eq, r.gAt_eq]
  exact matAt_mats16 _ r.a n

/-- The stored decayed queries (first stores) are the run's. -/
theorem qgAt8_eq (n : Fin 16) (hn : n.val < 8) : r.qgAt8 n = r.qg n := by
  unfold qgAt8
  rw [r.st_qg8]
  exact (matAt_mats8 _ _ n hn).trans (by simp only [qg, r.qAt9_eq n (by omega), r.gAt_eq n])
/-- The stored decayed queries are the run's. -/
theorem qgAt16_eq (n : Fin 16) : r.qgAt16 n = r.qg n := by
  unfold qgAt16
  rw [r.st_qg16, r.st_qg8, mats8_congr (f' := r.qg) fun n hn => by simp only [qg, r.qAt9_eq n (by omega), r.gAt_eq n]]
  simp only [r.qAt16_eq, r.gAt_eq]
  exact matAt_mats16 _ r.qg n

/-- The stored additions to the state (first stores) are the run's. -/
theorem ccAt8_eq (n : Fin 16) (hn : n.val < 8) : r.ccAt8 n = r.cc n := by
  unfold ccAt8
  rw [r.st_cc8]
  exact (matAt_mats8 _ _ n hn).trans (by simp only [cc, r.qAt9_eq n (by omega), r.kAt9_eq n (by omega), r.vAt9_eq n (by omega), r.βAt_eq n, r.gAt_eq n])
/-- The stored additions to the state are the run's. -/
theorem ccAt16_eq (n : Fin 16) : r.ccAt16 n = r.cc n := by
  unfold ccAt16
  rw [r.st_cc16, r.st_cc8, mats8_congr (f' := r.cc) fun n hn => by simp only [cc, r.qAt9_eq n (by omega), r.kAt9_eq n (by omega), r.vAt9_eq n (by omega), r.βAt_eq n, r.gAt_eq n]]
  simp only [r.qAt16_eq, r.kAt16_eq, r.vAt16_eq, r.βAt_eq, r.gAt_eq]
  exact matAt_mats16 _ r.cc n

/-- The stored matrices that act on the state (first stores) are the run's. -/
theorem nnAt8_eq (n : Fin 16) (hn : n.val < 8) : r.nnAt8 n = r.nn n := by
  unfold nnAt8
  rw [r.st_nn8]
  exact (matAt_mats8 _ _ n hn).trans (by simp only [nn, r.qAt9_eq n (by omega), r.kAt9_eq n (by omega), r.vAt9_eq n (by omega), r.βAt_eq n, r.gAt_eq n])
/-- The stored matrices that act on the state are the run's. -/
theorem nnAt16_eq (n : Fin 16) : r.nnAt16 n = r.nn n := by
  unfold nnAt16
  rw [r.st_nn16, r.st_nn8, mats8_congr (f' := r.nn) fun n hn => by simp only [nn, r.qAt9_eq n (by omega), r.kAt9_eq n (by omega), r.vAt9_eq n (by omega), r.βAt_eq n, r.gAt_eq n]]
  simp only [r.qAt16_eq, r.kAt16_eq, r.vAt16_eq, r.βAt_eq, r.gAt_eq]
  exact matAt_mats16 _ r.nn n

/-- The stored whole-chunk decays (first stores) are the run's. -/
theorem elAt8_eq (n : Fin 16) (hn : n.val < 8) : r.elAt8 n = r.el n := by
  unfold elAt8
  rw [r.st_el8]
  exact (rowAt_rows8 _ _ n hn).trans (by simp only [el, r.gAt_eq n])
/-- The stored whole-chunk decays are the run's. -/
theorem elAt16_eq (n : Fin 16) : r.elAt16 n = r.el n := by
  unfold elAt16
  rw [r.st_el16, r.st_el8, rows8_congr (f' := r.el) fun n hn => by simp only [el, r.gAt_eq n]]
  simp only [r.gAt_eq]
  exact rowAt_rows16 _ r.el n

/-- The state before chunk `n`. -/
def state : ℕ → FVec F S128x128 .f32
  | 0 => Word.nil
  | n + 1 => Word.next (r.nn (Fin.ofNat 16 n)) (r.w (Fin.ofNat 16 n)) (r.qg (Fin.ofNat 16 n)) (r.cc (Fin.ofNat 16 n))
      (r.el (Fin.ofNat 16 n)) (state n)

/-- The body's states are these. -/
theorem st_eq : ∀ n : ℕ, n < 16 → r.st n = r.state n
  | 0, _ => rfl
  | n + 1, h => by
    rw [state, ← st_eq n (by omega)]
    by_cases h6 : n < 6
    · have e := r.st_succ8 ⟨n, h6⟩
      have hv : (Fin.ofNat 16 n).val < 8 := by simp only [Fin.ofNat]; omega
      simp only [r.nnAt8_eq _ hv, r.wAt8_eq _ hv, r.qgAt8_eq _ hv, r.ccAt8_eq _ hv, r.elAt8_eq _ hv] at e
      exact e
    · have e := r.st_succ16 ⟨n - 6, by omega⟩
      simp only [r.nnAt16_eq, r.wAt16_eq, r.qgAt16_eq, r.ccAt16_eq, r.elAt16_eq, Nat.sub_add_cancel (Nat.le_of_not_lt h6)] at e
      exact e

/-- The output of chunk `n`. -/
def out (n : Fin 16) : FVec F S1x128x128 .bf16 :=
  Word.outOf (Word.read (r.nn n) (r.w n) (r.qg n) (r.a n) (r.u n) (r.state n.val)) r.gain (r.z n)

/-- The stored outputs (first stores) are the run's. -/
theorem outAt8_eq (n : Fin 16) (hn : n.val < 8) : r.outAt8 n = r.out n := by
  simp only [outAt8, out, r.nnAt8_eq n hn, r.wAt8_eq n hn, r.qgAt8_eq n hn, r.aAt8_eq n hn, r.uAt8_eq n hn, r.st_eq n.val n.isLt]
/-- The stored outputs are the run's. -/
theorem outAt16_eq (n : Fin 16) : r.outAt16 n = r.out n := by
  simp only [outAt16, out, r.nnAt16_eq, r.wAt16_eq, r.qgAt16_eq, r.aAt16_eq, r.uAt16_eq, r.st_eq n.val n.isLt]

/-- The output block's stores: chunk by chunk, the recurrence over the chunks. -/
theorem stores_out : (kernelRun0_A r.c r.i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 r.arg14 r.harg14 r.arg15 r.harg15 r.arg16 r.harg16 r.arg17 r.harg17 r.arg18 r.harg18 r.arg19 r.harg19 r.arg20 r.harg20 r.arg21 r.harg21 r.arg22 r.harg22 r.arg23 r.harg23 r.arg24 r.harg24 r.arg25 r.harg25 r.arg26 r.harg26 r.x0 r.x1 r.x2 r.x3 r.x4 r.x5 r.x6 r.x7 r.x8 r.x9 r.x10).1 = outsUp r.out (outs6 r.out) := by
  rw [r.st_out]
  simp only [outsUp, outs6, outAt16_eq, r.outAt8_eq 0 (by decide), r.outAt8_eq 1 (by decide), r.outAt8_eq 2 (by decide),
    r.outAt8_eq 3 (by decide), r.outAt8_eq 4 (by decide), r.outAt8_eq 5 (by decide)]

end Run

end Cert.Delta
-- ==== Proof.Dn.Inverse.lean ====
module

public import Mathlib.Data.Matrix.Mul
public import Mathlib.LinearAlgebra.Matrix.NonsingularInverse
public import Mathlib.Data.Real.Basic
public import Mathlib.Tactic.NoncommRing

/-! The inverse of a unit lower triangular matrix, built as the kernel builds it: on the diagonal blocks of
    32 by the doubling of a Neumann series, then by joining neighbouring blocks, 32 to 64 and 64 to 128. -/

@[expose] public section

noncomputable section

namespace Cert.Delta

open scoped BigOperators

/-- The square matrices of a chunk. -/
abbrev Mat : Type := Matrix (Fin 128) (Fin 128) ℝ

/-- The matrix is zero outside its diagonal blocks of `b`. -/
def SameBlk (b : ℕ) (M : Mat) : Prop := ∀ i j, i.val / b ≠ j.val / b → M i j = 0

/-- The matrix is zero but in the lower left quarters of its diagonal blocks of `2 b`. -/
def Below (b : ℕ) (M : Mat) : Prop :=
  ∀ i j, M i j ≠ 0 → i.val / (2 * b) = j.val / (2 * b) ∧ i.val / b ≠ j.val / b ∧ j.val < i.val

/-- The identity is block diagonal. -/
theorem SameBlk.one (b : ℕ) : SameBlk b 1 := fun i j h =>
  Matrix.one_apply_ne fun e => h (by rw [e])

/-- Block diagonal matrices are closed under sums. -/
theorem SameBlk.add {b : ℕ} {M N : Mat} (hM : SameBlk b M) (hN : SameBlk b N) : SameBlk b (M + N) :=
  fun i j h => by rw [Matrix.add_apply, hM i j h, hN i j h, add_zero]

/-- Block diagonal matrices are closed under differences. -/
theorem SameBlk.sub {b : ℕ} {M N : Mat} (hM : SameBlk b M) (hN : SameBlk b N) : SameBlk b (M - N) :=
  fun i j h => by rw [Matrix.sub_apply, hM i j h, hN i j h, sub_zero]

/-- Block diagonal matrices are closed under products. -/
theorem SameBlk.mul {b : ℕ} {M N : Mat} (hM : SameBlk b M) (hN : SameBlk b N) : SameBlk b (M * N) :=
  fun i j h => by
    rw [Matrix.mul_apply]
    refine Finset.sum_eq_zero fun k _ => ?_
    by_cases hik : i.val / b = k.val / b
    · rw [hN k j (fun e => h (hik.trans e)), mul_zero]
    · rw [hM i k hik, zero_mul]

/-- A block diagonal matrix is block diagonal in blocks of twice the size. -/
theorem SameBlk.double {b : ℕ} {M : Mat} (hM : SameBlk b M) : SameBlk (2 * b) M :=
  fun i j h => hM i j fun e => h (by
    rw [mul_comm, ← Nat.div_div_eq_div_mul, ← Nat.div_div_eq_div_mul, e])

/-- A matrix below the blocks of `b` lies in the blocks of `2 b`. -/
theorem Below.sameBlk {b : ℕ} {B : Mat} (hB : Below b B) : SameBlk (2 * b) B :=
  fun i j h => by
    by_contra hne
    exact h (hB i j hne).1

/-- In a matrix below the blocks of `b`, rows lie in odd blocks and columns in even ones. -/
theorem Below.parity {b : ℕ} {B : Mat} (hB : Below b B) {i j : Fin 128} (h : B i j ≠ 0) :
    i.val / b % 2 = 1 ∧ j.val / b % 2 = 0 := by
  obtain ⟨h1, h2, h3⟩ := hB i j h
  rw [mul_comm, ← Nat.div_div_eq_div_mul, ← Nat.div_div_eq_div_mul] at h1
  have h4 : j.val / b ≤ i.val / b := Nat.div_le_div_right h3.le
  omega

/-- Between two matrices below the blocks, a block diagonal matrix gives zero. -/
theorem below_mul_below {b : ℕ} {B x : Mat} (hB : Below b B) (hx : SameBlk b x) : B * (x * B) = 0 := by
  ext i j
  rw [Matrix.mul_apply]
  refine Finset.sum_eq_zero fun k _ => ?_
  rw [Matrix.mul_apply, Finset.mul_sum]
  refine Finset.sum_eq_zero fun l _ => ?_
  by_cases h1 : B i k = 0
  · rw [h1, zero_mul]
  by_cases h2 : B l j = 0
  · rw [h2, mul_zero, mul_zero]
  have := (hB.parity h1).2
  have h5 := (hB.parity h2).1
  rw [hx k l (fun e => by omega), zero_mul, mul_zero]

/-- Joining neighbouring blocks: from the inverse on the blocks of `b` to that on the blocks of `2 b`. -/
theorem merge_inv {b : ℕ} {L B x : Mat} (hB : Below b B) (hx : SameBlk b x) (h : (1 + L) * x = 1) :
    (1 + (L + B)) * (x - x * (B * x)) = 1 := by
  have h0 : B * (x * (B * x)) = 0 := by
    have := below_mul_below hB hx
    calc B * (x * (B * x)) = B * (x * B) * x := by noncomm_ring
      _ = 0 := by rw [this, zero_mul]
  calc (1 + (L + B)) * (x - x * (B * x))
      = (1 + L) * x - ((1 + L) * x) * (B * x) + (B * x - B * (x * (B * x))) := by noncomm_ring
    _ = 1 := by rw [h, h0, one_mul]; abel

/-- A matrix strictly lower triangular within blocks of 32 has a vanishing 32nd power. -/
theorem pow_eq_zero_of_strict {l : Mat} (h : ∀ i j, l i j ≠ 0 → j.val < i.val ∧ i.val / 32 = j.val / 32) :
    l ^ 32 = 0 := by
  have key : ∀ p : ℕ, ∀ i j, (l ^ p) i j ≠ 0 → j.val + p ≤ i.val ∧ i.val / 32 = j.val / 32 := by
    intro p
    induction p with
    | zero =>
      intro i j hne
      rw [pow_zero] at hne
      have : i = j := by
        by_contra hij
        exact hne (Matrix.one_apply_ne hij)
      subst this
      exact ⟨by omega, rfl⟩
    | succ p ih =>
      intro i j hne
      rw [pow_succ, Matrix.mul_apply] at hne
      obtain ⟨k, _, hk⟩ := Finset.exists_ne_zero_of_sum_ne_zero hne
      have h1 := ih i k (left_ne_zero_of_mul hk)
      have h2 := h k j (right_ne_zero_of_mul hk)
      omega
  ext i j
  by_contra hne
  have := key 32 i j hne
  omega

/-- The doubling of the Neumann series on the blocks of 32. -/
def neumann (l : Mat) : Mat :=
  let m2 := l * l
  let m4 := m2 * m2
  let m8 := m4 * m4
  let m16 := m8 * m8
  let x0 := 1 - l
  let x1 := x0 + x0 * m2
  let x2 := x1 + x1 * m4
  let x3 := x2 + x2 * m8
  x3 + x3 * m16

/-- The doubled Neumann series is the inverse. -/
theorem neumann_inv {l : Mat} (h : l ^ 32 = 0) : (1 + l) * neumann l = 1 := by
  have e : (1 + l) * neumann l = 1 - l ^ 32 := by
    unfold neumann
    noncomm_ring
  rw [e, h, sub_zero]

/-- The doubled Neumann series of a block diagonal matrix is block diagonal. -/
theorem neumann_sameBlk {b : ℕ} {l : Mat} (h : SameBlk b l) : SameBlk b (neumann l) := by
  have m2 := h.mul h
  have m4 := m2.mul m2
  have m8 := m4.mul m4
  have m16 := m8.mul m8
  have x0 := (SameBlk.one b).sub h
  have x1 := x0.add (x0.mul m2)
  have x2 := x1.add (x1.mul m4)
  have x3 := x2.add (x2.mul m8)
  exact x3.add (x3.mul m16)

/-- The part of a matrix in its diagonal blocks of `b`. -/
def inBlk (b : ℕ) (L : Mat) : Mat := fun i j => if i.val / b = j.val / b then L i j else 0

/-- The part of a matrix in its diagonal blocks of `2 b` but outside those of `b`. -/
def between (b : ℕ) (L : Mat) : Mat :=
  fun i j => if i.val / (2 * b) = j.val / (2 * b) ∧ ¬ i.val / b = j.val / b then L i j else 0

/-- The inverse as the kernel builds it. -/
def inverse (L : Mat) : Mat :=
  let x0 := neumann (inBlk 32 L)
  let x1 := x0 - x0 * (between 32 L * x0)
  x1 - x1 * (between 64 L * x1)

/-- The blocks of `2 b` are those of `b` and what lies between. -/
theorem inBlk_add_between (b : ℕ) (L : Mat) : inBlk b L + between b L = inBlk (2 * b) L := by
  ext i j
  rw [Matrix.add_apply]
  unfold inBlk between
  by_cases h : i.val / b = j.val / b
  · have : i.val / (2 * b) = j.val / (2 * b) := by
      rw [mul_comm, ← Nat.div_div_eq_div_mul, ← Nat.div_div_eq_div_mul, h]
    simp [h, this]
  · simp [h]

/-- The kernel's construction inverts `1 + L` for a strictly lower triangular `L`. -/
theorem inverse_inv {L : Mat} (h : ∀ i j, L i j ≠ 0 → j.val < i.val) : (1 + L) * inverse L = 1 := by
  have hs : ∀ b, SameBlk b (inBlk b L) := fun b i j hne => by
    unfold inBlk; rw [if_neg hne]
  have hb : ∀ b, Below b (between b L) := fun b i j hne => by
    unfold between at hne
    split at hne
    · rename_i hc; exact ⟨hc.1, hc.2, h i j hne⟩
    · exact absurd rfl hne
  have hn : (inBlk 32 L) ^ 32 = 0 := pow_eq_zero_of_strict fun i j hne => by
    unfold inBlk at hne
    split at hne
    · rename_i hc; exact ⟨h i j hne, hc⟩
    · exact absurd rfl hne
  have s0 : SameBlk 32 (neumann (inBlk 32 L)) := neumann_sameBlk (hs 32)
  have i0 := neumann_inv hn
  have i1 := merge_inv (hb 32) s0 i0
  rw [inBlk_add_between] at i1
  have s1 : SameBlk 64 (neumann (inBlk 32 L) - neumann (inBlk 32 L) * (between 32 L * neumann (inBlk 32 L))) :=
    s0.double.sub (s0.double.mul ((hb 32).sameBlk.mul s0.double))
  have i2 := merge_inv (hb 64) s1 i1
  rw [inBlk_add_between] at i2
  have e : inBlk (2 * 64) L = L := by
    ext i j
    unfold inBlk
    rw [if_pos]
    have := i.isLt; have := j.isLt
    omega
  rw [e] at i2
  exact i2

/-- The inverse stands on either side. -/
theorem inv_inverse {L : Mat} (h : ∀ i j, L i j ≠ 0 → j.val < i.val) : inverse L * (1 + L) = 1 :=
  mul_eq_one_comm.mp (inverse_inv h)

end Cert.Delta

end
-- ==== Proof.Dn.Chunk.lean ====
module

public import proofs.«01_k».proof.Proof.Dn.Inverse
public import Mathlib.Analysis.SpecialFunctions.Exp
public import Mathlib.Tactic.Ring

/-! The gated delta rule token by token, and a chunk of 128 tokens of it at once. -/

@[expose] public section

noncomputable section

namespace Cert.Delta

open scoped BigOperators

/-- One head's inputs of the recurrence: queries, keys, values, log-decays and write strengths, by token. -/
structure Seq where
  q : ℕ → Fin 128 → ℝ
  k : ℕ → Fin 128 → ℝ
  v : ℕ → Fin 128 → ℝ
  g : ℕ → ℝ
  β : ℕ → ℝ

namespace Seq

variable (s : Seq)

/-- What a token writes, from the state before it. -/
def deltaOf (t : ℕ) (S : Mat) : Fin 128 → ℝ :=
  fun e => s.β t * (s.v t e - ∑ d, s.k t d * (S d e * Real.exp (s.g t)))

/-- The state before token `t`. -/
def state : ℕ → Mat
  | 0 => 0
  | t + 1 => fun d e => state t d e * Real.exp (s.g t) + s.k t d * s.deltaOf t (state t) e

/-- What token `t` writes. -/
def delta (t : ℕ) : Fin 128 → ℝ := s.deltaOf t (s.state t)

/-- The output at token `t`. -/
def out (t : ℕ) : Fin 128 → ℝ := fun e => ∑ d, s.q t d * s.state (t + 1) d e

/-- The state after one token. -/
theorem state_succ (t : ℕ) (d e : Fin 128) :
    s.state (t + 1) d e = s.state t d e * Real.exp (s.g t) + s.k t d * s.delta t e := rfl

/-- The log-decay summed over the first `i` tokens from `t0` on. -/
def cum (t0 i : ℕ) : ℝ := ∑ j ∈ Finset.range i, s.g (t0 + j)

/-- One more token in the summed log-decay. -/
theorem cum_succ (t0 i : ℕ) : s.cum t0 (i + 1) = s.cum t0 i + s.g (t0 + i) := Finset.sum_range_succ _ _

/-- The state `i` tokens on, from the state at `t0` and what was written since. -/
theorem state_add (t0 i : ℕ) (d e : Fin 128) :
    s.state (t0 + i) d e = s.state t0 d e * Real.exp (s.cum t0 i)
      + ∑ j ∈ Finset.range i, Real.exp (s.cum t0 i - s.cum t0 (j + 1)) * (s.k (t0 + j) d * s.delta (t0 + j) e) := by
  induction i with
  | zero => simp [cum]
  | succ i ih =>
    rw [← add_assoc, state_succ, ih, Finset.sum_range_succ, sub_self, Real.exp_zero, one_mul, cum_succ, Real.exp_add,
      add_mul, Finset.sum_mul, ← add_assoc, mul_assoc]
    congr 2
    refine Finset.sum_congr rfl fun j _ => ?_
    rw [show s.cum t0 i + s.g (t0 + i) - s.cum t0 (j + 1) = (s.cum t0 i - s.cum t0 (j + 1)) + s.g (t0 + i) by ring,
      Real.exp_add]
    ring

/-- A sum over the tokens before `i` of a chunk, as a sum over the whole chunk with the rest masked. -/
theorem sum_range_masked (n : ℕ) (hn : n ≤ 128) (f : ℕ → ℝ) :
    ∑ j ∈ Finset.range n, f j = ∑ j : Fin 128, if j.val < n then f j.val else 0 := by
  rw [Fin.sum_univ_eq_sum_range (fun j => if j < n then f j else 0) 128, ← Finset.sum_filter]
  congr 1
  ext j
  simp only [Finset.mem_range, Finset.mem_filter]
  omega

variable (t0 : ℕ)

/-- The summed log-decay through token `i` of the chunk. -/
def gc (i : Fin 128) : ℝ := s.cum t0 (i.val + 1)

/-- The decay between two tokens of the chunk, as the kernel caps it. -/
def decay (i j : Fin 128) : ℝ := if j.val ≤ i.val then Real.exp (min (s.gc t0 i - s.gc t0 j) 0) else 0

/-- The keys of the chunk. -/
def K : Mat := fun i d => s.k (t0 + i.val) d

/-- The keys of the chunk by their write strengths. -/
def Kb : Mat := fun i d => s.k (t0 + i.val) d * s.β (t0 + i.val)

/-- The values of the chunk by their write strengths. -/
def Vb : Mat := fun i e => s.v (t0 + i.val) e * s.β (t0 + i.val)

/-- The strictly lower triangular matrix of the chunk. -/
def L : Mat := fun i j => if j.val < i.val then (∑ d, s.Kb t0 i d * s.K t0 j d) * s.decay t0 i j else 0

/-- The attention within the chunk. -/
def A : Mat := fun i j => if j.val ≤ i.val then (∑ d, s.q (t0 + i.val) d * s.K t0 j d) * s.decay t0 i j else 0

/-- The keys that read the state at the chunk's start. -/
def Ke : Mat := fun i d => s.Kb t0 i d * Real.exp (s.gc t0 i)

/-- The queries that read the state at the chunk's start. -/
def Qe : Mat := fun i d => s.q (t0 + i.val) d * Real.exp (s.gc t0 i)

/-- The summed log-decay of the whole chunk. -/
def gl : ℝ := s.gc t0 ⟨127, by omega⟩

/-- The keys decayed to the chunk's end, transposed. -/
def Kd : Mat := fun d i => s.k (t0 + i.val) d * Real.exp (s.gl t0 - s.gc t0 i)

/-- The writes that don't depend on the state. -/
def U : Mat := inverse (s.L t0) * s.Vb t0

/-- The reads of the state in the writes. -/
def W : Mat := inverse (s.L t0) * s.Ke t0

/-- With log-decays that aren't positive the cap does nothing. -/
theorem decay_eq (hg : ∀ t, s.g t ≤ 0) {i j : Fin 128} (h : j.val ≤ i.val) :
    s.decay t0 i j = Real.exp (s.gc t0 i - s.gc t0 j) := by
  unfold decay
  rw [if_pos h, min_eq_left]
  have : s.cum t0 (i.val + 1) ≤ s.cum t0 (j.val + 1) := by
    unfold cum
    obtain ⟨n, hn⟩ := Nat.exists_eq_add_of_le h
    rw [show i.val + 1 = (j.val + 1) + n by omega, Finset.sum_range_add]
    have : ∑ x ∈ Finset.range n, s.g (t0 + (j.val + 1 + x)) ≤ 0 := Finset.sum_nonpos fun x _ => hg _
    linarith
  unfold gc
  linarith

/-- The writes of the chunk. -/
def D : Mat := fun i e => s.delta (t0 + i.val) e

/-- The chunk's writes solve the triangular system. -/
theorem system (hg : ∀ t, s.g t ≤ 0) : (1 + s.L t0) * s.D t0 = s.Vb t0 - s.Ke t0 * s.state t0 := by
  ext i e
  rw [add_mul, one_mul, Matrix.add_apply, Matrix.sub_apply, Matrix.mul_apply, Matrix.mul_apply]
  have h1 : s.D t0 i e = s.β (t0 + i.val) * (s.v (t0 + i.val) e
      - ∑ d, s.k (t0 + i.val) d * (s.state (t0 + i.val) d e * Real.exp (s.g (t0 + i.val)))) := rfl
  have h2 : ∀ d, s.state (t0 + i.val) d e * Real.exp (s.g (t0 + i.val))
      = s.state t0 d e * Real.exp (s.gc t0 i)
        + ∑ j : Fin 128, (if j.val < i.val then
            Real.exp (s.gc t0 i - s.gc t0 j) * (s.K t0 j d * s.D t0 j e) else 0) := by
    intro d
    rw [state_add, sum_range_masked _ i.isLt.le (fun j =>
      Real.exp (s.cum t0 i.val - s.cum t0 (j + 1)) * (s.k (t0 + j) d * s.delta (t0 + j) e)), add_mul, Finset.sum_mul]
    have hgc : s.gc t0 i = s.cum t0 i.val + s.g (t0 + i.val) := s.cum_succ t0 i.val
    congr 1
    · rw [hgc, Real.exp_add]; ring
    · refine Finset.sum_congr rfl fun j _ => ?_
      split
      · rw [hgc, show s.cum t0 i.val + s.g (t0 + i.val) - s.gc t0 j
          = (s.cum t0 i.val - s.cum t0 (j.val + 1)) + s.g (t0 + i.val) by unfold gc; ring, Real.exp_add]
        unfold K D
        ring
      · ring
  have h3 : ∑ j, s.L t0 i j * s.D t0 j e = s.β (t0 + i.val) * ∑ d, s.k (t0 + i.val) d *
      ∑ j : Fin 128, (if j.val < i.val then
        Real.exp (s.gc t0 i - s.gc t0 j) * (s.K t0 j d * s.D t0 j e) else 0) := by
    simp only [Finset.mul_sum]
    rw [Finset.sum_comm]
    refine Finset.sum_congr rfl fun j _ => ?_
    unfold L
    split
    · rename_i hlt
      rw [s.decay_eq t0 hg hlt.le, Finset.sum_mul, Finset.sum_mul]
      refine Finset.sum_congr rfl fun d _ => ?_
      unfold Kb
      ring
    · simp
  have h4 : ∑ d, s.Ke t0 i d * s.state t0 d e
      = s.β (t0 + i.val) * ∑ d, s.k (t0 + i.val) d * (s.state t0 d e * Real.exp (s.gc t0 i)) := by
    rw [Finset.mul_sum]
    refine Finset.sum_congr rfl fun d _ => ?_
    unfold Ke Kb
    ring
  rw [h3, h4, h1]
  simp only [h2, mul_add, Finset.sum_add_distrib]
  unfold Vb
  ring

/-- The chunk's `L` is strictly lower triangular. -/
theorem L_strict (i j : Fin 128) (h : s.L t0 i j ≠ 0) : j.val < i.val := by
  unfold L at h
  split at h
  · assumption
  · exact absurd rfl h

/-- The chunk's writes, solved. -/
theorem D_eq (hg : ∀ t, s.g t ≤ 0) : s.D t0 = s.U t0 - s.W t0 * s.state t0 := by
  have h := congrArg (inverse (s.L t0) * ·) (s.system t0 hg)
  simp only [← mul_assoc, inv_inverse (s.L_strict t0), one_mul] at h
  rw [h, mul_sub, U, W, mul_assoc]

/-- The state after the chunk. -/
theorem state_chunk (hg : ∀ t, s.g t ≤ 0) (d e : Fin 128) :
    s.state (t0 + 128) d e = s.state t0 d e * Real.exp (s.gl t0) + (s.Kd t0 * s.U t0) d e
      - ((s.Kd t0 * s.W t0) * s.state t0) d e := by
  have h1 : (s.Kd t0 * s.D t0) d e = (s.Kd t0 * s.U t0) d e - ((s.Kd t0 * s.W t0) * s.state t0) d e := by
    rw [s.D_eq t0 hg, mul_sub, mul_assoc, Matrix.sub_apply]
  rw [add_sub_assoc, ← h1, state_add, sum_range_masked _ le_rfl (fun j =>
      Real.exp (s.cum t0 128 - s.cum t0 (j + 1)) * (s.k (t0 + j) d * s.delta (t0 + j) e)), Matrix.mul_apply]
  congr 1
  refine Finset.sum_congr rfl fun j _ => ?_
  rw [if_pos j.isLt]
  unfold Kd D gl gc
  ring

/-- The output at a token of the chunk. -/
theorem out_chunk (hg : ∀ t, s.g t ≤ 0) (i e : Fin 128) :
    s.out (t0 + i.val) e = (s.Qe t0 * s.state t0) i e + (s.A t0 * (s.U t0 - s.W t0 * s.state t0)) i e := by
  rw [← s.D_eq t0 hg, Matrix.mul_apply, Matrix.mul_apply]
  unfold out
  have h2 : ∀ d, s.state (t0 + i.val + 1) d e
      = s.state t0 d e * Real.exp (s.gc t0 i)
        + ∑ j : Fin 128, (if j.val ≤ i.val then
            Real.exp (s.gc t0 i - s.gc t0 j) * (s.K t0 j d * s.D t0 j e) else 0) := by
    intro d
    rw [add_assoc, state_add, sum_range_masked _ i.isLt (fun j =>
      Real.exp (s.cum t0 (i.val + 1) - s.cum t0 (j + 1)) * (s.k (t0 + j) d * s.delta (t0 + j) e))]
    congr 1
    refine Finset.sum_congr rfl fun j _ => ?_
    simp only [Nat.lt_succ_iff]
    rfl
  simp only [h2, mul_add, Finset.sum_add_distrib]
  congr 1
  · refine Finset.sum_congr rfl fun d _ => ?_
    unfold Qe
    ring
  · simp only [Finset.mul_sum]
    rw [Finset.sum_comm]
    refine Finset.sum_congr rfl fun j _ => ?_
    unfold A
    split
    · rename_i hle
      rw [s.decay_eq t0 hg hle, Finset.sum_mul, Finset.sum_mul]
      refine Finset.sum_congr rfl fun d _ => ?_
      ring
    · simp

end Seq

end Cert.Delta

end
-- ==== Proof.Dn.Mats.lean ====
module

public import proofs.«01_k».proof.Proof.Dn.Words
public import proofs.«01_k».proof.Proof.Dn.Chunk
public import Idealize.ShloMosaic.Lib.Pointwise

/-! The words of a chunk over the extended reals: on real entries each is the real matrix that the chunked
    delta rule names. -/

@[expose] public section

noncomputable section

namespace Cert.Delta

open Cert.KernelIdeal Cert.KernelIdeal.Gen Idealize.ShloMosaic Idealize.ShloMosaic.TcCoe
open scoped BigOperators

/-! ## Reals among the extended reals -/

/-- A sum of reals. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- The smaller and the larger of two reals. -/
theorem coe_min (a b : ℝ) : ((min a b : ℝ) : EReal) = min (a : EReal) b := EReal.coe_strictMono.monotone.map_min
/-- The larger of two reals, among the extended reals. -/
theorem coe_max (a b : ℝ) : ((max a b : ℝ) : EReal) = max (a : EReal) b := EReal.coe_strictMono.monotone.map_max

/-- A choice between two reals. -/
theorem coe_ite (p : Prop) [Decidable p] (a b : ℝ) : (((if p then a else b : ℝ)) : EReal) = if p then (a : EReal) else b := by
  split <;> rfl

/-! ## The masks -/

/-- A choice by a bit that says whether `p` holds. -/
theorem select_ite {α : Type} (p : Prop) [Decidable p] (a b : α) :
    Scalar.select (if p then 1#1 else 0#1) a b = if p then a else b := by
  unfold Scalar.select
  split <;> rfl

/-- Comparing a row number with a column number. -/
theorem sge_eq : ∀ i j : Fin 128, IntOp.cmpi .sge (BitVec.ofNat 32 i.val) (BitVec.ofNat 32 j.val)
    = if j.val ≤ i.val then 1#1 else 0#1 := by decide +kernel
/-- The printed strict comparison from above. -/
theorem sgt_eq : ∀ i j : Fin 128, IntOp.cmpi .sgt (BitVec.ofNat 32 i.val) (BitVec.ofNat 32 j.val)
    = if j.val < i.val then 1#1 else 0#1 := by decide +kernel
/-- The printed comparison from below. -/
theorem sle_eq : ∀ i j : Fin 128, IntOp.cmpi .sle (BitVec.ofNat 32 i.val) (BitVec.ofNat 32 j.val)
    = if i.val ≤ j.val then 1#1 else 0#1 := by decide +kernel
/-- The printed equality of two small numbers. -/
theorem eq_eq (a b : ℕ) (ha : a < 128) (hb : b < 128) : IntOp.cmpi .eq (BitVec.ofNat 32 a) (BitVec.ofNat 32 b)
    = if a = b then 1#1 else 0#1 := by
  revert a b
  have : ∀ a b : Fin 128, IntOp.cmpi .eq (BitVec.ofNat 32 a.val) (BitVec.ofNat 32 b.val) = if a.val = b.val then 1#1 else 0#1 := by
    decide +kernel
  exact fun a b ha hb => this ⟨a, ha⟩ ⟨b, hb⟩

/-- A token's block of 32, of 64 and of 128. -/
theorem fdiv_row (i j : Fin 128) : Word.fdiv Word.rowI 32#32 (ix2 i j) = BitVec.ofNat 32 (i.val / 32)
    ∧ Word.fdiv Word.rowI 64#32 (ix2 i j) = BitVec.ofNat 32 (i.val / 64)
    ∧ Word.fdiv Word.rowI 128#32 (ix2 i j) = BitVec.ofNat 32 (i.val / 128) := by
  pointwise [Word.fdiv, Word.rowI]
  revert i
  decide +kernel
/-- The column's block number. -/
theorem fdiv_col (i j : Fin 128) : Word.fdiv Word.colI 32#32 (ix2 i j) = BitVec.ofNat 32 (j.val / 32)
    ∧ Word.fdiv Word.colI 64#32 (ix2 i j) = BitVec.ofNat 32 (j.val / 64)
    ∧ Word.fdiv Word.colI 128#32 (ix2 i j) = BitVec.ofNat 32 (j.val / 128) := by
  pointwise [Word.fdiv, Word.colI]
  revert j
  decide +kernel
/-- Row and column lie in the same block of 32. -/
theorem same32 (i j : Fin 128) : Word.same 32#32 (ix2 i j) = if i.val / 32 = j.val / 32 then 1#1 else 0#1 := by
  rw [← eq_eq _ _ (by omega) (by omega), ← (fdiv_row i j).1, ← (fdiv_col i j).1]; rfl
/-- Row and column lie in the same block of 64. -/
theorem same64 (i j : Fin 128) : Word.same 64#32 (ix2 i j) = if i.val / 64 = j.val / 64 then 1#1 else 0#1 := by
  rw [← eq_eq _ _ (by omega) (by omega), ← (fdiv_row i j).2.1, ← (fdiv_col i j).2.1]; rfl
/-- Row and column lie in the same block of 128. -/
theorem same128 (i j : Fin 128) : Word.same 128#32 (ix2 i j) = if i.val / 128 = j.val / 128 then 1#1 else 0#1 := by
  rw [← eq_eq _ _ (by omega) (by omega), ← (fdiv_row i j).2.2, ← (fdiv_col i j).2.2]; rfl
/-- Below the diagonal's blocks of 32, within its blocks of 64. -/
theorem below32 (i j : Fin 128) : Word.below 32#32 64#32 (ix2 i j)
    = if i.val / 64 = j.val / 64 ∧ ¬ i.val / 32 = j.val / 32 then 1#1 else 0#1 := by
  show IntOp.andi (Word.same 64#32 (ix2 i j)) (IntOp.xori (Word.same 32#32 (ix2 i j)) 1#1) = _
  rw [same64, same32]
  split <;> split <;> simp_all <;> rfl
/-- Below the diagonal's blocks of 64. -/
theorem below64 (i j : Fin 128) : Word.below 64#32 128#32 (ix2 i j)
    = if i.val / 128 = j.val / 128 ∧ ¬ i.val / 64 = j.val / 64 then 1#1 else 0#1 := by
  show IntOp.andi (Word.same 128#32 (ix2 i j)) (IntOp.xori (Word.same 64#32 (ix2 i j)) 1#1) = _
  rw [same128, same64]
  split <;> split <;> simp_all <;> rfl

/-! ## Real matrices -/

/-- The entries of `x` are those of the real matrix `M`; the same of a stacked matrix, and of a repeated row. -/
def Rep (x : FVec Ideal S128x128 .f32) (M : Mat) : Prop := ∀ i j, x (ix2 i j) = ((M i j : ℝ) : EReal)
def Rep3 (x : Vec Ideal S1x128x128 .f32) (M : Mat) : Prop := ∀ i j, x (ix3 0 i j) = ((M i j : ℝ) : EReal)
def RowRep (g : Vec Ideal S1x8x128 .f32) (c : Fin 128 → ℝ) : Prop := ∀ r j, g (ix3 0 r j) = ((c j : ℝ) : EReal)

section Arith
variable {a b x l : FVec Ideal S128x128 .f32} {A B X L : Mat}

/-- A sum stands for the sum. -/
theorem Rep.add (ha : Rep a A) (hb : Rep b B) : Rep (addf a b) (A + B) := fun i j => by
  rw [Matrix.add_apply, EReal.coe_add, ← ha, ← hb]; rfl
/-- A difference stands for the difference. -/
theorem Rep.sub (ha : Rep a A) (hb : Rep b B) : Rep (subf a b) (A - B) := fun i j => by
  rw [Matrix.sub_apply, EReal.coe_sub, ← ha, ← hb]; rfl
/-- A product of real matrices, however the two are laid side by side. -/
theorem coe_mul_apply (A B : Mat) (i j : Fin 128) :
    (((A * B) i j : ℝ) : EReal) = ∑ k, (A i k : EReal) * (B k j : EReal) := by
  rw [Matrix.mul_apply, coe_sum]; simp only [EReal.coe_mul]
/-- A product stands for the matrix product. -/
theorem Rep.mm (ha : Rep a A) (hb : Rep b B) : Rep (Word.mm a b) (A * B) := fun i j => by
  rw [coe_mul_apply]
  pointwise [Word.mm, dot_S128x128_S128x128_S128x128_1_0_0_1_n_n]
  simp only [ha _ _, hb _ _]
/-- The upper half of a stacked product. -/
theorem Rep.mm2_top (ha : Rep a A) (hb : Rep b B) : Rep (Word.top (Word.mm2 a x b)) (A * B) := fun i j => by
  rw [coe_mul_apply]
  pointwise [Word.top, Word.mm2, dot_S256x128_S128x128_S256x128_1_0_0_1_n_n]
  simp only [ha _ _, hb _ _]
/-- The lower half of a stacked product. -/
theorem Rep.mm2_bot (ha : Rep a A) (hb : Rep b B) : Rep (Word.bot (Word.mm2 x a b)) (A * B) := fun i j => by
  rw [coe_mul_apply]
  pointwise [Word.bot, Word.mm2, dot_S256x128_S128x128_S256x128_1_0_0_1_n_n]
  simp only [ha _ _, hb _ _]
/-- The printed identity stands for the identity. -/
theorem Rep.eye : Rep Word.eye 1 := fun i j => by
  have e : Word.eye (F := Ideal) (ix2 i j) = Scalar.select (IntOp.cmpi .eq (BitVec.ofNat 32 i.val) (BitVec.ofNat 32 j.val)) (1 : EReal) 0 := by
    pointwise [Word.eye, Word.rowI, Word.colI, Word.one, Word.zero, Word.nil]
  rw [e, eq_eq _ _ i.isLt j.isLt, select_ite, Matrix.one_apply]
  simp only [Fin.ext_iff]
  split <;> simp
/-- The printed zero matrix is zero. -/
theorem Rep.nil (i j : Fin 128) : Word.nil (F := Ideal) (ix2 i j) = 0 := by
  pointwise [Word.nil, Word.zero]
/-- A matrix with some entries put to zero. -/
theorem Rep.mask (m : IVec S128x128 1) (p : Fin 128 → Fin 128 → Prop) [∀ i j, Decidable (p i j)]
    (hm : ∀ i j, m (ix2 i j) = if p i j then 1#1 else 0#1) (ha : Rep a A) :
    Rep (select m a Word.nil) (fun i j => if p i j then A i j else 0) := fun i j => by
  show Scalar.select (m (ix2 i j)) (a (ix2 i j)) (Word.nil (F := Ideal) (ix2 i j)) = _
  rw [hm, select_ite, ha, Rep.nil, coe_ite, EReal.coe_zero]

/-- The inverse's steps are those of the real construction. -/
theorem Rep.inBlock (hl : Rep l L) : Rep (Word.inBlock l) (inBlk 32 L) := Rep.mask _ _ same32 hl
/-- One widening of the inverse, from blocks of 32 to blocks of 64. -/
theorem Rep.wider32 (hl : Rep l L) (hx : Rep x X) : Rep (Word.wider 32#32 64#32 l x) (X - X * (between 32 L * X)) :=
  hx.sub (hx.mm ((Rep.mask _ _ below32 hl).mm hx))
/-- One widening of the inverse, from blocks of 64 to the whole. -/
theorem Rep.wider64 (hl : Rep l L) (hx : Rep x X) : Rep (Word.wider 64#32 128#32 l x) (X - X * (between 64 L * X)) :=
  hx.sub (hx.mm ((Rep.mask _ _ below64 hl).mm hx))
/-- The kernel's inverse stands for the inverse by blocks. -/
theorem Rep.inv (hl : Rep l L) : Rep (Word.inv l) (inverse L) := by
  have x0 : Rep (Word.x0 l) _ := Rep.eye.sub hl.inBlock
  have m0 : Rep (Word.m0 l) _ := hl.inBlock.mm hl.inBlock
  have m1 : Rep (Word.m1 l) _ := m0.mm2_bot m0
  have x1 : Rep (Word.x1 l) _ := x0.add (x0.mm2_top m0)
  have m2 : Rep (Word.m2 l) _ := m1.mm2_bot m1
  have x2 : Rep (Word.x2 l) _ := x1.add (x1.mm2_top m1)
  have m3 : Rep (Word.m3 l) _ := m2.mm2_bot m2
  have x3 : Rep (Word.x3 l) _ := x2.add (x2.mm2_top m2)
  have x4 : Rep (Word.x4 l) _ := x3.add (x3.mm m3)
  exact hl.wider64 (hl.wider32 x4)

end Arith

/-! ## A chunk of the delta rule -/

/-- A chunk's operands are those of the tokens from `t0` on. -/
structure Operands (s : Seq) (t0 : ℕ) (q k v : FVec Ideal S128x128 .f32) (b g : Vec Ideal S1x8x128 .f32) : Prop where
  hq : Rep q fun i d => s.q (t0 + i.val) d
  hk : Rep k (s.K t0)
  hv : Rep v fun i d => s.v (t0 + i.val) d
  hb : RowRep b fun i => s.β (t0 + i.val)
  hg : RowRep g (s.gc t0)

section Chunk
variable {s : Seq} {t0 : ℕ} {q k v : FVec Ideal S128x128 .f32} {b g : Vec Ideal S1x8x128 .f32}

/-- A row vector written down the rows. -/
theorem down_apply (g : Vec Ideal S1x8x128 .f32) (i j : Fin 128) : Word.down g (ix2 i j) = g (ix3 0 0 i) := by
  pointwise [Word.down, Word.across]
/-- The row vector's last entry everywhere. -/
theorem lastOf_apply (g : Vec Ideal S1x8x128 .f32) (i j : Fin 128) : Word.lastOf g (ix2 i j) = g (ix3 0 0 ⟨127, by omega⟩) := by
  pointwise [Word.lastOf, Word.down, Word.across]
/-- The matrix of decays between two tokens of the chunk. -/
theorem decay_apply (hg : RowRep g (s.gc t0)) : Rep (Word.decay g) (s.decay t0) := fun i j => by
  have e : Word.decay g (ix2 i j) = Scalar.select (IntOp.cmpi .sge (BitVec.ofNat 32 i.val) (BitVec.ofNat 32 j.val))
      (Ideal.exp (min (g (ix3 0 0 i) - g (ix3 0 0 j)) 0)) 0 := by
    pointwise [Word.decay, Word.down, Word.across, Word.rowI, Word.colI, Word.nil, Word.zero]
  rw [e, sge_eq, select_ite, hg, hg, ← EReal.coe_sub, ← EReal.coe_zero, ← coe_min, Ideal.exp_coe, Seq.decay, coe_ite]

namespace Operands
variable (h : Operands s t0 q k v b g)
include h

/-- The keys times their write strengths. -/
theorem kb : Rep (Word.kb k b) (s.Kb t0) := fun i j => by
  show k (ix2 i j) * Word.down b (ix2 i j) = _
  rw [h.hk, down_apply, h.hb, ← EReal.coe_mul]; rfl
/-- The values times their write strengths. -/
theorem vb : Rep (mulf v (Word.down b)) (s.Vb t0) := fun i j => by
  show v (ix2 i j) * Word.down b (ix2 i j) = _
  rw [h.hv, down_apply, h.hb, ← EReal.coe_mul]; rfl
/-- The decay from the chunk's start, down the rows. -/
theorem expDown (i j : Fin 128) : exp (Word.down g) (ix2 i j) = ((Real.exp (s.gc t0 i) : ℝ) : EReal) := by
  show Ideal.exp (Word.down g (ix2 i j)) = _
  rw [down_apply, h.hg, Ideal.exp_coe]
/-- The strengthened keys, decayed from the chunk's start. -/
theorem ke : Rep (mulf (Word.kb k b) (exp (Word.down g))) (s.Ke t0) := fun i j => by
  show Word.kb k b (ix2 i j) * exp (Word.down g) (ix2 i j) = _
  rw [h.kb, h.expDown, ← EReal.coe_mul]; rfl
/-- The strictly lower triangular matrix of the chunk. -/
theorem low : Rep (Word.low q k b g) (s.L t0) := by
  refine Rep.mask (A := fun i j => (∑ d, s.Kb t0 i d * s.K t0 j d) * s.decay t0 i j) _ _ (fun i j => ?_) fun i j => ?_
  · pointwise [Word.rowI, Word.colI]; exact sgt_eq i j
  · show Word.top (Word.kq q k b) (ix2 i j) * Word.decay g (ix2 i j) = _
    rw [decay_apply h.hg, EReal.coe_mul, coe_sum]
    congr 1
    pointwise [Word.top, Word.kq, dot_S256x128_S128x128_S256x128_1_1_0_0_n_n]
    simp only [h.kb _ _, h.hk _ _, EReal.coe_mul]
/-- The chunk's attention matrix. -/
theorem att : Rep (Word.att q k b g) (s.A t0) := by
  refine Rep.mask (A := fun i j => (∑ d, s.q (t0 + i.val) d * s.K t0 j d) * s.decay t0 i j) _ _ (fun i j => ?_) fun i j => ?_
  · pointwise [Word.rowI, Word.colI]; exact sge_eq i j
  · show Word.bot (Word.kq q k b) (ix2 i j) * Word.decay g (ix2 i j) = _
    rw [decay_apply h.hg, EReal.coe_mul, coe_sum]
    congr 1
    pointwise [Word.bot, Word.kq, dot_S256x128_S128x128_S256x128_1_1_0_0_n_n]
    simp only [h.hq _ _, h.hk _ _, EReal.coe_mul]
/-- The corrected values. -/
theorem u : Rep3 (Word.left (Word.sol q k v b g)) (s.U t0) := fun i j => by
  rw [Seq.U, coe_mul_apply]
  pointwise [Word.left, Word.sol, Word.mmW, dot_S128x128_S128x256_S128x256_1_0_0_1_n_n]
  simp only [h.low.inv _ _]
  exact Finset.sum_congr rfl fun x _ => congrArg _ (h.vb x j)
/-- The corrected keys. -/
theorem w : Rep3 (Word.right (Word.sol q k v b g)) (s.W t0) := fun i j => by
  rw [Seq.W, coe_mul_apply]
  pointwise [Word.right, Word.sol, Word.mmW, dot_S128x128_S128x256_S128x256_1_0_0_1_n_n]
  simp only [h.low.inv _ _]
  exact Finset.sum_congr rfl fun x _ => congrArg _ (h.ke x j)
/-- The keys decayed to the chunk's end. -/
theorem kd : Rep (Word.kd k g) (s.Kd t0) := fun i j => by
  have e : Word.kd k g (ix2 i j) = k (ix2 j i) * Ideal.exp (Word.lastOf g (ix2 j i) - Word.down g (ix2 j i)) := by
    pointwise [Word.kd]
  rw [e, h.hk, lastOf_apply, down_apply, h.hg, h.hg, ← EReal.coe_sub, Ideal.exp_coe, ← EReal.coe_mul]; rfl
/-- What the chunk adds to the state. -/
theorem cc : Rep3 (Word.left (Word.cn q k v b g)) (s.Kd t0 * s.U t0) := fun i j => by
  rw [coe_mul_apply]
  have e : Word.left (Word.cn q k v b g) (ix3 0 i j) = ∑ x, Word.kd k g (ix2 i x) * Word.left (Word.sol q k v b g) (ix3 0 x j) := by
    pointwise [Word.left, Word.cn, Word.mmW, dot_S128x128_S128x256_S128x256_1_0_0_1_n_n]
  rw [e]
  simp only [h.kd _ _, h.u _ _]
/-- What the chunk takes from the state. -/
theorem nn : Rep3 (Word.right (Word.cn q k v b g)) (s.Kd t0 * s.W t0) := fun i j => by
  rw [coe_mul_apply]
  have e : Word.right (Word.cn q k v b g) (ix3 0 i j) = ∑ x, Word.kd k g (ix2 i x) * Word.right (Word.sol q k v b g) (ix3 0 x j) := by
    pointwise [Word.right, Word.cn, Word.mmW, dot_S128x128_S128x256_S128x256_1_0_0_1_n_n]
  rw [e]
  simp only [h.kd _ _, h.w _ _]
/-- The attention matrix, as stored. -/
theorem a : Rep3 (Word.aOf q k b g) (s.A t0) := fun i j => by
  rw [← h.att]
  pointwise [Word.aOf, Word.full]
/-- The queries decayed from the chunk's start. -/
theorem qg : Rep3 (Word.qgOf q g) (s.Qe t0) := fun i j => by
  have e : Word.qgOf q g (ix3 0 i j) = q (ix2 i j) * exp (Word.down g) (ix2 i j) := by
    pointwise [Word.qgOf, Word.full]
  rw [e, h.hq, h.expDown, ← EReal.coe_mul]; rfl
/-- The decay over the whole chunk. -/
theorem el : RowRep (Word.elOf g) fun _ => Real.exp (s.gl t0) := fun r j => by
  have e : Word.elOf g (ix3 0 r j) = Ideal.exp (Word.lastOf g (ix2 ⟨r.val, by omega⟩ j)) := by
    pointwise [Word.elOf]
  rw [e, lastOf_apply, h.hg, Ideal.exp_coe]; rfl

end Operands

/-- One step of the recurrence over chunks, and a chunk's output, over the reals. -/
theorem next_rep {n w qg c : Vec Ideal S1x128x128 .f32} {el : Vec Ideal S1x8x128 .f32} {st : FVec Ideal S128x128 .f32}
    {N C S : Mat} {e : ℝ} (hn : Rep3 n N) (hc : Rep3 c C) (he : RowRep el fun _ => e) (hs : Rep st S) :
    Rep (Word.next n w qg c el st) (fun i j => S i j * e + C i j - (N * S) i j) := fun i j => by
  rw [EReal.coe_sub, EReal.coe_add, EReal.coe_mul, coe_mul_apply]
  pointwise [Word.next, Word.nws, Word.flat, Word.across, dot_S384x128_S128x128_S384x128_1_0_0_1_n_n]
  simp only [hn _ _, hc _ _, he _ _, hs _ _]
/-- The chunk's output from the state before it. -/
theorem read_rep {n w qg a u : Vec Ideal S1x128x128 .f32} {st : FVec Ideal S128x128 .f32}
    {W Q A U S : Mat} (hw : Rep3 w W) (hq : Rep3 qg Q) (ha : Rep3 a A) (hu : Rep3 u U) (hs : Rep st S) :
    Rep (Word.read n w qg a u st) (Q * S + A * (U - W * S)) := by
  refine Rep.add (fun i j => ?_) (Rep.mm (fun i j => ?_) (Rep.sub (fun i j => ?_) fun i j => ?_))
  · rw [coe_mul_apply]
    pointwise [Word.nws, Word.flat, dot_S384x128_S128x128_S384x128_1_0_0_1_n_n]
    have e1 : ¬ 256 + i.val < 128 := by omega
    have e2 : ¬ 256 + i.val - 128 < 128 := by omega
    have e3 : ∀ h, (⟨256 + i.val - 128 - 128, h⟩ : Fin 128) = i := fun _ => Fin.ext (show 256 + i.val - 128 - 128 = i.val by omega)
    simp only [dif_neg e1, dif_neg e2, e3, hq _ _, hs _ _]
  · rw [← ha]; pointwise [Word.flat]
  · rw [← hu]; pointwise [Word.flat]
  · rw [coe_mul_apply]
    pointwise [Word.nws, Word.flat, dot_S384x128_S128x128_S384x128_1_0_0_1_n_n]
    simp only [hw _ _, hs _ _]

end Chunk

end Cert.Delta
-- ==== Proof.Dn.Source.lean ====
module

public import proofs.«01_k».proof.Proof.Dn.Mats
public import Mathlib.Analysis.SpecialFunctions.Log.Basic

/-! The recurrence's inputs as real numbers, from the projected columns: a causal convolution of four taps,
    its logistic gate, unit rows, and the two gates; and what the vector operations give on real entries. -/

@[expose] public section

noncomputable section

namespace Cert.Delta

open Idealize.ShloMosaic
open scoped BigOperators

/-- The constant under the square root, and the query's scale: the two single-precision numbers. -/
def eps : ℝ := 8796093 * (2 ^ 43)⁻¹
def scale : ℝ := 11863283 * (2 ^ 27)⁻¹

/-- The constant under the square root is positive. -/
theorem eps_pos : 0 < eps := by unfold eps; positivity
/-- The bits of the two constants. -/
theorem eps_coe : Ideal.ofBits .f32 0x358637BD#32 = ((eps : ℝ) : EReal) := by
  unfold eps; rw [EReal.coe_mul]; simp [Ideal.ofBits, Ideal.ieee]
/-- The query scale as a real. -/
theorem scale_coe : Ideal.ofBits .f32 0x3DB504F3#32 = ((scale : ℝ) : EReal) := by
  unfold scale; rw [EReal.coe_mul]; simp [Ideal.ofBits, Ideal.ieee]

/-- The logistic sigmoid, its gate, the softplus, and a row over its length. -/
def sigR (y : ℝ) : ℝ := 1 / (1 + Real.exp (-y))
def siluR (y : ℝ) : ℝ := y * sigR y
def softR (y : ℝ) : ℝ := max y 0 + Real.log (1 + Real.exp (-|y|))
def unitR (y : Fin 128 → ℝ) (d : Fin 128) : ℝ := y d * (√((∑ e, y e * y e) + eps))⁻¹

/-- `x` `j` tokens before `t`, zero before the first. -/
def back (x : ℕ → ℝ) (t j : ℕ) : ℝ := if t < j then 0 else x (t - j)
/-- The causal convolution of four taps. -/
def convR (x : ℕ → ℝ) (w : Fin 4 → ℝ) (t : ℕ) : ℝ :=
  w 0 * back x t 3 + w 1 * back x t 2 + w 2 * back x t 1 + w 3 * back x t 0

/-- The recurrence of one head, from its columns. -/
def seqOf (xq xk xv : Fin 128 → ℕ → ℝ) (wq wk wv : Fin 128 → Fin 4 → ℝ) (xb xa : ℕ → ℝ) (al dt : ℝ) : Seq where
  q t d := unitR (fun e => siluR (convR (xq e) (wq e) t)) d * scale
  k t d := unitR (fun e => siluR (convR (xk e) (wk e) t)) d
  v t d := siluR (convR (xv d) (wv d) t)
  g t := -Real.exp al * softR (xa t + dt)
  β t := sigR (xb t)

/-- The softplus is never negative. -/
theorem softR_nonneg (y : ℝ) : 0 ≤ softR y :=
  add_nonneg (le_max_right _ _) (Real.log_nonneg (by have := Real.exp_pos (-|y|); linarith))

/-- A head never grows its state: its log-decays are at most zero. -/
theorem seqOf_g (xq xk xv : Fin 128 → ℕ → ℝ) (wq wk wv : Fin 128 → Fin 4 → ℝ) (xb xa : ℕ → ℝ) (al dt : ℝ) (t : ℕ) :
    (seqOf xq xk xv wq wk wv xb xa al dt).g t ≤ 0 := by
  show -Real.exp al * softR (xa t + dt) ≤ 0
  have := mul_nonneg (Real.exp_pos al).le (softR_nonneg (xa t + dt))
  linarith

/-- One over one plus the exponential, on a real. -/
theorem sig_coe (y : ℝ) : Ideal.div 1 (1 + Ideal.exp (-(y : EReal))) = ((sigR y : ℝ) : EReal) := by
  have h : (1 + Real.exp (-y)) ≠ 0 := by have := Real.exp_pos (-y); positivity
  rw [← EReal.coe_neg, Ideal.exp_coe, ← EReal.coe_one, ← EReal.coe_add, Ideal.div_coe h, ← EReal.coe_mul]
  unfold sigR; rw [one_mul]
/-- A value times its sigmoid, on a real. -/
theorem silu_coe (y : ℝ) : (y : EReal) * Ideal.div 1 (1 + Ideal.exp (-(y : EReal))) = ((siluR y : ℝ) : EReal) := by
  rw [sig_coe, ← EReal.coe_mul]; rfl
/-- A row over its length, on reals. -/
theorem unit_coe (y : Fin 128 → ℝ) (d : Fin 128) :
    (y d : EReal) * Ideal.rsqrt ((∑ e, (y e : EReal) * (y e : EReal)) + Ideal.ofBits .f32 0x358637BD#32)
      = ((unitR y d : ℝ) : EReal) := by
  have h : 0 < (∑ e, y e * y e) + eps := by
    have := Finset.sum_nonneg fun e (_ : e ∈ Finset.univ) => mul_self_nonneg (y e)
    have := eps_pos; linarith
  simp only [eps_coe, ← EReal.coe_mul, ← coe_sum, ← EReal.coe_add]
  rw [Ideal.rsqrt_coe, if_neg (not_lt.2 h.le), if_neg h.ne', ← EReal.coe_mul]; rfl
/-- The absolute value, on a real. -/
theorem abs_coe (y : ℝ) : max (y : EReal) (-(y : EReal)) = ((|y| : ℝ) : EReal) := by
  rw [← EReal.coe_neg, ← coe_max]; rfl
/-- The softplus, on a real. -/
theorem soft_coe (y : ℝ) :
    max (y : EReal) 0 + Ideal.log (1 + Ideal.exp (-(max (y : EReal) (-(y : EReal))))) = ((softR y : ℝ) : EReal) := by
  have h : 0 < 1 + Real.exp (-|y|) := by have := Real.exp_pos (-|y|); positivity
  rw [abs_coe, ← EReal.coe_neg, Ideal.exp_coe, ← EReal.coe_one, ← EReal.coe_add, Ideal.log_coe, if_neg (not_le.2 h), ← EReal.coe_zero, ← coe_max,
    ← EReal.coe_add]
  rfl

end Cert.Delta
-- ==== Proof.Dn.Reads.lean ====
module

public import proofs.«01_k».proof.Proof.Dn.Readback
public import proofs.«01_k».proof.Proof.Dn.Source
public import Idealize.ShloMosaic.Lib.Pipeline.ValueKit.Tiles
public import Idealize.ShloMosaic.Lib.Pipeline.ValueKit.Geometry

/-! What a run of the body reads, entry by entry, and the chunk's operands over the reals. -/

@[expose] public section

noncomputable section

namespace Cert.Delta

open Cert.KernelIdeal Cert.KernelIdeal.Gen Idealize.ShloMosaic Idealize.ShloMosaic.TcCoe
open scoped BigOperators

/-- A load of 128 tokens, of a row of weights and of a block of rows, entry by entry. -/
theorem tapAt_apply (arg h) (x : Vec Ideal S1x2048x128 .f32) (o : ℕ) (ho : o + 128 ≤ 2048) (i d : Fin 128) :
    tapAt arg h x o ho (ix3 0 i d) = x (ix3 0 ⟨o + i.val, by omega⟩ d) := by
  unfold tapAt
  rw [View.readAt_eq_ld, h.read_unread]
  exact View.ld_unit_apply_of x _ _ _ _ _ fun a => by
    match a with
    | ⟨0, _⟩ => rfl
    | ⟨1, _⟩ => rfl
    | ⟨2, _⟩ => exact (Nat.zero_add _).symm
/-- One row of taps. -/
theorem wtAt_apply (arg h) (x : Vec Ideal S4x128 .f32) (j : Fin 4) (d : Fin 128) :
    wtAt arg h x j (ix2 0 d) = x (ix2 j d) := by
  unfold wtAt
  rw [View.readAt_eq_ld, h.read_unread]
  exact View.ld_unit_apply_of x _ _ _ _ _ fun a => by
    match a with
    | ⟨0, _⟩ => rfl
    | ⟨1, _⟩ => exact (Nat.zero_add _).symm
/-- One head's row. -/
theorem rowsAt_apply (arg h) (x : Vec Ideal S8x128 .f32) (j : Fin 8) (d : Fin 128) :
    rowsAt arg h x (ix2 j d) = x (ix2 j d) := by
  unfold rowsAt
  rw [View.readAt_eq_ld, h.read_unread]
  exact View.ld_unit_apply_of x _ _ _ _ _ fun a => by
    match a with
    | ⟨0, _⟩ => exact (Nat.zero_add _).symm
    | ⟨1, _⟩ => exact (Nat.zero_add _).symm

/-- The padded first chunk `j` rows up: zero above the first token. -/
theorem padAt_apply (arg) (x : Vec Ideal S1x128x128 .f32) (L) (j : Fin 4) (i d : Fin 128) :
    padAt arg (padL x L) j (ix2 i d) = if i.val < j.val then 0 else x (ix3 0 ⟨i.val - j.val, by omega⟩ d) := by
  unfold padAt padL
  rw [View.readCov_eq_canon']
  beta_reduce
  split
  · rename_i h
    have e : (Rect.unit (s := S136x128) ![8 - j.val, 0] S128x128.size (inb_pad j)).toLoadRect.idx (ix2 i d)
        = (Rect.unit (s := S136x128) ![0, 0] S8x128.size inb_S136x128_S8x128_0_0).emb
            (ix2 (⟨8 - j.val + i.val, by omega⟩ : Fin 8) d) := by
      funext a
      match a with
      | ⟨0, _⟩ => exact Fin.ext ((Rect.idx_unit_val _ _ _ _ _).trans ((show 8 - j.val + i.val = 0 + (8 - j.val + i.val) by omega).trans (ValueKit.rect_emb_unit_val (s := S136x128) ![0, 0] S8x128.size inb_S136x128_S8x128_0_0 (ix2 (⟨8 - j.val + i.val, by omega⟩ : Fin 8) d) 0).symm))
      | ⟨1, _⟩ => rfl
    rw [e, View.canon_cons_of_not_mem, View.canon_cons_emb]
    · pointwise [Word.zero]
    · intro hm
      have hm : _ ∈ (Rect.unit (s := S136x128) ![8, 0] S128x128.size inb_S136x128_S128x128_8_0).set := hm
      rw [Rect.mem_set_unit] at hm
      have h1 := (hm 0).1
      have h2 : (8 : ℕ) ≤ 0 + 1 * (8 - j.val + i.val) := h1
      omega
  · rename_i h
    have e : (Rect.unit (s := S136x128) ![8 - j.val, 0] S128x128.size (inb_pad j)).toLoadRect.idx (ix2 i d)
        = (Rect.unit (s := S136x128) ![8, 0] S128x128.size inb_S136x128_S128x128_8_0).emb
            (ix2 (⟨i.val - j.val, by omega⟩ : Fin 128) d) := by
      funext a
      match a with
      | ⟨0, _⟩ => exact Fin.ext ((Rect.idx_unit_val _ _ _ _ _).trans ((show 8 - j.val + i.val = 8 + (i.val - j.val) by omega).trans (ValueKit.rect_emb_unit_val (s := S136x128) ![8, 0] S128x128.size inb_S136x128_S128x128_8_0 (ix2 (⟨i.val - j.val, by omega⟩ : Fin 128) d) 0).symm))
      | ⟨1, _⟩ => rfl
    rw [e, View.canon_cons_emb]
    pointwise []

/-- The four taps times their weights, entry by entry. -/
theorem conv_apply (w3 w2 w1 w0 : Vec Ideal S1x128 .f32) (t0 t1 t2 t3 : FVec Ideal S128x128 .f32) (i d : Fin 128) :
    Word.conv w3 w2 w1 w0 t0 t1 t2 t3 (ix2 i d) = w3 (ix2 0 d) * t0 (ix2 i d) + w2 (ix2 0 d) * t1 (ix2 i d)
      + w1 (ix2 0 d) * t2 (ix2 i d) + w0 (ix2 0 d) * t3 (ix2 i d) := by
  pointwise [Word.conv]
/-- A leading axis of one entry dropped. -/
theorem flat_apply (x : Vec Ideal S1x128x128 .f32) (i d : Fin 128) : Word.flat x (ix2 i d) = x (ix3 0 i d) := by
  pointwise [Word.flat]

/-- A chunk's convolution of real columns. -/
theorem convAt_rep (arg h) (x : Vec Ideal S1x2048x128 .f32) (wa hw) (w : Vec Ideal S4x128 .f32) (pad L)
    (X : Fin 128 → ℕ → ℝ) (W : Fin 128 → Fin 4 → ℝ)
    (hx : ∀ (t : Fin 2048) (d : Fin 128), x (ix3 0 t d) = ((X d t.val : ℝ) : EReal))
    (hw' : ∀ (j : Fin 4) (d : Fin 128), w (ix2 j d) = ((W d j : ℝ) : EReal)) (n : Fin 16) :
    Rep (convAt arg h x wa hw w pad (padL (tapAt arg h x 0 (by decide)) L) n) fun i d => convR (X d) (W d) (128 * n.val + i.val) := by
  intro i d
  match n with
  | ⟨0, _⟩ =>
    have hp : ∀ j : Fin 4, padAt pad (padL (tapAt arg h x 0 (by decide)) L) j (ix2 i d) = ((back (X d) (128 * 0 + i.val) j.val : ℝ) : EReal) := by
      intro j
      rw [padAt_apply, back, coe_ite]
      simp only [tapAt_apply, hx, Nat.mul_zero, Nat.zero_add, EReal.coe_zero]
    show Word.conv _ _ _ _ _ _ _ _ (ix2 i d) = _
    rw [conv_apply, hp 0, hp 1, hp 2, hp 3]
    simp only [wtAt_apply, hw', ← EReal.coe_mul, ← EReal.coe_add]
    refine congrArg _ ?_
    show _ = convR _ _ (128 * 0 + i.val)
    unfold convR
    show W d 3 * back _ _ 0 + W d 2 * back _ _ 1 + W d 1 * back _ _ 2 + W d 0 * back _ _ 3 = _
    ring
  | ⟨n + 1, hn⟩ =>
    have hp : ∀ (j : ℕ) (hj : j < 4), Word.flat (tapAt arg h x (128 * (n + 1) - j) (by omega)) (ix2 i d)
        = ((back (X d) (128 * (n + 1) + i.val) j : ℝ) : EReal) := by
      intro j hj
      rw [flat_apply, tapAt_apply, hx, back, if_neg (by omega)]
      exact congrArg (fun t => ((X d t : ℝ) : EReal)) (by show 128 * (n + 1) - j + i.val = _; omega)
    show Word.conv _ _ _ _ _ _ _ _ (ix2 i d) = _
    rw [conv_apply, hp 0 (by decide), hp 1 (by decide), hp 2 (by decide), hp 3 (by decide)]
    simp only [wtAt_apply, hw', ← EReal.coe_mul, ← EReal.coe_add]
    refine congrArg _ ?_
    show _ = convR _ _ (128 * (n + 1) + i.val)
    unfold convR
    ring

/-- The rows of a chunk from its convolution. -/
theorem qOf_rep {y : FVec Ideal S128x128 .f32} {Y : Mat} (hy : Rep y Y) :
    Rep (Word.qOf y) fun i d => unitR (fun e => siluR (Y i e)) d * scale := fun i d => by
  have e : Word.qOf y (ix2 i d) = (fun s : Fin 128 → EReal => s d * Ideal.rsqrt ((∑ e, s e * s e) + Ideal.ofBits .f32 0x358637BD#32)
      * Ideal.ofBits .f32 0x3DB504F3#32) fun e => y (ix2 i e) * Ideal.div 1 (1 + Ideal.exp (-y (ix2 i e))) := by
    pointwise [Word.qOf, Word.unit, Word.silu, Word.one, Word.zero, zero_sub]
  rw [e]
  simp only [hy _ _, silu_coe]
  rw [unit_coe fun e => siluR (Y i e), scale_coe, ← EReal.coe_mul]
/-- The keys: silu and normalisation. -/
theorem kOf_rep {y : FVec Ideal S128x128 .f32} {Y : Mat} (hy : Rep y Y) :
    Rep (Word.kOf y) fun i d => unitR (fun e => siluR (Y i e)) d := fun i d => by
  have e : Word.kOf y (ix2 i d) = (fun s : Fin 128 → EReal => s d * Ideal.rsqrt ((∑ e, s e * s e) + Ideal.ofBits .f32 0x358637BD#32))
      fun e => y (ix2 i e) * Ideal.div 1 (1 + Ideal.exp (-y (ix2 i e))) := by
    pointwise [Word.kOf, Word.unit, Word.silu, Word.one, Word.zero, zero_sub]
  rw [e]
  simp only [hy _ _, silu_coe]
  rw [unit_coe fun e => siluR (Y i e)]
/-- The values: silu. -/
theorem vOf_rep {y : FVec Ideal S128x128 .f32} {Y : Mat} (hy : Rep y Y) :
    Rep (Word.vOf y) fun i d => siluR (Y i d) := fun i d => by
  have e : Word.vOf y (ix2 i d) = y (ix2 i d) * Ideal.div 1 (1 + Ideal.exp (-y (ix2 i d))) := by
    pointwise [Word.vOf, Word.silu, Word.one, Word.zero, zero_sub]
  rw [e, hy, silu_coe]

/-- Picking one of eight rows. -/
theorem pick_apply (h : Fin 8) (x : FVec Ideal S8x128 .f32) (r : Fin 8) (j : Fin 128) :
    Word.pick (BitVec.ofNat 32 h.val) x (ix3 0 r j) = x (ix2 h j) := by
  have e : Word.pick (BitVec.ofNat 32 h.val) x (ix3 0 r j)
      = ∑ k : Fin 8, Scalar.select (IntOp.cmpi .eq (BitVec.ofNat 32 k.val) (BitVec.ofNat 32 h.val)) (x (ix2 k j)) 0 := by
    pointwise [Word.pick, Word.zero]
  rw [e, Finset.sum_eq_single h]
  · rw [eq_eq _ _ (by omega) (by omega), select_ite, if_pos rfl]
  · intro k _ hk
    rw [eq_eq _ _ (by omega) (by omega), select_ite, if_neg fun he => hk (Fin.ext he)]
  · exact fun hn => absurd (Finset.mem_univ _) hn

/-- The write strengths of a chunk. -/
theorem beta_rep (h : Fin 4) (x : Vec Ideal S1x128x128 .f32) (B : Fin 128 → ℝ)
    (hx : ∀ j, x (ix3 0 j (⟨64 + h.val, by omega⟩ : Fin 128)) = ((B j : ℝ) : EReal)) :
    RowRep (Word.beta (BitVec.ofNat 32 h.val) x) fun j => sigR (B j) := fun r j => by
  unfold Word.beta
  rw [pick_apply ⟨h.val, by omega⟩]
  have e : ∀ i : Fin 8, (divf (broadcast S8x128 Word.one) (addf (broadcast S8x128 Word.one)
      (exp (subf (broadcast S8x128 Word.zero) (Word.slab x)))) : FVec Ideal S8x128 .f32) (ix2 i j)
        = Ideal.div 1 (1 + Ideal.exp (-x (ix3 0 j (⟨64 + i.val, by omega⟩ : Fin 128)))) := by
    intro i
    pointwise [Word.slab, Word.one, Word.zero, zero_sub]
  rw [e, hx, sig_coe]

/-- The summed log-decays of a chunk. -/
theorem cum_rep (h : Fin 4) (al dt : Vec Ideal S8x128 .f32) (x : Vec Ideal S1x128x128 .f32) (G : ℕ → ℝ)  (A : Fin 128 → ℝ) (al' dt' : ℝ)
    (hx : ∀ j, x (ix3 0 j (⟨68 + h.val, by omega⟩ : Fin 128)) = ((A j : ℝ) : EReal))
    (hal : ∀ j, al (ix2 (⟨h.val + 4, by omega⟩ : Fin 8) j) = ((al' : ℝ) : EReal))
    (hdt : ∀ j, dt (ix2 (⟨h.val + 4, by omega⟩ : Fin 8) j) = ((dt' : ℝ) : EReal))
    (hG : ∀ j : Fin 128, G j.val = -Real.exp al' * softR (A j + dt')) :
    RowRep (Word.cum (BitVec.ofNat 32 h.val) al dt x) fun j => ∑ i ∈ Finset.range (j.val + 1), G i := fun r j => by
  unfold Word.cum
  have e4 : Scalar.addi (BitVec.ofNat 32 h.val) 4#32 = BitVec.ofNat 32 (⟨h.val + 4, by omega⟩ : Fin 8).val := by
    show BitVec.ofNat 32 h.val + 4#32 = _
    rw [BitVec.ofNat_add]
  rw [e4, pick_apply]
  have eg : ∀ i : Fin 128, Word.gates al dt x (ix2 (⟨h.val + 4, by omega⟩ : Fin 8) i) = ((G i.val : ℝ) : EReal) := by
    intro i
    have e : Word.gates al dt x (ix2 (⟨h.val + 4, by omega⟩ : Fin 8) i)
        = (fun y : EReal => -Ideal.exp (al (ix2 (⟨h.val + 4, by omega⟩ : Fin 8) i)) * (max y 0 + Ideal.log (1 + Ideal.exp (-(max y (-y))))))
          (x (ix3 0 i (⟨68 + h.val, by omega⟩ : Fin 128)) + dt (ix2 (⟨h.val + 4, by omega⟩ : Fin 8) i)) := by
      have e64 : (⟨64 + (h.val + 4), by omega⟩ : Fin 128) = ⟨68 + h.val, by omega⟩ := Fin.ext (by show 64 + (h.val + 4) = 68 + h.val; omega)
      pointwise [Word.gates, Word.slab, Word.one, Word.zero, zero_sub]
      rw [e64]; rfl
    rw [e, hx, hal, hdt, ← EReal.coe_add]
    simp only []
    rw [soft_coe, Ideal.exp_coe, ← EReal.coe_neg, ← EReal.coe_mul, hG]
  have em : ∀ (a : FVec Ideal S8x128 .f32) (i : Fin 8), matmul dot_S8x128_S128x128_S8x128_1_0_0_1_n_n (some .fp32) a
      (select (cmpi .sle Word.rowI Word.colI) (broadcast S128x128 Word.one) (broadcast S128x128 Word.zero))
      (constant S8x128 .f32 0x00000000#32) (ix2 i j)
        = ∑ k : Fin 128, a (ix2 i k) * Scalar.select (IntOp.cmpi .sle (BitVec.ofNat 32 k.val) (BitVec.ofNat 32 j.val)) 1 0 := by
    intro a i
    pointwise [Word.rowI, Word.colI, Word.one, Word.zero, dot_S8x128_S128x128_S8x128_1_0_0_1_n_n]
  rw [em]
  simp only [eg, sle_eq, select_ite, mul_ite, mul_one, mul_zero]
  rw [coe_sum, ← Finset.sum_filter]
  refine Finset.sum_bij (fun k _ => k.val) (fun k hk => ?_) (fun _ _ _ _ h => Fin.ext h) (fun b hb => ?_) fun _ _ => rfl
  · have := (Finset.mem_filter.1 hk).2
    exact Finset.mem_range.2 (by omega)
  · have := Finset.mem_range.1 hb
    exact ⟨⟨b, by omega⟩, Finset.mem_filter.2 ⟨Finset.mem_univ _, by show b ≤ j.val; omega⟩, rfl⟩

end Cert.Delta
-- ==== Proof.Dn.Kern.lean ====
module

public import proofs.«01_k».proof.Proof.Dn.Reads

/-! The kernel's chunks are the recurrence: every run's output, over the reals. -/

@[expose] public section

noncomputable section

namespace Cert.Delta

open Cert.KernelIdeal Cert.KernelIdeal.Gen Idealize.ShloMosaic Idealize.ShloMosaic.TcCoe
open scoped BigOperators

/-- One head's columns, as reals. -/
structure Cols where
  xq : Fin 128 → ℕ → ℝ
  xk : Fin 128 → ℕ → ℝ
  xv : Fin 128 → ℕ → ℝ
  wq : Fin 128 → Fin 4 → ℝ
  wk : Fin 128 → Fin 4 → ℝ
  wv : Fin 128 → Fin 4 → ℝ
  xb : ℕ → ℝ
  xa : ℕ → ℝ
  al : ℝ
  dt : ℝ

/-- Their recurrence. -/
def Cols.seq (s : Cols) : Seq := seqOf s.xq s.xk s.xv s.wq s.wk s.wv s.xb s.xa s.al s.dt

/-- A run for head `h` reads these columns. -/
structure Run.ReadsCols (r : Run Ideal) (h : Fin 4) (s : Cols) : Prop where
  hh : (r.i 1).val = h.val
  hxq : ∀ (t : Fin 2048) (d : Fin 128), r.x0 (ix3 0 t d) = ((s.xq d t.val : ℝ) : EReal)
  hxk : ∀ (t : Fin 2048) (d : Fin 128), r.x1 (ix3 0 t d) = ((s.xk d t.val : ℝ) : EReal)
  hxv : ∀ (t : Fin 2048) (d : Fin 128), r.x2 (ix3 0 t d) = ((s.xv d t.val : ℝ) : EReal)
  hxb : ∀ t : Fin 2048, r.x4 (ix3 0 t (⟨64 + h.val, by omega⟩ : Fin 128)) = ((s.xb t.val : ℝ) : EReal)
  hxa : ∀ t : Fin 2048, r.x4 (ix3 0 t (⟨68 + h.val, by omega⟩ : Fin 128)) = ((s.xa t.val : ℝ) : EReal)
  hwq : ∀ (j : Fin 4) (d : Fin 128), r.x5 (ix2 j d) = ((s.wq d j : ℝ) : EReal)
  hwk : ∀ (j : Fin 4) (d : Fin 128), r.x6 (ix2 j d) = ((s.wk d j : ℝ) : EReal)
  hwv : ∀ (j : Fin 4) (d : Fin 128), r.x7 (ix2 j d) = ((s.wv d j : ℝ) : EReal)
  hal : ∀ j : Fin 128, r.x8 (ix2 (⟨h.val + 4, by omega⟩ : Fin 8) j) = ((s.al : ℝ) : EReal)
  hdt : ∀ j : Fin 128, r.x9 (ix2 (⟨h.val + 4, by omega⟩ : Fin 8) j) = ((s.dt : ℝ) : EReal)

namespace Run
variable {r : Run Ideal} {h : Fin 4} {s : Cols} (hr : r.ReadsCols h s)
include hr

/-- Its chunk's operands are those of the recurrence. -/
theorem operands (n : Fin 16) : Operands s.seq (128 * n.val) (r.q n) (r.k n) (r.v n) (r.β n) (r.g n) where
  hq := qOf_rep (convAt_rep _ _ _ _ _ _ _ _ s.xq s.wq hr.hxq hr.hwq n)
  hk := kOf_rep (convAt_rep _ _ _ _ _ _ _ _ s.xk s.wk hr.hxk hr.hwk n)
  hv := vOf_rep (convAt_rep _ _ _ _ _ _ _ _ s.xv s.wv hr.hxv hr.hwv n)
  hb := by
    unfold Run.β Run.head
    rw [hr.hh]
    exact beta_rep h _ (fun j => s.xb (128 * n.val + j.val)) fun j => by
      rw [Run.misc, tapAt_apply, hr.hxb]
  hg := by
    unfold Run.g Run.head
    rw [hr.hh]
    exact cum_rep h _ _ _ (fun j => s.seq.g (128 * n.val + j)) (fun j => s.xa (128 * n.val + j.val)) s.al s.dt
      (fun j => by rw [Run.misc, tapAt_apply, hr.hxa]) (fun j => by rw [rowsAt_apply, hr.hal])
      (fun j => by rw [rowsAt_apply, hr.hdt]) fun j => rfl

/-- Its states are the recurrence's, chunk by chunk. -/
theorem state_rep : ∀ n : ℕ, n ≤ 16 → Rep (r.state n) (s.seq.state (128 * n))
  | 0, _ => fun i j => by
    show Word.nil (F := Ideal) (ix2 i j) = (((0 : ℝ)) : EReal)
    rw [Rep.nil]; rfl
  | n + 1, hn => by
    have hv : (Fin.ofNat 16 n).val = n := Nat.mod_eq_of_lt (by omega)
    have o := operands hr (Fin.ofNat 16 n)
    rw [hv] at o
    intro i j
    refine (next_rep (w := r.w _) (qg := r.qg _) o.nn o.cc o.el (state_rep n (by omega)) i j).trans ?_
    exact congrArg _ (s.seq.state_chunk (128 * n) (fun t => seqOf_g _ _ _ _ _ _ _ _ _ _ t) i j).symm

/-- What a chunk reads is the recurrence's output. -/
theorem read_out (n : Fin 16) : Rep (Word.read (r.nn n) (r.w n) (r.qg n) (r.a n) (r.u n) (r.state n.val))
    fun i e => s.seq.out (128 * n.val + i.val) e := fun i e => by
  have o := operands hr n
  refine (read_rep (n := r.nn n) o.w o.qg o.a o.u (state_rep hr n.val (by omega)) i e).trans ?_
  exact congrArg _ (s.seq.out_chunk (128 * n.val) (fun t => seqOf_g _ _ _ _ _ _ _ _ _ _ t) i e).symm

end Run

/-- A token's output: its row over the root of its mean square, times the gain and the gate. -/
def outE (o : Fin 128 → ℝ) (gain z : Fin 128 → EReal) (e : Fin 128) : EReal :=
  (o e : EReal) * Ideal.rsqrt (Ideal.div (∑ d, (o d : EReal) * (o d : EReal)) (Ideal.ofBits .f32 0x43000000#32)
    + Ideal.ofBits .f32 0x358637BD#32) * gain e * (z e * Ideal.div 1 (1 + Ideal.exp (-z e)))

/-- The output word, entry by entry. -/
theorem outOf_apply (o : FVec Ideal S128x128 .f32) (gain : Vec Ideal S1x128 .f32) (z : Vec Ideal S1x128x128 .f32) (O : Mat)
    (ho : Rep o O) (i e : Fin 128) :
    Word.outOf o gain z (ix3 0 i e) = outE (O i) (fun d => gain (ix2 0 d)) (fun d => z (ix3 0 i d)) e := by
  have h : Word.outOf o gain z (ix3 0 i e) = o (ix2 i e) * Ideal.rsqrt (Ideal.div (∑ d, o (ix2 i d) * o (ix2 i d)) (Ideal.ofBits .f32 0x43000000#32)
    + Ideal.ofBits .f32 0x358637BD#32) * gain (ix2 0 e) * (z (ix3 0 i e) * Ideal.div 1 (1 + Ideal.exp (-z (ix3 0 i e)))) := by
    pointwise [Word.outOf, Word.silu, Word.flat, Word.one, Word.zero, zero_sub]
  rw [h]
  simp only [ho _ _]
  rfl

/-- The gain's row, whole. -/
theorem gain_apply (r : Run Ideal) (d : Fin 128) : r.gain (ix2 0 d) = r.x10 (ix2 0 d) := by
  unfold Run.gain
  rw [View.readAt_eq_ld, r.harg12.read_unread]
  exact View.ld_unit_apply_of r.x10 _ _ _ _ _ fun a => by
    match a with
    | ⟨0, _⟩ => rfl
    | ⟨1, _⟩ => exact (Nat.zero_add _).symm

/-- A run's output, entry by entry. -/
theorem Run.out_apply {r : Run Ideal} {h : Fin 4} {s : Cols} (hr : r.ReadsCols h s) (n : Fin 16) (i e : Fin 128) :
    r.out n (ix3 0 i e) = outE (s.seq.out (128 * n.val + i.val)) (fun d => r.x10 (ix2 0 d))
      (fun d => r.x3 (ix3 0 (⟨128 * n.val + i.val, by omega⟩ : Fin 2048) d)) e := by
  rw [Run.out, outOf_apply _ _ _ _ (Run.read_out hr n)]
  simp only [gain_apply, Run.z, tapAt_apply]

end Cert.Delta
-- ==== Proof.Rows.Basic.lean ====
module

public import Idealize.ShloMosaic.Lib.Pointwise
public import Idealize.ShloMosaic.Lib.Pipeline.ValueKit

@[expose] public section

noncomputable section

namespace Cert.Rows

open Idealize.ShloMosaic

/-! ## One token's row, over the extended reals -/

/-- The root-mean-square normalisation of one row `x` with the gains `g`. -/
def normed (x g : Fin 1024 → EReal) (k : Fin 1024) : EReal :=
  x k * Ideal.rsqrt (Ideal.div (∑ l, x l * x l) (Ideal.ofBits .f32 0x44800000#32) + Ideal.ofBits .f32 0x358637BD#32) * g k

/-- The logistic function as the kernel computes it. -/
def logi (a : EReal) : EReal := Ideal.div 1 (1 + Ideal.exp (0 - a))

/-- The batch entry of a token. -/
def bat (t : Fin 32768) : Fin 16 := ⟨t / 2048, by omega⟩

/-- The position of a token in its sequence. -/
def pos (t : Fin 32768) : Fin 2048 := ⟨t % 2048, by omega⟩

/-- Flattening the batch and sequence axes: token `t` is position `t % 2048` of batch entry `t / 2048`. -/
theorem flat_apply {d : ℕ} {α : Type} (x : (⟨3, ![16, 2048, d]⟩ : Shape).Idx → α)
    (h : (⟨3, ![16, 2048, d]⟩ : Shape).ShapeCasts ⟨2, ![32768, d]⟩) (t : Fin 32768) (k : Fin d) :
    shapeCast ⟨2, ![32768, d]⟩ x h (ix2 t k) = x (ix3 (bat t) (pos t) k) := by
  refine shapeCast_apply x h _ _ ?_
  rw [Shape.rowMajor_val_three, Shape.rowMajor_val_two]
  show (t.val / 2048 * 2048 + t.val % 2048) * d + k.val = t.val * d + k.val
  congr 2
  omega

/-- A vector laid out as one row. -/
theorem oneRow_apply {d : ℕ} {α : Type} (x : (⟨1, ![d]⟩ : Shape).Idx → α) (h : (⟨1, ![d]⟩ : Shape).ShapeCasts ⟨2, ![1, d]⟩) (k : Fin d) :
    shapeCast ⟨2, ![1, d]⟩ x h (ix2 0 k) = x (ix1 k) := by
  refine shapeCast_apply x h _ _ ?_
  rw [Shape.rowMajor_val_one, Shape.rowMajor_val_two]
  show k.val = 0 * d + k.val
  omega

end Cert.Rows
-- ==== Proof.Dn.Host.lean ====
module

public import proofs.«01_k».proof.Proof.Gen.KernelIdeal.Value
public import proofs.«01_k».proof.Proof.Dn.Kern
public import proofs.«01_k».proof.Proof.Rows.Basic
public import Idealize.ShloMosaic.Lib.Pointwise
public import Idealize.ShloMosaic.Lib.Pipeline.ValueKit

/-! What the kernel's region finds in the buffers that the host operations before it prepare: the projected
    columns regrouped, and the two gate parameters by row. -/

@[expose] public section

noncomputable section

namespace Cert.Delta

open Cert.KernelIdeal Cert.KernelIdeal.Gen Idealize.ShloMosaic Idealize.ShloMosaic.TcCoe

/-- The columns regrouped: queries, keys, values and gates first, the write strengths and decays further on. -/
def flatP (p : S16x2048x3020.Idx → EReal) : S32768x3020.Idx → EReal := shapeCast S32768x3020 p shapeCasts_S16x2048x3020_S32768x3020
def regroupFlat (x : S32768x3020.Idx → EReal) : S32768x3072.Idx → EReal :=
  concatenate S32768x3072 1 [⟨S32768x1536, extractStridedSlice S32768x1536 ![0, 0] x slices_S32768x3020_S32768x1536_0_0⟩,
    ⟨S32768x512, extractStridedSlice S32768x512 ![0, 1536] x slices_S32768x3020_S32768x512_0_1536⟩,
    ⟨S32768x512, extractStridedSlice S32768x512 ![0, 2056] x slices_S32768x3020_S32768x512_0_2056⟩,
    ⟨S32768x256, extractStridedSlice S32768x256 ![0, 2696] x slices_S32768x3020_S32768x256_0_2696⟩,
    ⟨S32768x64, extractStridedSlice S32768x64 ![0, 2568] x slices_S32768x3020_S32768x64_0_2568⟩,
    ⟨S32768x64, extractStridedSlice S32768x64 ![0, 2632] x slices_S32768x3020_S32768x64_0_2632⟩,
    ⟨S32768x64, extractStridedSlice S32768x64 ![0, 2952] x slices_S32768x3020_S32768x64_0_2952⟩,
    ⟨S32768x4, extractStridedSlice S32768x4 ![0, 2048] x slices_S32768x3020_S32768x4_0_2048⟩,
    ⟨S32768x4, extractStridedSlice S32768x4 ![0, 2052] x slices_S32768x3020_S32768x4_0_2052⟩,
    ⟨S32768x4, extractStridedSlice S32768x4 ![0, 3016] x slices_S32768x3020_S32768x4_0_3016⟩,
    ⟨S32768x52, broadcastInDim S32768x52 ![] bcast_S_S32768x52 (constant (F := Ideal) S_ .f32 0x00000000#32)⟩]
    concatenates_S32768x1536_S32768x512_S32768x512_S32768x256_S32768x64_S32768x64_S32768x64_S32768x4_S32768x4_S32768x4_S32768x52_S32768x3072_d1
def regroup (p : S16x2048x3020.Idx → EReal) : S16x2048x3072.Idx → EReal :=
  shapeCast S16x2048x3072 (regroupFlat (flatP p)) shapeCasts_S32768x3072_S16x2048x3072

/-- A gate parameter's eight rows: four of zeros, then one for each head. -/
def perHead (v : S4.Idx → EReal) : S8x128.Idx → EReal :=
  broadcastInDim S8x128 ![0, 1] bcast_S8x1_S8x128_0_1 (broadcastInDim S8x1 ![0] bcast_S8_S8x1_0
    (concatenate S8 0 [⟨S4, broadcastInDim S4 ![] bcast_S_S4 (constant (F := Ideal) S_ .f32 0x00000000#32)⟩, ⟨S4, v⟩] concatenates_S4_S4_S8_d0))

variable (m : (ℓ : Loc nD τ sig) → Buf (Elt Ideal) ℓ) (c : Dev nD)

set_option maxRecDepth 8192 in
/-- The projected columns, regrouped. -/
theorem V13 : V m c main_v13 = regroup (m ((c.tc : Thread nD τ).loc main_arg0)) := by
  unfold V
  after_results
  rfl
/-- The logarithms of the decay rates, one row per head. -/
theorem V17 : V m c main_v17 = perHead (m ((c.tc : Thread nD τ).loc main_arg2)) := by
  unfold V
  after_results
  rfl
/-- The step biases, one row per head. -/
theorem V20 : V m c main_v20 = perHead (m ((c.tc : Thread nD τ).loc main_arg3)) := by
  unfold V
  after_results
  rfl
/-- The output gains, as one row. -/
theorem V21 : V m c main_v21 = shapeCast S1x128 (m ((c.tc : Thread nD τ).loc main_arg4) : S128.Idx → EReal) shapeCasts_S128_S1x128 := by
  unfold V
  after_results
  rfl
/-- The convolution's taps, as given. -/
theorem V1 : V m c main_arg1 = m ((c.tc : Thread nD τ).loc main_arg1) := by
  unfold V
  after_results

/-- A head's row of a gate parameter. -/
theorem perHead_apply (v : S4.Idx → EReal) (h : Fin 4) (j : Fin 128) :
    perHead v (ix2 (⟨h.val + 4, by omega⟩ : Fin 8) j) = v (ix1 h) := by
  pointwise [perHead]
  rw [dif_neg (by omega)]
  exact congrArg (fun k => v (ix1 k)) (Fin.ext (Nat.add_sub_cancel h.val 4))

/-- A row of the regrouped columns, from where it lies. -/
theorem regroupFlat_low (x : S32768x3020.Idx → EReal) (r : Fin 32768) (k : ℕ) (hk : k < 2048) :
    regroupFlat x (ix2 r (⟨k, by omega⟩ : Fin 3072)) = x (ix2 r (⟨k, by omega⟩ : Fin 3020)) := by
  pointwise [regroupFlat]
  by_cases h : k < 1536
  · rw [dif_pos h]
  · rw [dif_neg h, dif_pos (by omega)]
    exact congrArg (fun k => x (ix2 r k)) (Fin.ext (by show 1536 + (k - 1536) = k; omega))
/-- The eight gate columns move to the end of the regrouped layout. -/
theorem regroupFlat_high (x : S32768x3020.Idx → EReal) (r : Fin 32768) (k : ℕ) (hk : k < 8) :
    regroupFlat x (ix2 r (⟨3008 + k, by omega⟩ : Fin 3072)) = x (ix2 r (⟨2048 + k, by omega⟩ : Fin 3020)) := by
  pointwise [regroupFlat]
  rw [dif_neg (by omega), dif_neg (by omega), dif_neg (by omega), dif_neg (by omega), dif_neg (by omega), dif_neg (by omega),
    dif_neg (by omega)]
  by_cases h : k < 4
  · rw [dif_pos (by omega)]
    exact congrArg (fun k => x (ix2 r k)) (Fin.ext (by show 2048 + (3008 + k - 1536 - 512 - 512 - 256 - 64 - 64 - 64) = 2048 + k; omega))
  · rw [dif_neg (by omega), dif_pos (by omega)]
    exact congrArg (fun k => x (ix2 r k)) (Fin.ext (by show 2052 + (3008 + k - 1536 - 512 - 512 - 256 - 64 - 64 - 64 - 4) = 2048 + k; omega))

/-- The batch and sequence axes apart and together again. -/
theorem regroup_row (p : S16x2048x3020.Idx → EReal) (b : Fin 16) (t : Fin 2048) (k : Fin 3072) :
    regroup p (ix3 b t k) = regroupFlat (flatP p) (ix2 (⟨b.val * 2048 + t.val, by omega⟩ : Fin 32768) k) := by
  unfold regroup
  refine shapeCast_apply _ _ _ _ ?_
  rw [Shape.rowMajor_val_two, Shape.rowMajor_val_three]
  show (b.val * 2048 + t.val) * 3072 + k.val = (b.val * 2048 + t.val) * 3072 + k.val
  exact Eq.refl _
/-- The flattened columns at a token. -/
theorem flatP_apply (p : S16x2048x3020.Idx → EReal) (b : Fin 16) (t : Fin 2048) (k : Fin 3020) :
    flatP p (ix2 (⟨b.val * 2048 + t.val, by omega⟩ : Fin 32768) k) = p (ix3 b t k) := by
  unfold flatP
  refine shapeCast_apply _ _ _ _ ?_
  rw [Shape.rowMajor_val_two, Shape.rowMajor_val_three]
  show (b.val * 2048 + t.val) * 3020 + k.val = (b.val * 2048 + t.val) * 3020 + k.val
  exact Eq.refl _
/-- The first 2048 columns keep their place. -/
theorem regroup_low (p : S16x2048x3020.Idx → EReal) (b : Fin 16) (t : Fin 2048) (k : ℕ) (hk : k < 2048) :
    regroup p (ix3 b t (⟨k, by omega⟩ : Fin 3072)) = p (ix3 b t (⟨k, by omega⟩ : Fin 3020)) :=
  (regroup_row p b t _).trans ((regroupFlat_low _ _ k hk).trans (flatP_apply p b t _))
/-- The gate columns, at a token of a sequence. -/
theorem regroup_high (p : S16x2048x3020.Idx → EReal) (b : Fin 16) (t : Fin 2048) (k : ℕ) (hk : k < 8) :
    regroup p (ix3 b t (⟨3008 + k, by omega⟩ : Fin 3072)) = p (ix3 b t (⟨2048 + k, by omega⟩ : Fin 3020)) :=
  (regroup_row p b t _).trans ((regroupFlat_high _ _ k hk).trans (flatP_apply p b t _))

/-! ## The windows' blocks: batch entry `t / 4` and head `t % 4` at point `t` -/

/-- A point's batch entry and head. -/
def ptB (t : Fin cfg0.N) : Fin 16 := ⟨t.val / 4, by have : t.val < 64 := t.isLt; omega⟩
def ptH (t : Fin cfg0.N) : Fin 4 := ⟨t.val % 4, by omega⟩

/-- The block that window 0 holds at a grid point. -/
theorem e0 : ∀ t : Fin cfg0.N, win0_0.index t = ![t.val / 4, 0, t.val % 4] := (by decide +kernel : ∀ t : Fin grid0.N, win0_0.index t = ![t.val / 4, 0, t.val % 4])
/-- The block that window 1 holds at a grid point. -/
theorem e1 : ∀ t : Fin cfg0.N, win0_1.index t = ![t.val / 4, 0, 4 + t.val % 4] := (by decide +kernel : ∀ t : Fin grid0.N, win0_1.index t = ![t.val / 4, 0, 4 + t.val % 4])
/-- The block that window 2 holds at a grid point. -/
theorem e2 : ∀ t : Fin cfg0.N, win0_2.index t = ![t.val / 4, 0, 8 + t.val % 4] := (by decide +kernel : ∀ t : Fin grid0.N, win0_2.index t = ![t.val / 4, 0, 8 + t.val % 4])
/-- The block that window 3 holds at a grid point. -/
theorem e3 : ∀ t : Fin cfg0.N, win0_3.index t = ![t.val / 4, 0, 12 + t.val % 4] := (by decide +kernel : ∀ t : Fin grid0.N, win0_3.index t = ![t.val / 4, 0, 12 + t.val % 4])
/-- The block that window 4 holds at a grid point. -/
theorem e4 : ∀ t : Fin cfg0.N, win0_4.index t = ![t.val / 4, 0, 23] := (by decide +kernel : ∀ t : Fin grid0.N, win0_4.index t = ![t.val / 4, 0, 23])
/-- The block that window 5 holds at a grid point. -/
theorem e5 : ∀ t : Fin cfg0.N, win0_5.index t = ![0, t.val % 4] := (by decide +kernel : ∀ t : Fin grid0.N, win0_5.index t = ![0, t.val % 4])
/-- The block that window 6 holds at a grid point. -/
theorem e6 : ∀ t : Fin cfg0.N, win0_6.index t = ![0, 4 + t.val % 4] := (by decide +kernel : ∀ t : Fin grid0.N, win0_6.index t = ![0, 4 + t.val % 4])
/-- The block that window 7 holds at a grid point. -/
theorem e7 : ∀ t : Fin cfg0.N, win0_7.index t = ![0, 8 + t.val % 4] := (by decide +kernel : ∀ t : Fin grid0.N, win0_7.index t = ![0, 8 + t.val % 4])
/-- The block that window 8 holds at a grid point. -/
theorem e8 : ∀ t : Fin cfg0.N, win0_8.index t = ![0, 0] := (by decide +kernel : ∀ t : Fin grid0.N, win0_8.index t = ![0, 0])
/-- The block that window 9 holds at a grid point. -/
theorem e9 : ∀ t : Fin cfg0.N, win0_9.index t = ![0, 0] := (by decide +kernel : ∀ t : Fin grid0.N, win0_9.index t = ![0, 0])
/-- The block that window 10 holds at a grid point. -/
theorem e10 : ∀ t : Fin cfg0.N, win0_10.index t = ![0, 0] := (by decide +kernel : ∀ t : Fin grid0.N, win0_10.index t = ![0, 0])
/-- The block that window 11 holds at a grid point. -/
theorem e11 : ∀ t : Fin cfg0.N, win0_11.index t = ![t.val / 4, 0, t.val % 4] := (by decide +kernel : ∀ t : Fin grid0.N, win0_11.index t = ![t.val / 4, 0, t.val % 4])
/-- A point's head coordinate. -/
theorem coord1 : ∀ t : Fin cfg0.N, (grid0.coords t 1).val = t.val % 4 := (by decide +kernel : ∀ t : Fin grid0.N, (grid0.coords t 1).val = t.val % 4)

/-- A head's query columns. -/
theorem b0 (t : Fin cfg0.N) (r : Fin 2048) (d : Fin 128) :
    iblk m c 0 t (ix3 0 r d) = m ((c.tc : Thread nD τ).loc main_arg0) (ix3 (ptB t) r (⟨t.val % 4 * 128 + d.val, by omega⟩ : Fin 3020)) := by
  have h : iblk m c 0 t (ix3 0 r d) = V m c main_v13 (ix3 (ptB t) r (⟨t.val % 4 * 128 + d.val, by omega⟩ : Fin 3072)) := by
    have hx : (win0_0.blk t).view.emb (ix3 (0 : Fin 1) r d : S1x2048x128.Idx) = (ix3 (ptB t) r (⟨t.val % 4 * 128 + d.val, by omega⟩ : Fin 3072)) := by blk_ext [e0, ptB]
    unfold iblk
    generalize V m c = X
    rw [View.read_apply]
    exact eq_of_heq ((cast_heq _ _).trans (heq_of_eq (congrArg (X main_v13) hx)))
  rw [h, V13]
  exact regroup_low _ _ _ _ (by omega)
/-- A head's key columns. -/
theorem b1 (t : Fin cfg0.N) (r : Fin 2048) (d : Fin 128) :
    iblk m c 1 t (ix3 0 r d) = m ((c.tc : Thread nD τ).loc main_arg0) (ix3 (ptB t) r (⟨512 + (t.val % 4 * 128 + d.val), by omega⟩ : Fin 3020)) := by
  have h : iblk m c 1 t (ix3 0 r d) = V m c main_v13 (ix3 (ptB t) r (⟨512 + (t.val % 4 * 128 + d.val), by omega⟩ : Fin 3072)) := by
    have hx : (win0_1.blk t).view.emb (ix3 (0 : Fin 1) r d : S1x2048x128.Idx) = (ix3 (ptB t) r (⟨512 + (t.val % 4 * 128 + d.val), by omega⟩ : Fin 3072)) := by blk_ext [e1, ptB]
    unfold iblk
    generalize V m c = X
    rw [View.read_apply]
    exact eq_of_heq ((cast_heq _ _).trans (heq_of_eq (congrArg (X main_v13) hx)))
  rw [h, V13]
  exact regroup_low _ _ _ _ (by omega)
/-- A head's value columns. -/
theorem b2 (t : Fin cfg0.N) (r : Fin 2048) (d : Fin 128) :
    iblk m c 2 t (ix3 0 r d) = m ((c.tc : Thread nD τ).loc main_arg0) (ix3 (ptB t) r (⟨1024 + (t.val % 4 * 128 + d.val), by omega⟩ : Fin 3020)) := by
  have h : iblk m c 2 t (ix3 0 r d) = V m c main_v13 (ix3 (ptB t) r (⟨1024 + (t.val % 4 * 128 + d.val), by omega⟩ : Fin 3072)) := by
    have hx : (win0_2.blk t).view.emb (ix3 (0 : Fin 1) r d : S1x2048x128.Idx) = (ix3 (ptB t) r (⟨1024 + (t.val % 4 * 128 + d.val), by omega⟩ : Fin 3072)) := by blk_ext [e2, ptB]
    unfold iblk
    generalize V m c = X
    rw [View.read_apply]
    exact eq_of_heq ((cast_heq _ _).trans (heq_of_eq (congrArg (X main_v13) hx)))
  rw [h, V13]
  exact regroup_low _ _ _ _ (by omega)
/-- A head's output-gate columns. -/
theorem b3 (t : Fin cfg0.N) (r : Fin 2048) (d : Fin 128) :
    iblk m c 3 t (ix3 0 r d) = m ((c.tc : Thread nD τ).loc main_arg0) (ix3 (ptB t) r (⟨1536 + (t.val % 4 * 128 + d.val), by omega⟩ : Fin 3020)) := by
  have h : iblk m c 3 t (ix3 0 r d) = V m c main_v13 (ix3 (ptB t) r (⟨1536 + (t.val % 4 * 128 + d.val), by omega⟩ : Fin 3072)) := by
    have hx : (win0_3.blk t).view.emb (ix3 (0 : Fin 1) r d : S1x2048x128.Idx) = (ix3 (ptB t) r (⟨1536 + (t.val % 4 * 128 + d.val), by omega⟩ : Fin 3072)) := by blk_ext [e3, ptB]
    unfold iblk
    generalize V m c = X
    rw [View.read_apply]
    exact eq_of_heq ((cast_heq _ _).trans (heq_of_eq (congrArg (X main_v13) hx)))
  rw [h, V13]
  exact regroup_low _ _ _ _ (by omega)
/-- The gate columns of all heads. -/
theorem b4 (t : Fin cfg0.N) (r : Fin 2048) (k : ℕ) (hk : k < 8) :
    iblk m c 4 t (ix3 0 r (⟨64 + k, by omega⟩ : Fin 128)) = m ((c.tc : Thread nD τ).loc main_arg0) (ix3 (ptB t) r (⟨2048 + k, by omega⟩ : Fin 3020)) := by
  have h : iblk m c 4 t (ix3 0 r (⟨64 + k, by omega⟩ : Fin 128)) = V m c main_v13 (ix3 (ptB t) r (⟨3008 + k, by omega⟩ : Fin 3072)) := by
    have hx : (win0_4.blk t).view.emb (ix3 (0 : Fin 1) r (⟨64 + k, by omega⟩ : Fin 128) : S1x2048x128.Idx) = (ix3 (ptB t) r (⟨3008 + k, by omega⟩ : Fin 3072)) := by blk_ext [e4, ptB]
    unfold iblk
    generalize V m c = X
    rw [View.read_apply]
    exact eq_of_heq ((cast_heq _ _).trans (heq_of_eq (congrArg (X main_v13) hx)))
  rw [h, V13]
  exact regroup_high _ _ _ _ hk
/-- A head's query taps. -/
theorem b5 (t : Fin cfg0.N) (j : Fin 4) (d : Fin 128) :
    iblk m c 5 t (ix2 j d) = m ((c.tc : Thread nD τ).loc main_arg1) (ix2 j (⟨t.val % 4 * 128 + d.val, by omega⟩ : Fin 1536)) := by
  have h : iblk m c 5 t (ix2 j d) = V m c main_arg1 (ix2 j (⟨t.val % 4 * 128 + d.val, by omega⟩ : Fin 1536)) := by
    have hx : (win0_5.blk t).view.emb (ix2 j d : S4x128.Idx) = (ix2 j (⟨t.val % 4 * 128 + d.val, by omega⟩ : Fin 1536)) := by blk_ext [e5]
    unfold iblk
    generalize V m c = X
    rw [View.read_apply]
    exact eq_of_heq ((cast_heq _ _).trans (heq_of_eq (congrArg (X main_arg1) hx)))
  rw [h, V1]
/-- A head's key taps. -/
theorem b6 (t : Fin cfg0.N) (j : Fin 4) (d : Fin 128) :
    iblk m c 6 t (ix2 j d) = m ((c.tc : Thread nD τ).loc main_arg1) (ix2 j (⟨512 + (t.val % 4 * 128 + d.val), by omega⟩ : Fin 1536)) := by
  have h : iblk m c 6 t (ix2 j d) = V m c main_arg1 (ix2 j (⟨512 + (t.val % 4 * 128 + d.val), by omega⟩ : Fin 1536)) := by
    have hx : (win0_6.blk t).view.emb (ix2 j d : S4x128.Idx) = (ix2 j (⟨512 + (t.val % 4 * 128 + d.val), by omega⟩ : Fin 1536)) := by blk_ext [e6]
    unfold iblk
    generalize V m c = X
    rw [View.read_apply]
    exact eq_of_heq ((cast_heq _ _).trans (heq_of_eq (congrArg (X main_arg1) hx)))
  rw [h, V1]
/-- A head's value taps. -/
theorem b7 (t : Fin cfg0.N) (j : Fin 4) (d : Fin 128) :
    iblk m c 7 t (ix2 j d) = m ((c.tc : Thread nD τ).loc main_arg1) (ix2 j (⟨1024 + (t.val % 4 * 128 + d.val), by omega⟩ : Fin 1536)) := by
  have h : iblk m c 7 t (ix2 j d) = V m c main_arg1 (ix2 j (⟨1024 + (t.val % 4 * 128 + d.val), by omega⟩ : Fin 1536)) := by
    have hx : (win0_7.blk t).view.emb (ix2 j d : S4x128.Idx) = (ix2 j (⟨1024 + (t.val % 4 * 128 + d.val), by omega⟩ : Fin 1536)) := by blk_ext [e7]
    unfold iblk
    generalize V m c = X
    rw [View.read_apply]
    exact eq_of_heq ((cast_heq _ _).trans (heq_of_eq (congrArg (X main_arg1) hx)))
  rw [h, V1]
/-- The logarithms of the decay rates. -/
theorem b8 (t : Fin cfg0.N) (h : Fin 4) (d : Fin 128) :
    iblk m c 8 t (ix2 (⟨h.val + 4, by omega⟩ : Fin 8) d) = m ((c.tc : Thread nD τ).loc main_arg2) (ix1 h) := by
  have e : iblk m c 8 t (ix2 (⟨h.val + 4, by omega⟩ : Fin 8) d) = V m c main_v17 (ix2 (⟨h.val + 4, by omega⟩ : Fin 8) d) := by
    have hx : (win0_8.blk t).view.emb (ix2 (⟨h.val + 4, by omega⟩ : Fin 8) d : S8x128.Idx) = (ix2 (⟨h.val + 4, by omega⟩ : Fin 8) d) := by blk_ext [e8]
    unfold iblk
    generalize V m c = X
    rw [View.read_apply]
    exact eq_of_heq ((cast_heq _ _).trans (heq_of_eq (congrArg (X main_v17) hx)))
  rw [e, V17]
  exact perHead_apply _ _ _
/-- The step biases. -/
theorem b9 (t : Fin cfg0.N) (h : Fin 4) (d : Fin 128) :
    iblk m c 9 t (ix2 (⟨h.val + 4, by omega⟩ : Fin 8) d) = m ((c.tc : Thread nD τ).loc main_arg3) (ix1 h) := by
  have e : iblk m c 9 t (ix2 (⟨h.val + 4, by omega⟩ : Fin 8) d) = V m c main_v20 (ix2 (⟨h.val + 4, by omega⟩ : Fin 8) d) := by
    have hx : (win0_9.blk t).view.emb (ix2 (⟨h.val + 4, by omega⟩ : Fin 8) d : S8x128.Idx) = (ix2 (⟨h.val + 4, by omega⟩ : Fin 8) d) := by blk_ext [e9]
    unfold iblk
    generalize V m c = X
    rw [View.read_apply]
    exact eq_of_heq ((cast_heq _ _).trans (heq_of_eq (congrArg (X main_v20) hx)))
  rw [e, V20]
  exact perHead_apply _ _ _
/-- The output gains. -/
theorem b10 (t : Fin cfg0.N) (d : Fin 128) :
    iblk m c 10 t (ix2 0 d) = m ((c.tc : Thread nD τ).loc main_arg4) (ix1 d) := by
  have h : iblk m c 10 t (ix2 0 d) = V m c main_v21 (ix2 0 d) := by
    have hx : (win0_10.blk t).view.emb (ix2 (0 : Fin 1) d : S1x128.Idx) = (ix2 (0 : Fin 1) d) := by blk_ext [e10]
    unfold iblk
    generalize V m c = X
    rw [View.read_apply]
    exact eq_of_heq ((cast_heq _ _).trans (heq_of_eq (congrArg (X main_v21) hx)))
  rw [h, V21]
  exact Cert.Rows.oneRow_apply (d := 128) _ _ _

end Cert.Delta
-- ==== Proof.Dn.RefLoop.lean ====
module

public import proofs.«01_k».proof.Proof.Gen.ReferenceIdeal.Run
public import proofs.«01_k».proof.Proof.Gen.ReferenceIdeal.Step

/-! The reference's loop, trip by trip: before every trip its buffers hold the state that the trips before make. -/

@[expose] public section

noncomputable section

namespace Cert.Delta.Ref

open Idealize.ShloMosaic Idealize.ShloMosaic.TcCoe Idealize.ShloMosaic.Tactic Idealize.ShloMosaic.StableHlo
open Cert.ReferenceIdeal Cert.ReferenceIdeal.Gen Cert.ReferenceIdeal.Value

variable {F : FTy → Type} [FloatOps F]

/-- The buffers `V` hold the state `s`, and the counter the trip's number. -/
structure Holds (V : Valuation τ sig (Elt F)) (j : ℕ) (s : Step.State F) : Prop where
  q : V (Proc.devRef .tc main_v79_0) = s.main_v79_0
  k : V (Proc.devRef .tc main_v79_1) = s.main_v79_1
  v : V (Proc.devRef .tc main_v79_2) = s.main_v79_2
  g : V (Proc.devRef .tc main_v79_3) = s.main_v79_3
  β : V (Proc.devRef .tc main_v79_4) = s.main_v79_4
  n : V (Proc.devRef .tc main_v79_5) = constantI S_ 32 (BitVec.ofNat 32 j)
  st : V (Proc.devRef .tc main_v79_6) = s.main_v79_6
  o : V (Proc.devRef .tc main_v79_7) = s.main_v79_7

set_option maxRecDepth 8192 in
/-- One trip takes a state to the next. -/
theorem Holds.step {V : Valuation τ sig (Elt F)} {j : ℕ} {s : Step.State F} (h : Holds V j s) :
    Holds (STEP V) (j + 1) (Step.step j s) := by
  have e101 : res_main_while0b_v101 V = Step.b9 j s := by
    unfold res_main_while0b_v101; rw [h.k, h.n]; rfl
  have e108 : res_main_while0b_v108 V = Step.b26 j s := by
    unfold res_main_while0b_v108; rw [h.st, h.g, h.n]; rfl
  have e119 : res_main_while0b_v119 V = Step.b37 j s := by
    unfold res_main_while0b_v119; rw [e108, e101, h.β, h.n, h.v]; rfl
  constructor
  · rw [STEP_main_v79_0, h.q]; rfl
  · rw [STEP_main_v79_1, h.k]; rfl
  · rw [STEP_main_v79_2, h.v]; rfl
  · rw [STEP_main_v79_3, h.g]; rfl
  · rw [STEP_main_v79_4, h.β]; rfl
  · rw [STEP_main_v79_5]; unfold step_main_v79_5
    rw [h.n]
    funext i
    show BitVec.ofNat 32 j + 1#32 = BitVec.ofNat 32 (j + 1)
    rw [BitVec.ofNat_add]
  · rw [STEP_main_v79_6]; unfold step_main_v79_6
    rw [e119]; rfl
  · rw [STEP_main_v79_7]; unfold step_main_v79_7
    simp only [id]
    rw [e119, h.o, h.q, h.n]; rfl

variable (m : (ℓ : Loc nD τ sig) → Buf (Elt F) ℓ) (c : Dev nD)

/-- The state before trip `k`. -/
def state (k : ℕ) : Step.State F :=
  Nat.rec (Step.init (m ((c.tc : Thread nD τ).loc main_arg0)) (m ((c.tc : Thread nD τ).loc main_arg1))
    (m ((c.tc : Thread nD τ).loc main_arg2)) (m ((c.tc : Thread nD τ).loc main_arg3))) Step.step k

set_option maxRecDepth 8192 in
set_option maxHeartbeats 4000000 in
/-- The loop is entered with the initial state. -/
theorem entry : Holds (entryContents preI m c) 0 (state m c 0) := by
  constructor <;> (simp only [entryContents, afterL_cons, afterL_nil]; after_reads_simp) <;> rfl

/-- The buffers before trip `k` hold its state. -/
theorem holds (k : ℕ) : Holds (STEP^[k] (entryContents preI m c)) k (state m c k) := by
  induction k with
  | zero => exact entry m c
  | succ k ih => rw [Function.iterate_succ_apply']; exact ih.step

end Cert.Delta.Ref
-- ==== Proof.Dn.Ref.lean ====
module

public import proofs.«01_k».proof.Proof.Dn.Kern
public import proofs.«01_k».proof.Proof.Dn.RefLoop
public import Idealize.ShloMosaic.Lib.Pointwise
public import Idealize.ShloMosaic.Lib.WordCmp

/-! The reference, token by token, over the reals. -/

@[expose] public section

noncomputable section

namespace Cert.Delta.Ref

open Cert.ReferenceIdeal Cert.ReferenceIdeal.Gen Idealize.ShloMosaic Idealize.ShloMosaic.WordCmp Idealize.ShloMosaic.TcCoe
open scoped BigOperators

/-- Token `j`'s slab and row, as a trip slices it. -/
theorem slab_apply (x : S2048x16x4x128.Idx → EReal) (j : ℕ) (hj : j < 2048) (b : Fin 16) (h : Fin 4) (d : Fin 128) :
    Host.dynamicSlice S1x16x4x128 x (fun k => (((![(constantI S_ 32 (BitVec.ofNat 32 j) : S_.Idx → BitVec 32),
      constantI S_ 32 0#32, constantI S_ 32 0#32, constantI S_ 32 0#32] : Fin 4 → (S_.Idx → BitVec 32))) k (Shape.Idx.first h_S_)).toInt)
      sliceFits_S2048x16x4x128_S1x16x4x128 (ix4 0 b h d) = x (ix4 ⟨j, hj⟩ b h d) := by
  refine (congrFun (dynamicSlice_eq_extract S1x16x4x128 x _ _ ![j, 0, 0, 0] ⟨rfl, fun a => by
    match a with
    | ⟨0, _⟩ => exact (by omega : j + 1 ≤ 2048)
    | ⟨1, _⟩ => exact (by decide : 0 + 16 ≤ 16)
    | ⟨2, _⟩ => exact (by decide : 0 + 4 ≤ 4)
    | ⟨3, _⟩ => exact (by decide : 0 + 128 ≤ 128)⟩ fun a => by
    match a with
    | ⟨0, _⟩ => exact toInt_ofNat_of_lt (w := 32) (a := j) (by omega)
    | ⟨1, _⟩ => rfl
    | ⟨2, _⟩ => rfl
    | ⟨3, _⟩ => rfl) _).trans ?_
  pointwise []
/-- One token's gates of the stacked gates. -/
theorem row_apply (x : S2048x16x4.Idx → EReal) (j : ℕ) (hj : j < 2048) (b : Fin 16) (h : Fin 4) :
    Host.dynamicSlice S1x16x4 x (fun k => (((![(constantI S_ 32 (BitVec.ofNat 32 j) : S_.Idx → BitVec 32),
      constantI S_ 32 0#32, constantI S_ 32 0#32] : Fin 3 → (S_.Idx → BitVec 32))) k (Shape.Idx.first h_S_)).toInt)
      sliceFits_S2048x16x4_S1x16x4 (ix3 0 b h) = x (ix3 ⟨j, hj⟩ b h) := by
  refine (congrFun (dynamicSlice_eq_extract S1x16x4 x _ _ ![j, 0, 0] ⟨rfl, fun a => by
    match a with
    | ⟨0, _⟩ => exact (by omega : j + 1 ≤ 2048)
    | ⟨1, _⟩ => exact (by decide : 0 + 16 ≤ 16)
    | ⟨2, _⟩ => exact (by decide : 0 + 4 ≤ 4)⟩ fun a => by
    match a with
    | ⟨0, _⟩ => exact toInt_ofNat_of_lt (w := 32) (a := j) (by omega)
    | ⟨1, _⟩ => rfl
    | ⟨2, _⟩ => rfl) _).trans ?_
  pointwise []

/-- Token `j`'s slab replaced: there the new one, elsewhere as before. -/
theorem put_apply (x : S2048x16x4x128.Idx → EReal) (y : S1x16x4x128.Idx → EReal) (j : ℕ) (hj : j < 2048) (t : Fin 2048)
    (b : Fin 16) (h : Fin 4) (d : Fin 128) :
    Host.dynamicUpdateSlice x y (fun k => (((![(constantI S_ 32 (BitVec.ofNat 32 j) : S_.Idx → BitVec 32),
      constantI S_ 32 0#32, constantI S_ 32 0#32, constantI S_ 32 0#32] : Fin 4 → (S_.Idx → BitVec 32))) k (Shape.Idx.first h_S_)).toInt)
      updateFits_S2048x16x4x128_S1x16x4x128 (ix4 t b h d) = if t.val = j then y (ix4 0 b h d) else x (ix4 t b h d) := by
  refine (congrFun (dynamicUpdateSlice_eq_update x y _ _ ![j, 0, 0, 0] ⟨rfl, fun a => by
    match a with
    | ⟨0, _⟩ => exact (by omega : j + 1 ≤ 2048)
    | ⟨1, _⟩ => exact (by decide : 0 + 16 ≤ 16)
    | ⟨2, _⟩ => exact (by decide : 0 + 4 ≤ 4)
    | ⟨3, _⟩ => exact (by decide : 0 + 128 ≤ 128)⟩ fun a => by
    match a with
    | ⟨0, _⟩ => exact toInt_ofNat_of_lt (w := 32) (a := j) (by omega)
    | ⟨1, _⟩ => rfl
    | ⟨2, _⟩ => rfl
    | ⟨3, _⟩ => rfl) _).trans ?_
  unfold updateSlice
  by_cases e : t.val = j
  · rw [if_pos e, dif_pos fun a => ?_]
    · refine congrArg y (funext fun a => ?_)
      match a with
      | ⟨0, _⟩ => exact Fin.ext (by show t.val - j = 0; omega)
      | ⟨1, _⟩ => rfl
      | ⟨2, _⟩ => rfl
      | ⟨3, _⟩ => rfl
    · match a with
      | ⟨0, _⟩ => exact (by omega : j ≤ t.val ∧ t.val < j + 1)
      | ⟨1, _⟩ => exact (by omega : 0 ≤ b.val ∧ b.val < 0 + 16)
      | ⟨2, _⟩ => exact (by omega : 0 ≤ h.val ∧ h.val < 0 + 4)
      | ⟨3, _⟩ => exact (by omega : 0 ≤ d.val ∧ d.val < 0 + 128)
  · rw [if_neg e, dif_neg fun hin => e ?_]
    have h0 : j ≤ t.val ∧ t.val < j + 1 := hin 0
    omega

/-- A trip's new state and its output row, entry by entry. -/
theorem b37_apply (s : Step.State Ideal) (j : ℕ) (hj : j < 2048) (b : Fin 16) (h : Fin 4) (d e : Fin 128) :
    Step.b37 j s (ix4 b h d e) = s.main_v79_6 (ix4 b h d e) * Ideal.exp (s.main_v79_3 (ix3 ⟨j, hj⟩ b h))
      + s.main_v79_1 (ix4 ⟨j, hj⟩ b h d) * (s.main_v79_4 (ix3 ⟨j, hj⟩ b h) * (s.main_v79_2 (ix4 ⟨j, hj⟩ b h e)
        - ∑ x, s.main_v79_1 (ix4 ⟨j, hj⟩ b h x) * (s.main_v79_6 (ix4 b h x e) * Ideal.exp (s.main_v79_3 (ix3 ⟨j, hj⟩ b h))))) := by
  have e3 : Step.b17 j s (ix3 0 b h) = s.main_v79_3 (ix3 ⟨j, hj⟩ b h) := row_apply _ j hj b h
  have e4 : Step.b21 j s (ix3 0 b h) = s.main_v79_4 (ix3 ⟨j, hj⟩ b h) := row_apply _ j hj b h
  have e1 : ∀ d, Step.b8 j s (ix4 0 b h d) = s.main_v79_1 (ix4 ⟨j, hj⟩ b h d) := fun d => slab_apply _ j hj b h d
  have e2 : ∀ d, Step.b13 j s (ix4 0 b h d) = s.main_v79_2 (ix4 ⟨j, hj⟩ b h d) := fun d => slab_apply _ j hj b h d
  pointwise [Step.b9, Step.b14, Step.b26, Step.b25, Step.b24, Step.b23, Step.b37, Step.b36, Step.b35, Step.b34, Step.b33, Step.b32, Step.b31,
    Step.b30, Step.b29, Step.b28, Step.b27, Step.b22, Step.b18, dot_S16x4x128_S16x4x128x128_S16x4x128_2_2_n_3_01_01]
  simp only [e1, e2, e3, e4]
/-- The corrected value of a step. -/
theorem b39_apply (s : Step.State Ideal) (j : ℕ) (hj : j < 2048) (b : Fin 16) (h : Fin 4) (e : Fin 128) :
    Step.b39 j s (ix4 0 b h e) = ∑ x, s.main_v79_0 (ix4 ⟨j, hj⟩ b h x) * Step.b37 j s (ix4 b h x e) := by
  have e0 : ∀ d, Step.b3 j s (ix4 0 b h d) = s.main_v79_0 (ix4 ⟨j, hj⟩ b h d) := fun d => slab_apply _ j hj b h d
  pointwise [Step.b39, Step.b38, Step.b4, dot_S16x4x128_S16x4x128x128_S16x4x128_2_2_n_3_01_01]
  simp only [e0]

/-- A state of the loop is the recurrences' before token `n`. -/
structure Inv (cols : Fin 16 → Fin 4 → Cols) (n : ℕ) (s : Step.State Ideal) : Prop where
  q : ∀ (t : Fin 2048) b h d, s.main_v79_0 (ix4 t b h d) = (((cols b h).seq.q t.val d : ℝ) : EReal)
  k : ∀ (t : Fin 2048) b h d, s.main_v79_1 (ix4 t b h d) = (((cols b h).seq.k t.val d : ℝ) : EReal)
  v : ∀ (t : Fin 2048) b h d, s.main_v79_2 (ix4 t b h d) = (((cols b h).seq.v t.val d : ℝ) : EReal)
  g : ∀ (t : Fin 2048) b h, s.main_v79_3 (ix3 t b h) = (((cols b h).seq.g t.val : ℝ) : EReal)
  β : ∀ (t : Fin 2048) b h, s.main_v79_4 (ix3 t b h) = (((cols b h).seq.β t.val : ℝ) : EReal)
  st : ∀ b h d e, s.main_v79_6 (ix4 b h d e) = (((cols b h).seq.state n d e : ℝ) : EReal)
  o : ∀ (t : Fin 2048) b h e, t.val < n → s.main_v79_7 (ix4 t b h e) = (((cols b h).seq.out t.val e : ℝ) : EReal)

/-- One trip is one token. -/
theorem Inv.step {cols : Fin 16 → Fin 4 → Cols} {k : ℕ} {s : Step.State Ideal} (I : Inv cols k s) (hk : k < 2048) :
    Inv cols (k + 1) (Step.step k s) := by
  have est : ∀ b h d e, Step.b37 k s (ix4 b h d e) = (((cols b h).seq.state (k + 1) d e : ℝ) : EReal) := by
    intro b h d e
    rw [b37_apply s k hk, Seq.state_succ, Seq.delta, Seq.deltaOf]
    simp only [I.k, I.v, I.g, I.β, I.st, Ideal.exp_coe, ← EReal.coe_mul, ← coe_sum, ← EReal.coe_sub, ← EReal.coe_add]
  refine ⟨I.q, I.k, I.v, I.g, I.β, est, fun t b h e ht => ?_⟩
  refine (put_apply _ _ k hk t b h e).trans ?_
  split
  · rename_i htk
    refine (b39_apply s k hk b h e).trans ?_
    rw [Seq.out, htk]
    simp only [I.q, est, ← EReal.coe_mul, ← coe_sum]
  · exact I.o t b h e (by omega)

section Source

variable (p : (⟨S16x2048x3020, .f32⟩ : BufTy).Contents (Elt Ideal)) (w : (⟨S4x1536, .f32⟩ : BufTy).Contents (Elt Ideal))
  (al dt : (⟨S4, .f32⟩ : BufTy).Contents (Elt Ideal))

/-- A column of a batch entry, a channel's taps, and a head's columns, as reals. -/
def col (b : Fin 16) (c : Fin 3020) (t : ℕ) : ℝ := (p (ix3 b (⟨t % 2048, Nat.mod_lt _ (by decide)⟩ : Fin 2048) c)).toReal
def taps (c : Fin 1536) (j : Fin 4) : ℝ := (w (ix2 j c)).toReal
def cols (b : Fin 16) (h : Fin 4) : Cols where
  xq d := col p b ⟨h.val * 128 + d.val, by omega⟩
  xk d := col p b ⟨512 + (h.val * 128 + d.val), by omega⟩
  xv d := col p b ⟨1024 + (h.val * 128 + d.val), by omega⟩
  wq d := taps w ⟨h.val * 128 + d.val, by omega⟩
  wk d := taps w ⟨512 + (h.val * 128 + d.val), by omega⟩
  wv d := taps w ⟨1024 + (h.val * 128 + d.val), by omega⟩
  xb := col p b ⟨2048 + h.val, by omega⟩
  xa := col p b ⟨2052 + h.val, by omega⟩
  al := (al (ix1 h)).toReal
  dt := (dt (ix1 h)).toReal

variable (hp : ∀ i, p i = ((p i).toReal : EReal)) (hw : ∀ i, w i = ((w i).toReal : EReal))
  (hal : ∀ i, al i = ((al i).toReal : EReal)) (hdt : ∀ i, dt i = ((dt i).toReal : EReal))

include hp in
/-- An entry of a column. -/
theorem col_coe (b : Fin 16) (t : Fin 2048) (c : Fin 3020) : p (ix3 b t c) = ((col p b c t.val : ℝ) : EReal) := by
  rw [hp]
  refine congrArg (fun t => ((p (ix3 b t c)).toReal : EReal)) (Fin.ext ?_)
  exact (Nat.mod_eq_of_lt t.isLt).symm
include hp in
/-- An entry some tokens back. -/
theorem back_coe (b : Fin 16) (t : Fin 2048) (c : Fin 3020) (j i : ℕ) (hij : i + j = 3) :
    (if h : i + t.val < 3 then (0 : EReal) else p (ix3 b (⟨i + t.val - 3, by omega⟩ : Fin 2048) c)) = ((back (col p b c) t.val j : ℝ) : EReal) := by
  rw [back, coe_ite]
  by_cases h : i + t.val < 3
  · rw [dif_pos h, if_pos (by omega)]; rfl
  · rw [dif_neg h, if_neg (by omega), col_coe p hp]
    exact congrArg (fun t => ((col p b c t : ℝ) : EReal)) (by show i + t.val - 3 = t.val - j; omega)

include hp hw in
/-- The reference's convolution. -/
theorem conv_coe (b : Fin 16) (t : Fin 2048) (c : Fin 1536) :
    Step.A_main_v31 p w al dt (ix3 b t c) = ((convR (col p b ⟨c.val, by omega⟩) (taps w c) t.val : ℝ) : EReal) := by
  have e : Step.A_main_v31 p w al dt (ix3 b t c)
      = w (ix2 0 c) * (if h : 0 + t.val < 3 then (0 : EReal) else p (ix3 b (⟨0 + t.val - 3, by omega⟩ : Fin 2048) ⟨c.val, by omega⟩))
      + w (ix2 1 c) * (if h : 1 + t.val < 3 then (0 : EReal) else p (ix3 b (⟨1 + t.val - 3, by omega⟩ : Fin 2048) ⟨c.val, by omega⟩))
      + w (ix2 2 c) * (if h : 2 + t.val < 3 then (0 : EReal) else p (ix3 b (⟨2 + t.val - 3, by omega⟩ : Fin 2048) ⟨c.val, by omega⟩))
      + w (ix2 3 c) * p (ix3 b t ⟨c.val, by omega⟩) := by
    simp only [Nat.zero_add]
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_v31, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
  rw [e, back_coe p hp _ _ _ 3 0 rfl, back_coe p hp _ _ _ 2 1 rfl, back_coe p hp _ _ _ 1 2 rfl, col_coe p hp,
    hw (ix2 0 c), hw (ix2 1 c), hw (ix2 2 c), hw (ix2 3 c)]
  simp only [← EReal.coe_mul, ← EReal.coe_add]
  rfl

include hp hw in
/-- The gates, the rows and the first state of the reference. -/
theorem q_coe (t : Fin 2048) (b : Fin 16) (h : Fin 4) (d : Fin 128) :
    Step.A_main_v72 p w al dt (ix4 t b h d) = (((cols p w al dt b h).seq.q t.val d : ℝ) : EReal) := by
  have e : Step.A_main_v72 p w al dt (ix4 t b h d) = (fun s : Fin 128 → EReal => s d * Ideal.rsqrt ((∑ e, s e * s e) + Ideal.ofBits .f32 0x358637BD#32)
      * Ideal.ofBits .f32 0x3DB504F3#32) fun e => Step.A_main_v31 p w al dt (ix3 b t ⟨h.val * 128 + e.val, by omega⟩)
        * Ideal.div 1 (1 + Ideal.exp (-Step.A_main_v31 p w al dt (ix3 b t ⟨h.val * 128 + e.val, by omega⟩))) := by
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
  rw [e]
  simp only [conv_coe p w al dt hp hw, silu_coe]
  rw [unit_coe fun e => siluR (convR (col p b ⟨h.val * 128 + e.val, by omega⟩) (taps w ⟨h.val * 128 + e.val, by omega⟩) t.val),
    scale_coe, ← EReal.coe_mul]
  rfl
include hp hw in
/-- The keys are the recurrence's. -/
theorem k_coe (t : Fin 2048) (b : Fin 16) (h : Fin 4) (d : Fin 128) :
    Step.A_main_v73 p w al dt (ix4 t b h d) = (((cols p w al dt b h).seq.k t.val d : ℝ) : EReal) := by
  have e : Step.A_main_v73 p w al dt (ix4 t b h d) = (fun s : Fin 128 → EReal => s d * Ideal.rsqrt ((∑ e, s e * s e) + Ideal.ofBits .f32 0x358637BD#32))
      fun e => Step.A_main_v31 p w al dt (ix3 b t ⟨512 + (h.val * 128 + e.val), by omega⟩)
        * Ideal.div 1 (1 + Ideal.exp (-Step.A_main_v31 p w al dt (ix3 b t ⟨512 + (h.val * 128 + e.val), by omega⟩))) := by
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
  rw [e]
  simp only [conv_coe p w al dt hp hw, silu_coe]
  rw [unit_coe fun e => siluR (convR (col p b ⟨512 + (h.val * 128 + e.val), by omega⟩) (taps w ⟨512 + (h.val * 128 + e.val), by omega⟩) t.val)]
  rfl
include hp hw in
/-- The values are the recurrence's. -/
theorem v_coe (t : Fin 2048) (b : Fin 16) (h : Fin 4) (d : Fin 128) :
    Step.A_main_v74 p w al dt (ix4 t b h d) = (((cols p w al dt b h).seq.v t.val d : ℝ) : EReal) := by
  have e : Step.A_main_v74 p w al dt (ix4 t b h d) = Step.A_main_v31 p w al dt (ix3 b t ⟨1024 + (h.val * 128 + d.val), by omega⟩)
        * Ideal.div 1 (1 + Ideal.exp (-Step.A_main_v31 p w al dt (ix3 b t ⟨1024 + (h.val * 128 + d.val), by omega⟩))) := by
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
  rw [e, conv_coe p w al dt hp hw, silu_coe]
  rfl
include hp hal hdt in
/-- The logarithms of the decays are the recurrence's. -/
theorem g_coe (t : Fin 2048) (b : Fin 16) (h : Fin 4) :
    Step.A_main_v75 p w al dt (ix3 t b h) = (((cols p w al dt b h).seq.g t.val : ℝ) : EReal) := by
  have e : Step.A_main_v75 p w al dt (ix3 t b h) = (fun y : EReal => -Ideal.exp (al (ix1 h)) * if y ≠ y then y else
      (max y 0 + Ideal.log (1 + Ideal.exp (-(max y (-y)))))) (p (ix3 b t ⟨2052 + h.val, by omega⟩) + dt (ix1 h)) := by
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
    rfl
  rw [e, col_coe p hp, hal, hdt, ← EReal.coe_add]
  simp only [ne_eq, not_true_eq_false, if_false]
  rw [soft_coe, Ideal.exp_coe, ← EReal.coe_neg, ← EReal.coe_mul]
  rfl
include hp in
/-- The write strengths are the recurrence's. -/
theorem β_coe (t : Fin 2048) (b : Fin 16) (h : Fin 4) :
    Step.A_main_v76 p w al dt (ix3 t b h) = (((cols p w al dt b h).seq.β t.val : ℝ) : EReal) := by
  have e : Step.A_main_v76 p w al dt (ix3 t b h) = Ideal.div 1 (1 + Ideal.exp (-p (ix3 b t ⟨2048 + h.val, by omega⟩))) := by
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
  rw [e, col_coe p hp, sig_coe]
  rfl

include hp hw hal hdt in
/-- The loop starts with zero states. -/
theorem Inv.init : Inv (cols p w al dt) 0 (Step.init p w al dt) where
  q := q_coe p w al dt hp hw
  k := k_coe p w al dt hp hw
  v := v_coe p w al dt hp hw
  g := g_coe p w al dt hp hal hdt
  β := β_coe p w al dt hp
  st := fun b h d e => by
    show Step.K_main_v77 (F := Ideal) (ix4 b h d e) = ((0 : ℝ) : EReal)
    pointwise [Step.K_main_cst, Step.K_main_v3, Step.K_main_call0_cst, Step.K_main_call0_v2, Step.K_main_call0_cst_0, Step.K_main_call0_v4, Step.K_main_cst_0, Step.K_main_cst_1, Step.K_main_v38, Step.K_main_cst_2, Step.K_main_cst_3, Step.K_main_v48, Step.K_main_cst_4, Step.K_main_v57, Step.K_main_cst_5, Step.K_main_v59, Step.K_main_call1_cst, Step.K_main_call1_v0, Step.K_main_call1_v2, Step.K_main_call1_v5, Step.K_main_cst_6, Step.K_main_v70, Step.K_main_cst_7, Step.K_main_v77, Step.K_main_cst_8, Step.K_main_v78, Step.K_main_c, Step.A_main_v0, Step.A_main_v1, Step.A_main_v2, Step.A_main_v4, Step.A_main_v5, Step.A_main_v6, Step.A_main_v7, Step.A_main_v8, Step.A_main_v9, Step.A_main_v10, Step.A_main_v11, Step.A_main_v12, Step.A_main_v13, Step.A_main_v14, Step.A_main_v15, Step.A_main_v16, Step.A_main_v17, Step.A_main_v18, Step.A_main_v19, Step.A_main_v20, Step.A_main_v21, Step.A_main_v22, Step.A_main_v23, Step.A_main_v24, Step.A_main_v25, Step.A_main_v26, Step.A_main_v27, Step.A_main_v28, Step.A_main_v29, Step.A_main_v30, Step.A_main_call0_v0, Step.A_main_call0_v1, Step.A_main_call0_v3, Step.A_main_call0_v5, Step.A_main_v32, Step.A_main_v33, Step.A_main_v34, Step.A_main_v35, Step.A_main_v36, Step.A_main_v37, Step.A_main_v39, Step.A_main_v40, Step.A_main_v41, Step.A_main_v42, Step.A_main_v43, Step.A_main_v44, Step.A_main_v45, Step.A_main_v46, Step.A_main_v47, Step.A_main_v49, Step.A_main_v50, Step.A_main_v51, Step.A_main_v52, Step.A_main_v53, Step.A_main_v54, Step.A_main_v55, Step.A_main_v56, Step.A_main_v58, Step.A_main_v60, Step.A_main_v61, Step.A_main_v62, Step.A_main_v63, Step.A_main_v64, Step.A_main_v65, Step.A_main_call1_v1, Step.A_main_call1_v3, Step.A_main_call1_v4, Step.A_main_call1_v6, Step.A_main_call1_v7, Step.A_main_call1_v8, Step.A_main_call1_v9, Step.A_main_call1_v10, Step.A_main_call1_v11, Step.A_main_v66, Step.A_main_v67, Step.A_main_v68, Step.A_main_v69, Step.A_main_v71, Step.A_main_v72, Step.A_main_v73, Step.A_main_v74, Step.A_main_v75, Step.A_main_v76]
    rfl
  o := fun _ _ _ _ ht => absurd ht (Nat.not_lt_zero _)

/-- The loop's last state, and every one before. -/
theorem inv (m : (ℓ : Loc nD τ sig) → Buf (Elt Ideal) ℓ) (c : Dev nD) (p w al dt)
    (ep : m ((c.tc : Thread nD τ).loc main_arg0) = p) (ew : m ((c.tc : Thread nD τ).loc main_arg1) = w)
    (ea : m ((c.tc : Thread nD τ).loc main_arg2) = al) (ed : m ((c.tc : Thread nD τ).loc main_arg3) = dt)
    (hp : ∀ i, p i = ((p i).toReal : EReal)) (hw : ∀ i, w i = ((w i).toReal : EReal))
    (hal : ∀ i, al i = ((al i).toReal : EReal)) (hdt : ∀ i, dt i = ((dt i).toReal : EReal)) :
    ∀ k : ℕ, k ≤ 2048 → Inv (cols p w al dt) k (state m c k)
  | 0, _ => by
    subst ep ew ea ed
    exact Inv.init _ _ _ _ hp hw hal hdt
  | k + 1, hk => (inv m c p w al dt ep ew ea ed hp hw hal hdt k (by omega)).step (by omega)

end Source

/-- The result, entry by entry, of the loop's last state. -/
theorem R_apply (s : Step.State Ideal) (p : (⟨S16x2048x3020, .f32⟩ : BufTy).Contents (Elt Ideal))
    (ng : (⟨S128, .f32⟩ : BufTy).Contents (Elt Ideal)) (C : Fin 16 → Fin 4 → Cols) (I : Inv C 2048 s)
    (b : Fin 16) (t : Fin 2048) (h : Fin 4) (e : Fin 128) :
    Step.R_main_v99 s p ng (ix3 b t (⟨h.val * 128 + e.val, by omega⟩ : Fin 512)) = outE ((C b h).seq.out t.val)
      (fun d => ng (ix1 d)) (fun d => p (ix3 b t (⟨1536 + (h.val * 128 + d.val), by omega⟩ : Fin 3020))) e := by
  have o : ∀ e, s.main_v79_7 (ix4 t b h e) = (((C b h).seq.out t.val e : ℝ) : EReal) := fun e => I.o t b h e t.isLt
  unfold outE
  simp only [← o]
  pointwise [Step.R_main_v99]

/-- The reference's result is that of the loop's last state. -/
theorem out_eq (m : (ℓ : Loc nD τ sig) → Buf (Elt Ideal) ℓ) (c : Dev nD) :
    Value.out_main_v99 (Value.STEP^[2048] (Idealize.ShloMosaic.StableHlo.entryContents Value.preI m c))
      = Step.R_main_v99 (state m c 2048) (m ((c.tc : Thread nD τ).loc main_arg0)) (m ((c.tc : Thread nD τ).loc main_arg4)) := by
  unfold Value.out_main_v99
  rw [(holds m c 2048).o, Value.iter_main_arg0, Value.iter_main_arg4]
  rfl

end Cert.Delta.Ref
-- ==== Proof.Dn.Final.lean ====
module

public import proofs.«01_k».proof.Proof.Dn.Kern
public import proofs.«01_k».proof.Proof.Dn.Host
public import proofs.«01_k».proof.Proof.Dn.Ref
public import proofs.«01_k».proof.Proof.Gen.KernelIdeal.Value

/-! The kernel's result array: at each token and head the recurrence's output, normed and gated. -/

@[expose] public section

noncomputable section

namespace Cert.Delta

open Cert.KernelIdeal Cert.KernelIdeal.Gen Idealize.ShloMosaic Idealize.ShloMosaic.TcCoe

/-! ## The output block's stores tile it -/

/-- A chunk's store holds a function of the block's places where its slab does. -/
theorem piece (f : Fin 16 → Vec Ideal S1x128x128 .bf16) (G : S1x2048x128.Idx → EReal)
    (H : ∀ (n : Fin 16) (i e : Fin 128), f n (ix3 0 i e) = G (ix3 0 (⟨128 * n.val + i.val, by omega⟩ : Fin 2048) e))
    (n : Fin 16) (o : ℕ) (ho : o = 128 * n.val) (inb : ∀ a, (![0, o, 0] : Fin 3 → ℕ) a + S1x128x128.size a ≤ S1x2048x128.size a)
    (x : S1x128x128.Idx) : f n x = G ((Rect.unit (s := S1x2048x128) ![0, o, 0] S1x128x128.size inb).emb x) := by
  subst ho
  refine (congrArg (f n) (eq_ix3 (n0 := 1) (n1 := 128) (n2 := 128) x)).trans ?_
  have h0 : x 0 = (0 : Fin 1) := Subsingleton.elim (α := Fin 1) _ _
  refine (congrArg (fun z : Fin 1 => f n (ix3 z (x 1) (x 2))) h0).trans ((H n (x 1) (x 2)).trans (congrArg G ?_))
  funext a
  match a with
  | ⟨0, _⟩ => exact Fin.ext ((show 0 = 0 + (x 0).val by rw [h0]; rfl).trans (ValueKit.rect_emb_unit_val (s := S1x2048x128) ![0, 128 * n.val, 0] S1x128x128.size inb x (0 : Fin 3)).symm)
  | ⟨1, _⟩ => exact Fin.ext (ValueKit.rect_emb_unit_val (s := S1x2048x128) ![0, 128 * n.val, 0] S1x128x128.size inb x (1 : Fin 3)).symm
  | ⟨2, _⟩ => exact Fin.ext ((Nat.zero_add (x 2).val).symm.trans (ValueKit.rect_emb_unit_val (s := S1x2048x128) ![0, 128 * n.val, 0] S1x128x128.size inb x (2 : Fin 3)).symm)

/-- So do all sixteen. -/
theorem pieces (f : Fin 16 → Vec Ideal S1x128x128 .bf16) (G : S1x2048x128.Idx → EReal)
    (H : ∀ (n : Fin 16) (i e : Fin 128), f n (ix3 0 i e) = G (ix3 0 (⟨128 * n.val + i.val, by omega⟩ : Fin 2048) e)) :
    ∀ p ∈ outsUp f (outs6 f), ∀ x : p.1.shape.Idx, p.2 x = G (p.1.emb x) := by
  simp only [outsUp, outs6, List.cons_append, List.nil_append, List.forall_mem_cons]
  refine ⟨piece f G H 15 1920 rfl _,
    piece f G H 14 1792 rfl _,
    piece f G H 13 1664 rfl _,
    piece f G H 12 1536 rfl _,
    piece f G H 11 1408 rfl _,
    piece f G H 10 1280 rfl _,
    piece f G H 9 1152 rfl _,
    piece f G H 8 1024 rfl _,
    piece f G H 7 896 rfl _,
    piece f G H 6 768 rfl _,
    piece f G H 5 640 rfl _,
    piece f G H 4 512 rfl _,
    piece f G H 3 384 rfl _,
    piece f G H 2 256 rfl _,
    piece f G H 1 128 rfl _,
    piece f G H 0 0 rfl _, fun p hp => absurd hp List.not_mem_nil⟩

variable (m : (ℓ : Loc nD τ sig) → Buf (Elt Ideal) ℓ) (c : Dev nD)

/-- The body's run at a grid point. -/
def runAt (t : Fin cfg0.N) : Run Ideal where
  c := c
  i := grid0.coords t
  arg2 := ms0_0 t
  harg2 := hs0_0 t
  arg3 := ms0_1 t
  harg3 := hs0_1 t
  arg4 := ms0_2 t
  harg4 := hs0_2 t
  arg5 := ms0_3 t
  harg5 := hs0_3 t
  arg6 := ms0_4 t
  harg6 := hs0_4 t
  arg7 := ms0_5 t
  harg7 := hs0_5 t
  arg8 := ms0_6 t
  harg8 := hs0_6 t
  arg9 := ms0_7 t
  harg9 := hs0_7 t
  arg10 := ms0_8 t
  harg10 := hs0_8 t
  arg11 := ms0_9 t
  harg11 := hs0_9 t
  arg12 := ms0_10 t
  harg12 := hs0_10 t
  arg13 := ms0_11 t
  harg13 := hs0_11 t
  arg14 := scM0_0
  harg14 := Memref.isWhole_whole _
  arg15 := scM0_1
  harg15 := Memref.isWhole_whole _
  arg16 := scM0_2
  harg16 := Memref.isWhole_whole _
  arg17 := scM0_3
  harg17 := Memref.isWhole_whole _
  arg18 := scM0_4
  harg18 := Memref.isWhole_whole _
  arg19 := scM0_5
  harg19 := Memref.isWhole_whole _
  arg20 := scM0_6
  harg20 := Memref.isWhole_whole _
  arg21 := scM0_7
  harg21 := Memref.isWhole_whole _
  arg22 := scM0_8
  harg22 := Memref.isWhole_whole _
  arg23 := scM0_9
  harg23 := Memref.isWhole_whole _
  arg24 := scM0_10
  harg24 := Memref.isWhole_whole _
  arg25 := scM0_11
  harg25 := Memref.isWhole_whole _
  arg26 := scM0_12
  harg26 := Memref.isWhole_whole _
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t

/-- The sixteen stores cover the output block. -/
theorem Run.cover (r : Run Ideal) (y : S1x2048x128.Idx) :
    ∃ p ∈ outsUp (F := Ideal) r.out (outs6 (F := Ideal) r.out), y ∈ p.1.set := by
  have h := cover0_A_11 r.c r.i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 r.arg14 r.harg14 r.arg15 r.harg15 r.arg16 r.harg16 r.arg17 r.harg17 r.arg18 r.harg18 r.arg19 r.harg19 r.arg20 r.harg20 r.arg21 r.harg21 r.arg22 r.harg22 r.arg23 r.harg23 r.arg24 r.harg24 r.arg25 r.harg25 r.arg26 r.harg26 r.x0 r.x1 r.x2 r.x3 r.x4 r.x5 r.x6 r.x7 r.x8 r.x9 r.x10 y
  rw [r.stores_out] at h
  exact h

/-- What a run leaves in the output block. -/
theorem Run.block (r : Run Ideal) :
    out0_A_11 r.c r.i r.arg2 r.harg2 r.arg3 r.harg3 r.arg4 r.harg4 r.arg5 r.harg5 r.arg6 r.harg6 r.arg7 r.harg7 r.arg8 r.harg8 r.arg9 r.harg9 r.arg10 r.harg10 r.arg11 r.harg11 r.arg12 r.harg12 r.arg13 r.harg13 r.arg14 r.harg14 r.arg15 r.harg15 r.arg16 r.harg16 r.arg17 r.harg17 r.arg18 r.harg18 r.arg19 r.harg19 r.arg20 r.harg20 r.arg21 r.harg21 r.arg22 r.harg22 r.arg23 r.harg23 r.arg24 r.harg24 r.arg25 r.harg25 r.arg26 r.harg26 r.x0 r.x1 r.x2 r.x3 r.x4 r.x5 r.x6 r.x7 r.x8 r.x9 r.x10 = View.canon (outsUp (F := Ideal) r.out (outs6 (F := Ideal) r.out)) :=
  (congrArg (fun L => VO0_11.read (Elt Ideal) (VO0_11.writes (Elt Ideal) VO0_11.junk L)) r.stores_out).trans
    (View.read_writes_eq_canon VO0_11 VO0_11.junk _ r.cover)

set_option maxHeartbeats 4000000 in
/-- What a point leaves in the output block: its run's sixteen stores. -/
theorem outsAt_eq (t : Fin cfg0.N) :
    outsAt0 m c t = View.canon (outsUp (F := Ideal) (runAt m c t).out (outs6 (F := Ideal) (runAt m c t).out)) :=
  (runAt m c t).block

/-! ## The result -/

section
variable (p : S16x2048x3020.Idx → EReal) (w : S4x1536.Idx → EReal) (al dt : S4.Idx → EReal) (ng : S128.Idx → EReal)

/-- Head `h`'s output `e` at token `t` of sequence `b`. -/
def resAt (b : Fin 16) (t : Fin 2048) (h : Fin 4) (e : Fin 128) : EReal :=
  outE ((Ref.cols p w al dt b h).seq.out t.val) (fun d => ng (ix1 d)) (fun d => p (ix3 b t (⟨1536 + (h.val * 128 + d.val), by omega⟩ : Fin 3020))) e

/-- The result array: the heads side by side. -/
def result (i : S16x2048x512.Idx) : EReal :=
  resAt p w al dt ng (i 0) (i 1) (⟨(i 2).val / 128, by have : (i 2).val < 512 := (i 2).isLt; omega⟩ : Fin 4) (⟨(i 2).val % 128, by omega⟩ : Fin 128)

/-- Its columns, head by head. -/
theorem result_apply (b : Fin 16) (t : Fin 2048) (h : Fin 4) (e : Fin 128) :
    result p w al dt ng (ix3 b t (⟨h.val * 128 + e.val, by omega⟩ : Fin 512)) = resAt p w al dt ng b t h e := by
  have h1 : (⟨(h.val * 128 + e.val) / 128, by omega⟩ : Fin 4) = h := Fin.ext (by show (h.val * 128 + e.val) / 128 = h.val; omega)
  have h2 : (⟨(h.val * 128 + e.val) % 128, by omega⟩ : Fin 128) = e := Fin.ext (by show (h.val * 128 + e.val) % 128 = e.val; omega)
  show resAt p w al dt ng b t (⟨(h.val * 128 + e.val) / 128, _⟩ : Fin 4) (⟨(h.val * 128 + e.val) % 128, _⟩ : Fin 128) = _
  rw [h1, h2]

variable (ep : ∀ i : S16x2048x3020.Idx, m ((c.tc : Thread nD τ).loc main_arg0) i = p i) (ew : ∀ i : S4x1536.Idx, m ((c.tc : Thread nD τ).loc main_arg1) i = w i)
  (ea : ∀ i : S4.Idx, m ((c.tc : Thread nD τ).loc main_arg2) i = al i) (ed : ∀ i : S4.Idx, m ((c.tc : Thread nD τ).loc main_arg3) i = dt i) (en : ∀ i : S128.Idx, m ((c.tc : Thread nD τ).loc main_arg4) i = ng i)
  (hp : ∀ i, p i = ((p i).toReal : EReal)) (hw : ∀ i, w i = ((w i).toReal : EReal))
  (hal : ∀ i, al i = ((al i).toReal : EReal)) (hdt : ∀ i, dt i = ((dt i).toReal : EReal))

set_option maxHeartbeats 4000000 in
include ep ew ea ed hp hw hal hdt in
/-- A point's run reads its sequence's and its head's columns. -/
theorem reads (t : Fin cfg0.N) : (runAt m c t).ReadsCols (ptH t) (Ref.cols p w al dt (ptB t) (ptH t)) where
  hh := coord1 t
  hxq s d := (b0 m c t s d).trans ((ep _).trans (Ref.col_coe p hp _ _ _))
  hxk s d := (b1 m c t s d).trans ((ep _).trans (Ref.col_coe p hp _ _ _))
  hxv s d := (b2 m c t s d).trans ((ep _).trans (Ref.col_coe p hp _ _ _))
  hxb s := (b4 m c t s (t.val % 4) (by omega)).trans ((ep _).trans (Ref.col_coe p hp _ _ _))
  hxa s := (congrArg (fun k : Fin 128 => iblk m c 4 t (ix3 0 s k)) (Fin.ext (show 68 + t.val % 4 = 64 + (4 + t.val % 4) by omega))).trans
    ((b4 m c t s (4 + t.val % 4) (by omega)).trans ((ep _).trans ((Ref.col_coe p hp _ _ _).trans
      (congrArg (fun k : Fin 3020 => ((Ref.col p (ptB t) k s.val : ℝ) : EReal)) (Fin.ext (show 2048 + (4 + t.val % 4) = 2052 + t.val % 4 by omega))))))
  hwq j d := (b5 m c t j d).trans ((ew _).trans (hw _))
  hwk j d := (b6 m c t j d).trans ((ew _).trans (hw _))
  hwv j d := (b7 m c t j d).trans ((ew _).trans (hw _))
  hal j := (b8 m c t (ptH t) j).trans ((ea _).trans (hal _))
  hdt j := (b9 m c t (ptH t) j).trans ((ed _).trans (hdt _))

include ep ew ea ed en hp hw hal hdt in
/-- What a point leaves in the output block, entry by entry. -/
theorem outsAt_apply (t : Fin cfg0.N) (r : Fin 2048) (e : Fin 128) :
    outsAt0 m c t (ix3 0 r e) = resAt p w al dt ng (ptB t) r (ptH t) e := by
  rw [outsAt_eq]
  have hn : (fun d => (runAt m c t).x10 (ix2 0 d)) = fun d => ng (ix1 d) := funext fun d => (b10 m c t d).trans (en _)
  have hz : ∀ r : Fin 2048, (fun d => (runAt m c t).x3 (ix3 0 r d)) = fun d : Fin 128 => p (ix3 (ptB t) r (⟨1536 + ((ptH t).val * 128 + d.val), by omega⟩ : Fin 3020)) :=
    fun r => funext fun d => (b3 m c t r d).trans (ep _)
  let G : S1x2048x128.Idx → EReal := fun y => resAt p w al dt ng (ptB t) (y 1) (ptH t) (y 2)
  refine View.canon_apply_of_pieces G _ (pieces (runAt m c t).out G fun n i e => ?_) _ ((runAt m c t).cover _)
  rw [Run.out_apply (reads m c p w al dt ep ew ea ed hp hw hal hdt t), hn, hz]
  rfl

/-- The place of an output block's entry. -/
theorem place (t : Fin cfg0.N) (r : Fin 2048) (d : Fin 128) : (win0_11.blk t).view.emb (ix3 (0 : Fin 1) r d : S1x2048x128.Idx)
    = ix3 (ptB t) r (⟨(ptH t).val * 128 + d.val, by omega⟩ : Fin 512) := by
  blk_ext [e11, ptB, ptH]

include ep ew ea ed en hp hw hal hdt in
/-- What a point leaves in the output block is the result's part there. -/
theorem point (t : Fin cfg0.N) (y : S1x2048x128.Idx) : outsAt0 m c t y = result p w al dt ng ((win0_11.blk t).view.emb y) := by
  have h0 : y 0 = (0 : Fin 1) := Subsingleton.elim (α := Fin 1) _ _
  have hy : y = ix3 (0 : Fin 1) (y 1) (y 2) := (eq_ix3 (n0 := 1) (n1 := 2048) (n2 := 128) y).trans (congrArg (fun z : Fin 1 => (ix3 z (y 1) (y 2) : S1x2048x128.Idx)) h0)
  have hR : result p w al dt ng ((win0_11.blk t).view.emb y) = resAt p w al dt ng (ptB t) (y 1) (ptH t) (y 2) := by
    refine (congrArg (fun y : S1x2048x128.Idx => result p w al dt ng ((win0_11.blk t).view.emb y)) hy).trans ?_
    exact (congrArg (result p w al dt ng) (place t (y 1) (y 2))).trans (result_apply p w al dt ng _ _ _ _)
  exact (congrArg (outsAt0 m c t) hy).trans ((outsAt_apply m c p w al dt ng ep ew ea ed en hp hw hal hdt t (y 1) (y 2)).trans hR.symm)

include ep ew ea ed en hp hw hal hdt in
/-- The result array after the run. -/
theorem out_final : (dats m 0 c).arrAt 11 cfg0.N = result p w al dt ng := by
  refine (dats m 0 c).arrAt_eq_of_covers 11 _ (by decide +kernel) fun t hf y => ?_
  rw [after0_11]
  refine eq_of_heq ((cast_heq _ _).trans (heq_of_eq ?_))
  exact point m c p w al dt ng ep ew ea ed en hp hw hal hdt t y

end

end Cert.Delta
-- ==== Proof.Dn.Finite.lean ====
module

public import proofs.«01_k».proof.Pre_finite
public import Idealize.ShloMosaic.Lib.Pointwise

/-! What the precondition says: every entry is a real number. -/

@[expose] public section

noncomputable section

namespace Cert.Delta

open Idealize.ShloMosaic

/-- The precondition's shape relations: a scalar broadcasts to every shape. -/
theorem preFacts : Cert.Pre_finite.Facts := ⟨by decide, by decide, by decide⟩

/-- An extended real below infinity in absolute value is a real number. -/
theorem real_of_abs_lt (x : EReal) (h : max x (-x) < ⊤) : x = (x.toReal : EReal) := by
  refine (EReal.coe_toReal (fun e => ?_) (fun e => ?_)).symm
  · rw [e] at h; exact absurd (lt_of_le_of_lt (le_max_left _ _) h) (lt_irrefl _)
  · rw [e] at h; exact absurd (lt_of_le_of_lt (le_max_right _ _) h) (by simp)

/-- An array whose entries all compare below infinity in absolute value holds real numbers. -/
theorem real_of_olt {s : Shape} (x y : FVec Ideal s .f32) (hy : ∀ i, y i = ⊤) (h : cmpf .olt (Host.absf x) y = fun _ => 1#1) (i : s.Idx) :
    x i = ((x i).toReal : EReal) := by
  have h1 := congrFun h i
  refine real_of_abs_lt _ (hy i ▸ ?_)
  have h2 : (BitVec.ofBool (decide (max (x i) (-(x i)) < y i)) : BitVec 1) = 1#1 := h1
  by_contra hn
  rw [decide_eq_false hn] at h2
  exact absurd h2 (by decide)

/-- The precondition's bound is infinity. -/
theorem inf_top : Ideal.ofBits .f32 0x7F800000#32 = ⊤ := by
  simp [Ideal.ofBits, Ideal.ieee]

variable [Cert.Pre_finite.Facts] (a : FVec Ideal Cert.Pre_finite.S16x2048x3020 .f32) (b : FVec Ideal Cert.Pre_finite.S4x1536 .f32)
  (c d : FVec Ideal Cert.Pre_finite.S4 .f32) (e : FVec Ideal Cert.Pre_finite.S128 .f32)

/-- The projection's entries are real. -/
theorem fin0 (h : (Cert.Pre_finite.fn (F := Ideal) a b c d e).1 = fun _ => 1#1) : ∀ i, a i = ((a i).toReal : EReal) :=
  real_of_olt a _ (fun _ => inf_top) h
/-- The convolution's taps are real. -/
theorem fin1 (h : (Cert.Pre_finite.fn (F := Ideal) a b c d e).2.1 = fun _ => 1#1) : ∀ i, b i = ((b i).toReal : EReal) :=
  real_of_olt b _ (fun _ => inf_top) h
/-- The decay's logarithms are real. -/
theorem fin2 (h : (Cert.Pre_finite.fn (F := Ideal) a b c d e).2.2.1 = fun _ => 1#1) : ∀ i, c i = ((c i).toReal : EReal) :=
  real_of_olt c _ (fun _ => inf_top) h
/-- The decay's biases are real. -/
theorem fin3 (h : (Cert.Pre_finite.fn (F := Ideal) a b c d e).2.2.2 = fun _ => 1#1) : ∀ i, d i = ((d i).toReal : EReal) :=
  real_of_olt d _ (fun _ => inf_top) h

end Cert.Delta
-- ==== Proof.Dn.Claim.lean ====
module

public import proofs.«01_k».proof.Defs
public import proofs.«01_k».proof.Proof.Dn.Final
public import proofs.«01_k».proof.Proof.Dn.Finite

@[expose] public section

noncomputable section

namespace Cert.Delta

open Idealize.ShloMosaic Idealize.ShloMosaic.TcCoe Idealize.SL.Sem

/-- The reference's result array is the same function of the arguments as the kernel's. -/
theorem ref_final (m : (ℓ : Loc Cert.ReferenceIdeal.nD Cert.ReferenceIdeal.τ Cert.ReferenceIdeal.sig) → Buf (Elt Ideal) ℓ)
    (c : Dev Cert.ReferenceIdeal.nD) (p : Cert.KernelIdeal.S16x2048x3020.Idx → EReal) (w : Cert.KernelIdeal.S4x1536.Idx → EReal)
    (al dt : Cert.KernelIdeal.S4.Idx → EReal) (ng : Cert.KernelIdeal.S128.Idx → EReal)
    (ep : m ((c.tc : Thread Cert.ReferenceIdeal.nD Cert.ReferenceIdeal.τ).loc Cert.ReferenceIdeal.main_arg0) = p)
    (ew : m ((c.tc : Thread Cert.ReferenceIdeal.nD Cert.ReferenceIdeal.τ).loc Cert.ReferenceIdeal.main_arg1) = w)
    (ea : m ((c.tc : Thread Cert.ReferenceIdeal.nD Cert.ReferenceIdeal.τ).loc Cert.ReferenceIdeal.main_arg2) = al)
    (ed : m ((c.tc : Thread Cert.ReferenceIdeal.nD Cert.ReferenceIdeal.τ).loc Cert.ReferenceIdeal.main_arg3) = dt)
    (en : m ((c.tc : Thread Cert.ReferenceIdeal.nD Cert.ReferenceIdeal.τ).loc Cert.ReferenceIdeal.main_arg4) = ng)
    (hp : ∀ i, p i = ((p i).toReal : EReal)) (hw : ∀ i, w i = ((w i).toReal : EReal))
    (hal : ∀ i, al i = ((al i).toReal : EReal)) (hdt : ∀ i, dt i = ((dt i).toReal : EReal)) :
    Cert.ReferenceIdeal.Value.out_main_v99 (Cert.ReferenceIdeal.Value.STEP^[2048] (Idealize.ShloMosaic.StableHlo.entryContents Cert.ReferenceIdeal.Value.preI m c))
      = result p w al dt ng := by
  rw [Ref.out_eq, ep, en]
  have I := Ref.inv m c p w al dt ep ew ea ed hp hw hal hdt 2048 (le_refl _)
  have key : ∀ (b : Fin 16) (t : Fin 2048) (k : Fin 512),
      Cert.ReferenceIdeal.Step.R_main_v99 (Ref.state m c 2048) p ng (ix3 b t k) = result p w al dt ng (ix3 b t k) := by
    intro b t k
    have hk : k = (⟨(⟨k.val / 128, by omega⟩ : Fin 4).val * 128 + (⟨k.val % 128, by omega⟩ : Fin 128).val, by
        show k.val / 128 * 128 + k.val % 128 < 512; omega⟩ : Fin 512) :=
      Fin.ext (by show k.val = k.val / 128 * 128 + k.val % 128; omega)
    rw [hk]
    exact (Ref.R_apply _ _ _ _ I b t _ _).trans (result_apply p w al dt ng b t _ _).symm
  funext i
  refine (congrArg _ (eq_ix3 (n0 := 16) (n1 := 2048) (n2 := 512) i)).trans ?_
  exact (key (i 0) (i 1) (i 2)).trans (congrArg _ (eq_ix3 (n0 := 16) (n1 := 2048) (n2 := 512) i).symm)

/-- From arguments whose entries are real numbers, the chunked kernel and the token-by-token recurrence end with the
    same array over the extended reals. -/
theorem algebraic [Cert.Pre_finite.Facts] :
    @Cert.algebraic_KernelIdeal_ReferenceIdeal_pre_finite Cert.KernelIdeal.Gen.facts Cert.ReferenceIdeal.Gen.facts _ := by
  intro m g m' g' hpre hag
  refine ⟨fun c => result (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)), ?_, ?_⟩
  · refine (θ_run _ _ _).mono (fun r h c => ⟨(h c).1.trans ?_, (h c).2⟩) (Cert.KernelIdeal.Value.run_blocks m g)
    obtain ⟨h0, h1, h2, h3⟩ := hpre c
    exact out_final m c _ _ _ _ _ (fun _ => rfl) (fun _ => rfl) (fun _ => rfl) (fun _ => rfl) (fun _ => rfl)
      (fin0 _ _ _ _ _ h0) (fin1 _ _ _ _ _ h1) (fin2 _ _ _ _ _ h2) (fin3 _ _ _ _ _ h3)
  · refine (θ_run _ _ _).mono (fun r h c => ⟨(h c).1.trans ?_, (h c).2⟩) (Cert.ReferenceIdeal.Value.run m' g')
    obtain ⟨h0, h1, h2, h3⟩ := hpre c
    obtain ⟨e0, e1, e2, e3, e4⟩ := hag c
    exact ref_final m' c _ _ _ _ _ e0 e1 e2 e3 e4
      (fin0 _ _ _ _ _ h0) (fin1 _ _ _ _ _ h1) (fin2 _ _ _ _ _ h2) (fin3 _ _ _ _ _ h3)

end Cert.Delta
-- ==== Proof.Ffn.Block.lean ====
module

public import proofs.«01_k».proof.Proof.Gen.Kernel2Ideal.Value
public import Idealize.ShloMosaic.Lib.Pointwise
public import proofs.«01_k».proof.Proof.Rows.Basic
public import Idealize.ShloMosaic.Lib.Pipeline.ValueKit

@[expose] public section

noncomputable section

namespace Cert.Ffn

open Cert.Rows Cert.Kernel2Ideal Cert.Kernel2Ideal.Gen Idealize.ShloMosaic Idealize.ShloMosaic.TcCoe

/-! ## One token's row, over the extended reals -/

/-- One hidden unit: the gate's silu times the up projection. -/
def unit (h a b : Fin 1024 → EReal) : EReal := (∑ k, h k * a k) * logi (∑ k, h k * a k) * ∑ k, h k * b k

/-- The row after the gated feed-forward block and its residual. -/
def mid (x g : Fin 1024 → EReal) (wg wu : Fin 1024 → Fin 2816 → EReal) (wd : Fin 2816 → Fin 1024 → EReal) (j : Fin 1024) : EReal :=
  x j + ∑ f, unit (normed x g) (fun k => wg k f) (fun k => wu k f) * wd f j

/-- The row after the per-layer embedding's gated addition. -/
def row (x : Fin 1024 → EReal) (p : Fin 256 → EReal) (g : Fin 1024 → EReal) (wg wu : Fin 1024 → Fin 2816 → EReal)
    (wd : Fin 2816 → Fin 1024 → EReal) (g' : Fin 1024 → EReal) (wpg : Fin 1024 → Fin 1024 → EReal) (wp : Fin 256 → Fin 1024 → EReal)
    (j : Fin 1024) : EReal :=
  mid x g wg wu wd j + logi (∑ k, normed (mid x g wg wu wd) g' k * wpg k j) * ∑ k, p k * wp k j

/-! ## The kernel's payloads at an index -/

/-- The normalised rows. -/
theorem pay3_apply (x : Vec Ideal S1024x1024 .f32) (g : Vec Ideal S1x1024 .f32) (r k : Fin 1024) :
    k0_pay3 x g (ix2 r k) = normed (fun k => x (ix2 r k)) (fun k => g (ix2 0 k)) k := by
  unfold normed
  pointwise [k0_pay3, k0_pay2]

/-- One step of the feed-forward's sum. -/
theorem pay5_apply (h : FVec Ideal S1024x1024 .bf16) (acc : FVec Ideal S1024x1024 .f32) (a b : Vec Ideal S1024x256 .bf16)
    (d : Vec Ideal S256x1024 .bf16) (r j : Fin 1024) :
    k0_pay5 h acc a b d (ix2 r j) = acc (ix2 r j)
      + ∑ f : Fin 256, unit (fun k => h (ix2 r k)) (fun k => a (ix2 k f)) (fun k => b (ix2 k f)) * d (ix2 f j) := by
  unfold unit logi
  pointwise [k0_pay5, dot_S1024x1024_S1024x256_S1024x256_1_0_0_1_n_n, dot_S1024x256_S256x1024_S1024x1024_1_0_0_1_n_n]

/-- The step that is printed in another order. -/
theorem pay21_apply (u : FVec Ideal S1024x1024 .f32) (a b e : FVec Ideal S1024x256 .f32) (d : Vec Ideal S256x1024 .bf16)
    (g : Vec Ideal S1x1024 .f32) (w : Vec Ideal S1024x1024 .bf16) (v : FVec Ideal S1024x1024 .f32) (hv : k0_pay20 u a b e d = v) (r j : Fin 1024) :
    k0_pay21 u a b e d g w (ix2 r j) = logi (∑ k, normed (fun k => v (ix2 r k)) (fun k => g (ix2 0 k)) k * w (ix2 k j)) := by
  unfold k0_pay21
  rw [hv]
  unfold logi normed
  pointwise [dot_S1024x1024_S1024x1024_S1024x1024_1_0_0_1_n_n]

/-- The per-layer embedding, added behind its gate. -/
theorem pay1_apply (v s : FVec Ideal S1024x1024 .f32) (p : Vec Ideal S1024x256 .f32) (w : Vec Ideal S256x1024 .bf16) (r j : Fin 1024) :
    k0_pay1 v s (k0_pay22 p) w (ix2 r j) = v (ix2 r j) + s (ix2 r j) * ∑ k, p (ix2 r k) * w (ix2 k j) := by
  pointwise [k0_pay1, k0_pay22, dot_S1024x256_S256x1024_S1024x1024_1_0_0_1_n_n]

/-! ## The block the body leaves -/

/-- The feed-forward sum after the column blocks of 256 hidden units before `n`. -/
def part (x g : Fin 1024 → EReal) (wg wu : Fin 1024 → Fin 2816 → EReal) (wd : Fin 2816 → Fin 1024 → EReal) (j : Fin 1024) (c : Fin 11) : EReal :=
  ∑ f : Fin 256, unit (normed x g) (fun k => wg k ⟨c * 256 + f, by omega⟩) (fun k => wu k ⟨c * 256 + f, by omega⟩)
    * wd ⟨c * 256 + f, by omega⟩ j

/-- The eleven column blocks together are the whole sum over the hidden units. -/
theorem mid_eq (x g : Fin 1024 → EReal) (wg wu : Fin 1024 → Fin 2816 → EReal) (wd : Fin 2816 → Fin 1024 → EReal) (j : Fin 1024) :
    x j + part x g wg wu wd j 0 + part x g wg wu wd j 1 + part x g wg wu wd j 2 + part x g wg wu wd j 3 + part x g wg wu wd j 4
      + part x g wg wu wd j 5 + part x g wg wu wd j 6 + part x g wg wu wd j 7 + part x g wg wu wd j 8 + part x g wg wu wd j 9
      + part x g wg wu wd j 10 = mid x g wg wu wd j := by
  have e : ∑ f, unit (normed x g) (fun k => wg k f) (fun k => wu k f) * wd f j = ∑ c : Fin 11, part x g wg wu wd j c :=
    (Fin.sum_mul_add_fin 11 256 (fun f => unit (normed x g) (fun k => wg k f) (fun k => wu k f) * wd f j)).symm
  unfold mid
  rw [e]
  simp only [Fin.sum_univ_succ, Fin.sum_univ_zero, add_zero, add_assoc]
  rfl

/-- What the body accumulates over the eleven column blocks. -/
def acc (x0 : Vec Ideal S1024x1024 .f32) (x2 : Vec Ideal S1x1024 .f32) (x3 x4 : Vec Ideal S1024x2816 .bf16) (x5 : Vec Ideal S2816x1024 .bf16) :
    FVec Ideal S1024x1024 .f32 :=
  have h := k0_pay3 (View.ld x0 r0_0) (View.ld x2 r0_1)
  k0_pay5 h (k0_pay5 h (k0_pay5 h (k0_pay5 h (k0_pay5 h (k0_pay5 h (k0_pay5 h (k0_pay5 h (k0_pay5 h (k0_pay5 h (k0_pay5 h
    (k0_pay2 (View.ld x0 r0_0))
    (View.ld x3 r0_2) (View.ld x4 r0_2) (View.ld x5 r0_3))
    (View.ld x3 r0_4) (View.ld x4 r0_4) (View.ld x5 r0_5))
    (View.ld x3 r0_6) (View.ld x4 r0_6) (View.ld x5 r0_7))
    (View.ld x3 r0_8) (View.ld x4 r0_8) (View.ld x5 r0_9))
    (View.ld x3 r0_10) (View.ld x4 r0_10) (View.ld x5 r0_11))
    (View.ld x3 r0_12) (View.ld x4 r0_12) (View.ld x5 r0_13))
    (View.ld x3 r0_14) (View.ld x4 r0_14) (View.ld x5 r0_15))
    (View.ld x3 r0_16) (View.ld x4 r0_16) (View.ld x5 r0_17))
    (View.ld x3 r0_18) (View.ld x4 r0_18) (View.ld x5 r0_19))
    (View.ld x3 r0_20) (View.ld x4 r0_20) (View.ld x5 r0_21))
    (View.ld x3 r0_22) (View.ld x4 r0_22) (View.ld x5 r0_23)

/-- The accumulator after the first blocks of features. -/
theorem acc_apply (x0 : Vec Ideal S1024x1024 .f32) (x2 : Vec Ideal S1x1024 .f32) (x3 x4 : Vec Ideal S1024x2816 .bf16)
    (x5 : Vec Ideal S2816x1024 .bf16) (r j : Fin 1024) :
    acc x0 x2 x3 x4 x5 (ix2 r j) = mid (fun k => x0 (ix2 r k)) (fun k => x2 (ix2 0 k)) (fun k f => x3 (ix2 k f)) (fun k f => x4 (ix2 k f))
      (fun f k => x5 (ix2 f k)) j := by
  rw [← mid_eq]
  unfold acc part
  simp only [pay5_apply, pay3_apply]
  pointwise [k0_pay2, Nat.add_comm]

/-- What the body leaves, as its last step. -/
theorem out_eq (x0 : Vec Ideal S1024x1024 .f32) (x1 : Vec Ideal S1024x256 .f32) (x2 : Vec Ideal S1x1024 .f32)
    (x3 x4 : Vec Ideal S1024x2816 .bf16) (x5 : Vec Ideal S2816x1024 .bf16) (x6 : Vec Ideal S1x1024 .f32)
    (x7 : Vec Ideal S1024x1024 .bf16) (x8 : Vec Ideal S256x1024 .bf16) :
    out0_9 x0 x1 x2 x3 x4 x5 x6 x7 x8 = k0_pay1 (acc x0 x2 x3 x4 x5)
      (k0_pay21 (k0_pay24 x0 x1 x2 x3 x4 x5 x6 x7 x8) (k0_pay25 x0 x1 x2 x3 x4 x5 x6 x7 x8) (k0_pay26 x0 x1 x2 x3 x4 x5 x6 x7 x8)
        (k0_pay27 x0 x1 x2 x3 x4 x5 x6 x7 x8) (View.ld x5 r0_23) (View.ld x6 r0_1) (View.ld x7 r0_0))
      (k0_pay22 (View.ld x1 r0_24)) (View.ld x8 r0_25) := by
  unfold out0_9
  frame_out
  rfl

/-- The accumulator after all blocks of features. -/
theorem acc_last (x0 : Vec Ideal S1024x1024 .f32) (x1 : Vec Ideal S1024x256 .f32) (x2 : Vec Ideal S1x1024 .f32)
    (x3 x4 : Vec Ideal S1024x2816 .bf16) (x5 : Vec Ideal S2816x1024 .bf16) (x6 : Vec Ideal S1x1024 .f32)
    (x7 : Vec Ideal S1024x1024 .bf16) (x8 : Vec Ideal S256x1024 .bf16) :
    k0_pay20 (k0_pay24 x0 x1 x2 x3 x4 x5 x6 x7 x8) (k0_pay25 x0 x1 x2 x3 x4 x5 x6 x7 x8) (k0_pay26 x0 x1 x2 x3 x4 x5 x6 x7 x8)
      (k0_pay27 x0 x1 x2 x3 x4 x5 x6 x7 x8) (View.ld x5 r0_23) = acc x0 x2 x3 x4 x5 := rfl

/-- What the body leaves is the row function. -/
theorem out_apply (x0 : Vec Ideal S1024x1024 .f32) (x1 : Vec Ideal S1024x256 .f32) (x2 : Vec Ideal S1x1024 .f32)
    (x3 x4 : Vec Ideal S1024x2816 .bf16) (x5 : Vec Ideal S2816x1024 .bf16) (x6 : Vec Ideal S1x1024 .f32)
    (x7 : Vec Ideal S1024x1024 .bf16) (x8 : Vec Ideal S256x1024 .bf16) (r j : Fin 1024) :
    out0_9 x0 x1 x2 x3 x4 x5 x6 x7 x8 (ix2 r j) = row (fun k => x0 (ix2 r k)) (fun k => x1 (ix2 r k)) (fun k => x2 (ix2 0 k))
      (fun k f => x3 (ix2 k f)) (fun k f => x4 (ix2 k f)) (fun f k => x5 (ix2 f k)) (fun k => x6 (ix2 0 k)) (fun k l => x7 (ix2 k l))
      (fun k l => x8 (ix2 k l)) j := by
  rw [out_eq, pay1_apply, pay21_apply (v := acc x0 x2 x3 x4 x5) (hv := acc_last x0 x1 x2 x3 x4 x5 x6 x7 x8)]
  unfold row
  simp only [acc_apply]
  pointwise

end Cert.Ffn
-- ==== Proof.Ffn.Kern.lean ====
module

public import proofs.«01_k».proof.Proof.Ffn.Block

@[expose] public section

noncomputable section

namespace Cert.Ffn

open Cert.Rows Cert.Kernel2Ideal Cert.Kernel2Ideal.Gen Idealize.ShloMosaic Idealize.ShloMosaic.TcCoe

variable (m : (ℓ : Loc nD τ sig) → Buf (Elt Ideal) ℓ) (c : Dev nD)

/-- What the region finds in the buffers the host operations before it prepare. -/
theorem V0 : V m c main_v0 = shapeCast S32768x1024 (m ((c.tc : Thread nD τ).loc main_arg0) : S16x2048x1024.Idx → EReal) shapeCasts_S16x2048x1024_S32768x1024 := by
  unfold V
  after_results
  rfl

/-- The per-layer embeddings, flattened. -/
theorem V1 : V m c main_v1 = shapeCast S32768x256 (m ((c.tc : Thread nD τ).loc main_arg1) : S16x2048x256.Idx → EReal) shapeCasts_S16x2048x256_S32768x256 := by
  unfold V
  after_results
  rfl

/-- The first gains, as one row. -/
theorem V2 : V m c main_v2 = shapeCast S1x1024 (m ((c.tc : Thread nD τ).loc main_arg2) : S1024.Idx → EReal) shapeCasts_S1024_S1x1024 := by
  unfold V
  after_results
  rfl

/-- The gate weights. -/
theorem V3 : V m c main_v3 = (m ((c.tc : Thread nD τ).loc main_arg3) : S1024x2816.Idx → EReal) := by
  unfold V
  after_results
  rfl

/-- The up weights. -/
theorem V4 : V m c main_v4 = (m ((c.tc : Thread nD τ).loc main_arg4) : S1024x2816.Idx → EReal) := by
  unfold V
  after_results
  rfl

/-- The down weights. -/
theorem V5 : V m c main_v5 = (m ((c.tc : Thread nD τ).loc main_arg5) : S2816x1024.Idx → EReal) := by
  unfold V
  after_results
  rfl

/-- The second gains, as one row. -/
theorem V6 : V m c main_v6 = shapeCast S1x1024 (m ((c.tc : Thread nD τ).loc main_arg6) : S1024.Idx → EReal) shapeCasts_S1024_S1x1024 := by
  unfold V
  after_results
  rfl

/-- The embedding's gate weights. -/
theorem V7 : V m c main_v7 = (m ((c.tc : Thread nD τ).loc main_arg7) : S1024x1024.Idx → EReal) := by
  unfold V
  after_results
  rfl

/-- The embedding's weights. -/
theorem V8 : V m c main_v8 = (m ((c.tc : Thread nD τ).loc main_arg8) : S256x1024.Idx → EReal) := by
  unfold V
  after_results
  rfl

/-- The kernel's result, token by token, as a function of the arguments. -/
def result : S32768x1024.Idx → EReal := fun i =>
  row (fun k => m ((c.tc : Thread nD τ).loc main_arg0) (ix3 (bat (i 0)) (pos (i 0)) k))
    (fun k => m ((c.tc : Thread nD τ).loc main_arg1) (ix3 (bat (i 0)) (pos (i 0)) k))
    (fun k => m ((c.tc : Thread nD τ).loc main_arg2) (ix1 k))
    (fun k f => m ((c.tc : Thread nD τ).loc main_arg3) (ix2 k f)) (fun k f => m ((c.tc : Thread nD τ).loc main_arg4) (ix2 k f))
    (fun f k => m ((c.tc : Thread nD τ).loc main_arg5) (ix2 f k)) (fun k => m ((c.tc : Thread nD τ).loc main_arg6) (ix1 k))
    (fun k l => m ((c.tc : Thread nD τ).loc main_arg7) (ix2 k l)) (fun k l => m ((c.tc : Thread nD τ).loc main_arg8) (ix2 k l)) (i 1)

/-- The block that window 0 holds at a grid point. -/
theorem e0 : ∀ t : Fin cfg0.N, win0_0.index t = ![t.val, 0] := (by decide +kernel : ∀ t : Fin grid0.N, win0_0.index t = ![t.val, 0])
/-- The block that window 1 holds at a grid point. -/
theorem e1 : ∀ t : Fin cfg0.N, win0_1.index t = ![t.val, 0] := (by decide +kernel : ∀ t : Fin grid0.N, win0_1.index t = ![t.val, 0])
/-- The block that window 9 holds at a grid point. -/
theorem e9 : ∀ t : Fin cfg0.N, win0_9.index t = ![t.val, 0] := (by decide +kernel : ∀ t : Fin grid0.N, win0_9.index t = ![t.val, 0])
/-- The block that window 2 holds at a grid point. -/
theorem e2 : ∀ t : Fin cfg0.N, win0_2.index t = ![0, 0] := (by decide +kernel : ∀ t : Fin grid0.N, win0_2.index t = ![0, 0])
/-- The block that window 3 holds at a grid point. -/
theorem e3 : ∀ t : Fin cfg0.N, win0_3.index t = ![0, 0] := (by decide +kernel : ∀ t : Fin grid0.N, win0_3.index t = ![0, 0])
/-- The block that window 4 holds at a grid point. -/
theorem e4 : ∀ t : Fin cfg0.N, win0_4.index t = ![0, 0] := (by decide +kernel : ∀ t : Fin grid0.N, win0_4.index t = ![0, 0])
/-- The block that window 5 holds at a grid point. -/
theorem e5 : ∀ t : Fin cfg0.N, win0_5.index t = ![0, 0] := (by decide +kernel : ∀ t : Fin grid0.N, win0_5.index t = ![0, 0])
/-- The block that window 6 holds at a grid point. -/
theorem e6 : ∀ t : Fin cfg0.N, win0_6.index t = ![0, 0] := (by decide +kernel : ∀ t : Fin grid0.N, win0_6.index t = ![0, 0])
/-- The block that window 7 holds at a grid point. -/
theorem e7 : ∀ t : Fin cfg0.N, win0_7.index t = ![0, 0] := (by decide +kernel : ∀ t : Fin grid0.N, win0_7.index t = ![0, 0])
/-- The block that window 8 holds at a grid point. -/
theorem e8 : ∀ t : Fin cfg0.N, win0_8.index t = ![0, 0] := (by decide +kernel : ∀ t : Fin grid0.N, win0_8.index t = ![0, 0])

/-- Block `t` of the tokens, at row `r`. -/
def tok (t : Fin cfg0.N) (r : Fin 1024) : Fin 32768 := ⟨t.val * 1024 + r.val, by have : t.val < 32 := t.isLt; omega⟩

/-- A block of activations. -/
theorem b0 (t : Fin cfg0.N) (r : Fin 1024) (k : Fin 1024) :
    iblk m c 0 t (ix2 r k) = m ((c.tc : Thread nD τ).loc main_arg0) (ix3 (bat (tok t r)) (pos (tok t r)) k) := by
  have h : iblk m c 0 t (ix2 r k) = V m c main_v0 (ix2 (tok t r) k) := by
    blk_simp [iblk]
    refine congrArg (V m c main_v0) ?_
    blk_ext [e0, tok]
  rw [h, V0]
  exact flat_apply (d := 1024) _ _ _ _

/-- A block of embeddings. -/
theorem b1 (t : Fin cfg0.N) (r : Fin 1024) (k : Fin 256) :
    iblk m c 1 t (ix2 r k) = m ((c.tc : Thread nD τ).loc main_arg1) (ix3 (bat (tok t r)) (pos (tok t r)) k) := by
  have h : iblk m c 1 t (ix2 r k) = V m c main_v1 (ix2 (tok t r) k) := by
    blk_simp [iblk]
    refine congrArg (V m c main_v1) ?_
    blk_ext [e1, tok]
  rw [h, V1]
  exact flat_apply (d := 256) _ _ _ _

/-- The first gains. -/
theorem b2 (t : Fin cfg0.N) (k : Fin 1024) :
    iblk m c 2 t (ix2 0 k) = m ((c.tc : Thread nD τ).loc main_arg2) (ix1 k) := by
  have h : iblk m c 2 t (ix2 0 k) = V m c main_v2 (ix2 0 k) := by
    blk_simp [iblk]
    refine congrArg (V m c main_v2) ?_
    blk_ext [e2]
  rw [h, V2]
  exact oneRow_apply (d := 1024) _ _ _

/-- The gate weights, whole. -/
theorem b3 (t : Fin cfg0.N) (k : Fin 1024) (l : Fin 2816) :
    iblk m c 3 t (ix2 k l) = m ((c.tc : Thread nD τ).loc main_arg3) (ix2 k l) := by
  have h : iblk m c 3 t (ix2 k l) = V m c main_v3 (ix2 k l) := by
    blk_simp [iblk]
    refine congrArg (V m c main_v3) ?_
    blk_ext [e3]
  rw [h, V3]

/-- The up weights, whole. -/
theorem b4 (t : Fin cfg0.N) (k : Fin 1024) (l : Fin 2816) :
    iblk m c 4 t (ix2 k l) = m ((c.tc : Thread nD τ).loc main_arg4) (ix2 k l) := by
  have h : iblk m c 4 t (ix2 k l) = V m c main_v4 (ix2 k l) := by
    blk_simp [iblk]
    refine congrArg (V m c main_v4) ?_
    blk_ext [e4]
  rw [h, V4]

/-- The down weights, whole. -/
theorem b5 (t : Fin cfg0.N) (k : Fin 2816) (l : Fin 1024) :
    iblk m c 5 t (ix2 k l) = m ((c.tc : Thread nD τ).loc main_arg5) (ix2 k l) := by
  have h : iblk m c 5 t (ix2 k l) = V m c main_v5 (ix2 k l) := by
    blk_simp [iblk]
    refine congrArg (V m c main_v5) ?_
    blk_ext [e5]
  rw [h, V5]

/-- The second gains. -/
theorem b6 (t : Fin cfg0.N) (k : Fin 1024) :
    iblk m c 6 t (ix2 0 k) = m ((c.tc : Thread nD τ).loc main_arg6) (ix1 k) := by
  have h : iblk m c 6 t (ix2 0 k) = V m c main_v6 (ix2 0 k) := by
    blk_simp [iblk]
    refine congrArg (V m c main_v6) ?_
    blk_ext [e6]
  rw [h, V6]
  exact oneRow_apply (d := 1024) _ _ _

/-- The embedding's gate weights, whole. -/
theorem b7 (t : Fin cfg0.N) (k : Fin 1024) (l : Fin 1024) :
    iblk m c 7 t (ix2 k l) = m ((c.tc : Thread nD τ).loc main_arg7) (ix2 k l) := by
  have h : iblk m c 7 t (ix2 k l) = V m c main_v7 (ix2 k l) := by
    blk_simp [iblk]
    refine congrArg (V m c main_v7) ?_
    blk_ext [e7]
  rw [h, V7]

/-- The embedding's weights, whole. -/
theorem b8 (t : Fin cfg0.N) (k : Fin 256) (l : Fin 1024) :
    iblk m c 8 t (ix2 k l) = m ((c.tc : Thread nD τ).loc main_arg8) (ix2 k l) := by
  have h : iblk m c 8 t (ix2 k l) = V m c main_v8 (ix2 k l) := by
    blk_simp [iblk]
    refine congrArg (V m c main_v8) ?_
    blk_ext [e8]
  rw [h, V8]

/-- Each point leaves its block of the result. -/
theorem block_eq (t : Fin cfg0.N) (r j : Fin 1024) :
    out0_9 (iblk m c 0 t) (iblk m c 1 t) (iblk m c 2 t) (iblk m c 3 t) (iblk m c 4 t) (iblk m c 5 t) (iblk m c 6 t) (iblk m c 7 t)
      (iblk m c 8 t) (ix2 r j) = result m c (ix2 (tok t r) j) := by
  rw [out_apply]
  simp only [b0, b1, b2, b3, b4, b5, b6, b7, b8]
  rfl

/-- The result array after the run. -/
theorem out_final : (dats m 0 c).arrAt 9 cfg0.N = result m c := by
  refine (dats m 0 c).arrAt_eq_of_covers 9 _ (by decide +kernel) fun t hf y => ?_
  blk_simp
  rw [after0_9]
  have hy : (win0_9.blk t).view.emb y = ix2 (tok t (y 0)) (y 1) := by
    blk_ext [e9, tok]
  rw [hy]
  exact (congrArg _ (eq_ix2 (n0 := 1024) (n1 := 1024) y)).trans (block_eq m c t (y 0) (y 1))

end Cert.Ffn
-- ==== Proof.Ffn.Ref.lean ====
module

public import proofs.«01_k».proof.Proof.Ffn.Block
public import proofs.«01_k».proof.Proof.Gen.Reference2Ideal.Run
public import proofs.«01_k».proof.Proof.Gen.Reference2Ideal.Read

@[expose] public section

noncomputable section

namespace Cert.Ffn

open Cert.Rows Cert.Reference2Ideal Cert.Reference2Ideal.Read Idealize.ShloMosaic Idealize.ShloMosaic.TcCoe

abbrev X3 := (⟨S16x2048x1024, .f32⟩ : BufTy).Contents (Elt Ideal)
abbrev G1 := (⟨S1024, .f32⟩ : BufTy).Contents (Elt Ideal)

/-- The reference's first normalisation. -/
theorem ref_normed (x : X3) (g : G1) (b : Fin 16) (s : Fin 2048) (k : Fin 1024) :
    val_main_v12 (F := Ideal) x g (ix3 b s k) = normed (fun k => x (ix3 b s k)) (fun k => g (ix1 k)) k := by
  unfold normed
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- One feature of the feed-forward. -/
theorem ref_unit (x : X3) (g : G1) (wg wu : (⟨S1024x2816, .f32⟩ : BufTy).Contents (Elt Ideal)) (b : Fin 16) (s : Fin 2048) (f : Fin 2816) :
    val_main_v16 (F := Ideal) x g wg wu (ix3 b s f)
      = unit (normed (fun k => x (ix3 b s k)) (fun k => g (ix1 k))) (fun k => wg (ix2 k f)) (fun k => wu (ix2 k f)) := by
  unfold unit logi
  pointwise [val_main_v16, val_main_v15, val_main_v14, val_main_v13, val_main_call0_v5, val_main_call0_v4, val_main_call0_v3,
    val_main_call0_v2, val_main_call0_v1, val_main_call0_v0, val_main_call0_cst, val_main_call0_cst_0, ref_normed, dot_S16x2048x1024_S1024x2816_S16x2048x2816_2_0_01_1_n_n, zero_sub]

/-- The row after the feed-forward. -/
theorem ref_mid (x : X3) (g : G1) (wg wu : (⟨S1024x2816, .f32⟩ : BufTy).Contents (Elt Ideal))
    (wd : (⟨S2816x1024, .f32⟩ : BufTy).Contents (Elt Ideal)) (b : Fin 16) (s : Fin 2048) (j : Fin 1024) :
    val_main_v18 (F := Ideal) x g wg wu wd (ix3 b s j)
      = mid (fun k => x (ix3 b s k)) (fun k => g (ix1 k)) (fun k f => wg (ix2 k f)) (fun k f => wu (ix2 k f)) (fun f k => wd (ix2 f k)) j := by
  unfold mid
  pointwise [val_main_v18, val_main_v17, ref_unit, dot_S16x2048x2816_S2816x1024_S16x2048x1024_2_0_01_1_n_n]

/-- The reference's second normalisation. -/
theorem ref_normed' (x : X3) (g : G1) (wg wu : (⟨S1024x2816, .f32⟩ : BufTy).Contents (Elt Ideal))
    (wd : (⟨S2816x1024, .f32⟩ : BufTy).Contents (Elt Ideal)) (g' : G1) (b : Fin 16) (s : Fin 2048) (k : Fin 1024) :
    val_main_v31 (F := Ideal) x g wg wu wd g' (ix3 b s k)
      = normed (mid (fun k => x (ix3 b s k)) (fun k => g (ix1 k)) (fun k f => wg (ix2 k f)) (fun k f => wu (ix2 k f))
        (fun f k => wd (ix2 f k))) (fun k => g' (ix1 k)) k := by
  unfold normed
  pointwise [val_main_v31, val_main_v30, val_main_v29, val_main_v28, val_main_v27, val_main_v26, val_main_v25, val_main_v24, val_main_v23,
    val_main_v22, val_main_v21, val_main_v20, val_main_v19, val_main_cst_2, val_main_cst_3, val_main_cst_4, ref_mid]

/-- The reference's result is the row function. -/
theorem ref_row (x : X3) (p : (⟨S16x2048x256, .f32⟩ : BufTy).Contents (Elt Ideal)) (g : G1)
    (wg wu : (⟨S1024x2816, .f32⟩ : BufTy).Contents (Elt Ideal)) (wd : (⟨S2816x1024, .f32⟩ : BufTy).Contents (Elt Ideal)) (g' : G1)
    (wpg : (⟨S1024x1024, .f32⟩ : BufTy).Contents (Elt Ideal)) (wp : (⟨S256x1024, .f32⟩ : BufTy).Contents (Elt Ideal))
    (b : Fin 16) (s : Fin 2048) (j : Fin 1024) :
    val_main_v41 (F := Ideal) x p g wg wu wd g' wpg wp (ix3 b s j)
      = row (fun k => x (ix3 b s k)) (fun k => p (ix3 b s k)) (fun k => g (ix1 k)) (fun k f => wg (ix2 k f)) (fun k f => wu (ix2 k f))
        (fun f k => wd (ix2 f k)) (fun k => g' (ix1 k)) (fun k l => wpg (ix2 k l)) (fun k l => wp (ix2 k l)) j := by
  unfold row logi
  pointwise [val_main_v41, val_main_v40, val_main_v39, val_main_v38, val_main_v37, val_main_v36, val_main_v35, val_main_v34, val_main_v33,
    val_main_v32, val_main_cst_5, val_main_cst_6, ref_mid, ref_normed', zero_sub,
    dot_S16x2048x1024_S1024x1024_S16x2048x1024_2_0_01_1_n_n, dot_S16x2048x256_S256x1024_S16x2048x1024_2_0_01_1_n_n]

end Cert.Ffn
-- ==== Proof.Ffn.Claim.lean ====
module

public import proofs.«01_k».proof.Defs
public import proofs.«01_k».proof.Proof.Ffn.Kern
public import proofs.«01_k».proof.Proof.Ffn.Ref

@[expose] public section

noncomputable section

namespace Cert.Ffn

open Idealize.ShloMosaic Idealize.ShloMosaic.TcCoe Idealize.SL.Sem Cert.Rows

/-- The kernel and the reference end with the same array over the extended reals. -/
theorem algebraic [Cert.Kernel2Ideal.Facts] [Cert.Reference2Ideal.Facts] : Cert.algebraic_Kernel2Ideal_Reference2Ideal := by
  intro m g m' g' _ hag
  refine ⟨fun c => result m c, ?_, ?_⟩
  · exact (θ_run _ _ _).mono (fun r h c => ⟨(h c).1.trans (out_final m c), (h c).2⟩) (Cert.Kernel2Ideal.Value.run_blocks m g)
  · refine (θ_run _ _ _).mono (fun r h c => ⟨(h c).1.trans ?_, (h c).2⟩) (Cert.Reference2Ideal.Value.run m' g')
    obtain ⟨h0, h1, h2, h3, h4, h5, h6, h7, h8⟩ := hag c
    rw [Cert.Reference2Ideal.Read.val_main_v42_eq, h0, h1, h2, h3, h4, h5, h6, h7, h8]
    funext i
    refine (congrArg _ (eq_ix2 (n0 := 32768) (n1 := 1024) i)).trans ?_
    exact (flat_apply (d := 1024) _ _ _ _).trans (ref_row _ _ _ _ _ _ _ _ _ _ _ _)

end Cert.Ffn
-- ==== Proof.Merge.Block.lean ====
module

public import proofs.«01_k».proof.Proof.Gen.Kernel3Ideal.Value
public import Idealize.ShloMosaic.Lib.Pointwise
public import proofs.«01_k».proof.Proof.Rows.Basic
public import Idealize.ShloMosaic.Lib.Pipeline.ValueKit

@[expose] public section

noncomputable section

namespace Cert.Merge

open Cert.Rows Cert.Kernel3Ideal Cert.Kernel3Ideal.Gen Idealize.ShloMosaic Idealize.ShloMosaic.TcCoe

/-! ## One token's row, over the extended reals -/

/-- One merged feature: each branch's projection times its gate. -/
def feature (h : Fin 1024 → EReal) (u v : Fin 512 → EReal) (ga : Fin 1024 → EReal) (ba : EReal) (gb : Fin 1024 → EReal) (bb : EReal)
    (wa wb : Fin 512 → EReal) : EReal :=
  logi ((∑ k, h k * ga k) + ba) * (∑ k, u k * wa k) + logi ((∑ k, h k * gb k) + bb) * ∑ k, v k * wb k

/-- Feature `f`'s gate column of the first branch, and of the second. -/
def fst (f : Fin 1024) : Fin 2048 := ⟨f, by omega⟩
def snd (f : Fin 1024) : Fin 2048 := ⟨1024 + f, by omega⟩

/-- The row after both branches are merged, projected and added to the residual. -/
def row (x : Fin 1024 → EReal) (u v : Fin 512 → EReal) (g : Fin 1024 → EReal) (wg : Fin 1024 → Fin 2048 → EReal) (bg : Fin 2048 → EReal)
    (wa wb : Fin 512 → Fin 1024 → EReal) (wo : Fin 1024 → Fin 1024 → EReal) (j : Fin 1024) : EReal :=
  x j + ∑ f, feature (normed x g) u v (fun k => wg k (fst f)) (bg (fst f)) (fun k => wg k (snd f)) (bg (snd f)) (fun k => wa k f)
    (fun k => wb k f) * wo f j

/-! ## The kernel's payloads at an index -/

/-- The normalised rows. -/
theorem pay3_apply (x : Vec Ideal S1024x1024 .f32) (g : Vec Ideal S1x1024 .f32) (r k : Fin 1024) :
    k0_pay3 x g (ix2 r k) = normed (fun k => x (ix2 r k)) (fun k => g (ix2 0 k)) k := by
  unfold normed
  pointwise [k0_pay3, k0_pay2]

/-- One column block of 512 features added to the accumulator. -/
def step (h : FVec Ideal S1024x1024 .bf16) (u v : FVec Ideal S1024x512 .bf16) (acc : FVec Ideal S1024x1024 .f32)
    (ga : Vec Ideal S1024x512 .bf16) (ba : Vec Ideal S1x512 .f32) (gb : Vec Ideal S1024x512 .bf16) (bb : Vec Ideal S1x512 .f32)
    (wa wb : Vec Ideal S512x512 .bf16) (wo : Vec Ideal S512x1024 .bf16) : FVec Ideal S1024x1024 .f32 :=
  k0_pay1 h u v acc (k0_pay9 h ga ba) (Scalar.ofBits .f32 0x3F800000#32) gb bb wa wb wo

/-- One block of features, gated, merged and projected. -/
theorem step_apply (h : FVec Ideal S1024x1024 .bf16) (u v : FVec Ideal S1024x512 .bf16) (acc : FVec Ideal S1024x1024 .f32)
    (ga : Vec Ideal S1024x512 .bf16) (ba : Vec Ideal S1x512 .f32) (gb : Vec Ideal S1024x512 .bf16) (bb : Vec Ideal S1x512 .f32)
    (wa wb : Vec Ideal S512x512 .bf16) (wo : Vec Ideal S512x1024 .bf16) (r j : Fin 1024) :
    step h u v acc ga ba gb bb wa wb wo (ix2 r j) = acc (ix2 r j)
      + ∑ f : Fin 512, feature (fun k => h (ix2 r k)) (fun k => u (ix2 r k)) (fun k => v (ix2 r k)) (fun k => ga (ix2 k f)) (ba (ix2 0 f))
        (fun k => gb (ix2 k f)) (bb (ix2 0 f)) (fun k => wa (ix2 k f)) (fun k => wb (ix2 k f)) * wo (ix2 f j) := by
  unfold feature logi step
  pointwise [k0_pay1, k0_pay9, dot_S1024x1024_S1024x512_S1024x512_1_0_0_1_n_n, dot_S1024x512_S512x512_S1024x512_1_0_0_1_n_n,
    dot_S1024x512_S512x1024_S1024x1024_1_0_0_1_n_n]

/-! ## The block the body leaves -/

/-- The first column block's payload is the same step. -/
theorem first_eq (x : Vec Ideal S1024x1024 .f32) (g : Vec Ideal S1x1024 .f32) (u v : FVec Ideal S1024x512 .bf16) (acc : FVec Ideal S1024x1024 .f32)
    (ga : Vec Ideal S1024x512 .bf16) (ba : Vec Ideal S1x512 .f32) (gb : Vec Ideal S1024x512 .bf16) (bb : Vec Ideal S1x512 .f32)
    (wa wb : Vec Ideal S512x512 .bf16) (wo : Vec Ideal S512x1024 .bf16) :
    k0_pay8 acc (k0_pay3 x g) u v (k0_pay6 x g ga ba) (k0_pay7 gb) (constant S1024x512 .f32 0x00000000#32) bb wa wb wo
      = step (k0_pay3 x g) u v acc ga ba gb bb wa wb wo := by
  unfold step k0_pay8 k0_pay1 k0_pay6 k0_pay9 k0_pay7
  rfl

/-- What the body leaves, as its two column blocks. -/
theorem out_eq (x0 : Vec Ideal S1024x1024 .f32) (x1 x2 : Vec Ideal S1024x512 .bf16) (x3 : Vec Ideal S1x1024 .f32) (x4 : Vec Ideal S1024x2048 .bf16)
    (x5 : Vec Ideal S1x2048 .f32) (x6 x7 : Vec Ideal S512x1024 .bf16) (x8 : Vec Ideal S1024x1024 .bf16) :
    out0_9 x0 x1 x2 x3 x4 x5 x6 x7 x8 =
      step (k0_pay3 (View.ld x0 r0_0) (View.ld x3 r0_1)) (k0_pay4 (View.ld x1 r0_2)) (k0_pay5 (View.ld x2 r0_2))
        (step (k0_pay3 (View.ld x0 r0_0) (View.ld x3 r0_1)) (k0_pay4 (View.ld x1 r0_2)) (k0_pay5 (View.ld x2 r0_2))
          (k0_pay2 (View.ld x0 r0_0))
          (View.ld x4 r0_3) (View.ld x5 r0_4) (View.ld x4 r0_5) (View.ld x5 r0_6) (View.ld x6 r0_7) (View.ld x7 r0_7) (View.ld x8 r0_8))
        (View.ld x4 r0_9) (View.ld x5 r0_10) (View.ld x4 r0_11) (View.ld x5 r0_12) (View.ld x6 r0_13) (View.ld x7 r0_13) (View.ld x8 r0_14) := by
  unfold out0_9
  frame_out
  unfold k0_pay10 k0_pay11 k0_pay12
  frame_out
  rw [first_eq]
  rfl

/-- A sum over 1024 features is the sum over its two halves. -/
theorem halves (F : Fin 1024 → EReal) : ∑ f, F f = (∑ f : Fin 512, F ⟨f, by omega⟩) + ∑ f : Fin 512, F ⟨512 + f, by omega⟩ :=
  Fin.sum_univ_add (a := 512) (b := 512) F

/-- What the body leaves is the row function. -/
theorem out_apply (x0 : Vec Ideal S1024x1024 .f32) (x1 x2 : Vec Ideal S1024x512 .bf16) (x3 : Vec Ideal S1x1024 .f32) (x4 : Vec Ideal S1024x2048 .bf16)
    (x5 : Vec Ideal S1x2048 .f32) (x6 x7 : Vec Ideal S512x1024 .bf16) (x8 : Vec Ideal S1024x1024 .bf16) (r j : Fin 1024) :
    out0_9 x0 x1 x2 x3 x4 x5 x6 x7 x8 (ix2 r j) = row (fun k => x0 (ix2 r k)) (fun k => x1 (ix2 r k)) (fun k => x2 (ix2 r k))
      (fun k => x3 (ix2 0 k)) (fun k l => x4 (ix2 k l)) (fun l => x5 (ix2 0 l)) (fun k l => x6 (ix2 k l)) (fun k l => x7 (ix2 k l))
      (fun k l => x8 (ix2 k l)) j := by
  unfold row
  rw [out_eq, step_apply, step_apply, halves, add_assoc]
  simp only [pay3_apply]
  unfold fst snd
  pointwise [k0_pay2, k0_pay4, k0_pay5, ← Nat.add_assoc]

end Cert.Merge
-- ==== Proof.Merge.Kern.lean ====
module

public import proofs.«01_k».proof.Proof.Merge.Block

@[expose] public section

noncomputable section

namespace Cert.Merge

open Cert.Rows Cert.Kernel3Ideal Cert.Kernel3Ideal.Gen Idealize.ShloMosaic Idealize.ShloMosaic.TcCoe

variable (m : (ℓ : Loc nD τ sig) → Buf (Elt Ideal) ℓ) (c : Dev nD)

/-! ## What the region finds in the buffers the host operations before it prepare -/

/-- The activations, flattened. -/
theorem V0 : V m c main_v0 = shapeCast S32768x1024 (m ((c.tc : Thread nD τ).loc main_arg0) : S16x2048x1024.Idx → EReal)
    shapeCasts_S16x2048x1024_S32768x1024 := by
  unfold V
  after_results
  rfl

/-- The first branch's output, flattened. -/
theorem V1 : V m c main_v1 = shapeCast S32768x512 (m ((c.tc : Thread nD τ).loc main_arg1) : S16x2048x512.Idx → EReal)
    shapeCasts_S16x2048x512_S32768x512 := by
  unfold V
  after_results
  rfl

/-- The second branch's output, flattened. -/
theorem V2 : V m c main_v2 = shapeCast S32768x512 (m ((c.tc : Thread nD τ).loc main_arg2) : S16x2048x512.Idx → EReal)
    shapeCasts_S16x2048x512_S32768x512 := by
  unfold V
  after_results
  rfl

/-- The gains, as one row. -/
theorem V3 : V m c main_v3 = shapeCast S1x1024 (m ((c.tc : Thread nD τ).loc main_arg3) : S1024.Idx → EReal) shapeCasts_S1024_S1x1024 := by
  unfold V
  after_results
  rfl

/-- The gates' weights. -/
theorem V4 : V m c main_v4 = (m ((c.tc : Thread nD τ).loc main_arg6) : S1024x2048.Idx → EReal) := by
  unfold V
  after_results
  rfl

/-- The gates' biases, as one row. -/
theorem V5 : V m c main_v5 = shapeCast S1x2048 (m ((c.tc : Thread nD τ).loc main_arg7) : S2048.Idx → EReal) shapeCasts_S2048_S1x2048 := by
  unfold V
  after_results
  rfl

/-- The first branch's weights. -/
theorem V6 : V m c main_v6 = (m ((c.tc : Thread nD τ).loc main_arg4) : S512x1024.Idx → EReal) := by
  unfold V
  after_results
  rfl

/-- The second branch's weights. -/
theorem V7 : V m c main_v7 = (m ((c.tc : Thread nD τ).loc main_arg5) : S512x1024.Idx → EReal) := by
  unfold V
  after_results
  rfl

/-- The output weights. -/
theorem V8 : V m c main_v8 = (m ((c.tc : Thread nD τ).loc main_arg8) : S1024x1024.Idx → EReal) := by
  unfold V
  after_results
  rfl

/-- The kernel's result, token by token, as a function of the arguments. -/
def result : S32768x1024.Idx → EReal := fun i =>
  row (fun k => m ((c.tc : Thread nD τ).loc main_arg0) (ix3 (bat (i 0)) (pos (i 0)) k)) (fun k => m ((c.tc : Thread nD τ).loc main_arg1) (ix3 (bat (i 0)) (pos (i 0)) k))
    (fun k => m ((c.tc : Thread nD τ).loc main_arg2) (ix3 (bat (i 0)) (pos (i 0)) k)) (fun k => m ((c.tc : Thread nD τ).loc main_arg3) (ix1 k))
    (fun k l => m ((c.tc : Thread nD τ).loc main_arg6) (ix2 k l)) (fun l => m ((c.tc : Thread nD τ).loc main_arg7) (ix1 l)) (fun k l => m ((c.tc : Thread nD τ).loc main_arg4) (ix2 k l))
    (fun k l => m ((c.tc : Thread nD τ).loc main_arg5) (ix2 k l)) (fun k l => m ((c.tc : Thread nD τ).loc main_arg8) (ix2 k l)) (i 1)

/-! ## The windows' blocks: the tokens move with the grid point, the rest is whole at every point -/

/-- The block that window 0 holds at a grid point. -/
theorem e0 : ∀ t : Fin cfg0.N, win0_0.index t = ![t.val, 0] := (by decide +kernel : ∀ t : Fin grid0.N, win0_0.index t = ![t.val, 0])
/-- The block that window 1 holds at a grid point. -/
theorem e1 : ∀ t : Fin cfg0.N, win0_1.index t = ![t.val, 0] := (by decide +kernel : ∀ t : Fin grid0.N, win0_1.index t = ![t.val, 0])
/-- The block that window 2 holds at a grid point. -/
theorem e2 : ∀ t : Fin cfg0.N, win0_2.index t = ![t.val, 0] := (by decide +kernel : ∀ t : Fin grid0.N, win0_2.index t = ![t.val, 0])
/-- The block that window 3 holds at a grid point. -/
theorem e3 : ∀ t : Fin cfg0.N, win0_3.index t = ![0, 0] := (by decide +kernel : ∀ t : Fin grid0.N, win0_3.index t = ![0, 0])
/-- The block that window 4 holds at a grid point. -/
theorem e4 : ∀ t : Fin cfg0.N, win0_4.index t = ![0, 0] := (by decide +kernel : ∀ t : Fin grid0.N, win0_4.index t = ![0, 0])
/-- The block that window 5 holds at a grid point. -/
theorem e5 : ∀ t : Fin cfg0.N, win0_5.index t = ![0, 0] := (by decide +kernel : ∀ t : Fin grid0.N, win0_5.index t = ![0, 0])
/-- The block that window 6 holds at a grid point. -/
theorem e6 : ∀ t : Fin cfg0.N, win0_6.index t = ![0, 0] := (by decide +kernel : ∀ t : Fin grid0.N, win0_6.index t = ![0, 0])
/-- The block that window 7 holds at a grid point. -/
theorem e7 : ∀ t : Fin cfg0.N, win0_7.index t = ![0, 0] := (by decide +kernel : ∀ t : Fin grid0.N, win0_7.index t = ![0, 0])
/-- The block that window 8 holds at a grid point. -/
theorem e8 : ∀ t : Fin cfg0.N, win0_8.index t = ![0, 0] := (by decide +kernel : ∀ t : Fin grid0.N, win0_8.index t = ![0, 0])
/-- The block that window 9 holds at a grid point. -/
theorem e9 : ∀ t : Fin cfg0.N, win0_9.index t = ![t.val, 0] := (by decide +kernel : ∀ t : Fin grid0.N, win0_9.index t = ![t.val, 0])

/-- Row `r` of token block `t`. -/
def tok (t : Fin cfg0.N) (r : Fin 1024) : Fin 32768 := ⟨t.val * 1024 + r.val, by have : t.val < 32 := t.isLt; omega⟩

/-- A block of activations. -/
theorem b0 (t : Fin cfg0.N) (r : Fin 1024) (k : Fin 1024) :
    iblk m c 0 t (ix2 r k) = m ((c.tc : Thread nD τ).loc main_arg0) (ix3 (bat (tok t r)) (pos (tok t r)) k) := by
  have h : iblk m c 0 t (ix2 r k) = V m c main_v0 (ix2 (tok t r) k) := by
    blk_simp [iblk]
    refine congrArg (V m c main_v0) ?_
    blk_ext [e0, tok]
  rw [h, V0]
  exact flat_apply (d := 1024) _ _ _ _

/-- A block of the first branch's output. -/
theorem b1 (t : Fin cfg0.N) (r : Fin 1024) (k : Fin 512) :
    iblk m c 1 t (ix2 r k) = m ((c.tc : Thread nD τ).loc main_arg1) (ix3 (bat (tok t r)) (pos (tok t r)) k) := by
  have h : iblk m c 1 t (ix2 r k) = V m c main_v1 (ix2 (tok t r) k) := by
    blk_simp [iblk]
    refine congrArg (V m c main_v1) ?_
    blk_ext [e1, tok]
  rw [h, V1]
  exact flat_apply (d := 512) _ _ _ _

/-- A block of the second branch's output. -/
theorem b2 (t : Fin cfg0.N) (r : Fin 1024) (k : Fin 512) :
    iblk m c 2 t (ix2 r k) = m ((c.tc : Thread nD τ).loc main_arg2) (ix3 (bat (tok t r)) (pos (tok t r)) k) := by
  have h : iblk m c 2 t (ix2 r k) = V m c main_v2 (ix2 (tok t r) k) := by
    blk_simp [iblk]
    refine congrArg (V m c main_v2) ?_
    blk_ext [e2, tok]
  rw [h, V2]
  exact flat_apply (d := 512) _ _ _ _

/-- The gains. -/
theorem b3 (t : Fin cfg0.N) (k : Fin 1024) :
    iblk m c 3 t (ix2 0 k) = m ((c.tc : Thread nD τ).loc main_arg3) (ix1 k) := by
  have h : iblk m c 3 t (ix2 0 k) = V m c main_v3 (ix2 0 k) := by
    blk_simp [iblk]
    refine congrArg (V m c main_v3) ?_
    blk_ext [e3]
  rw [h, V3]
  exact oneRow_apply (d := 1024) _ _ _

/-- The gates' weights, whole. -/
theorem b4 (t : Fin cfg0.N) (k : Fin 1024) (l : Fin 2048) :
    iblk m c 4 t (ix2 k l) = m ((c.tc : Thread nD τ).loc main_arg6) (ix2 k l) := by
  have h : iblk m c 4 t (ix2 k l) = V m c main_v4 (ix2 k l) := by
    blk_simp [iblk]
    refine congrArg (V m c main_v4) ?_
    blk_ext [e4]
  rw [h, V4]

/-- The gates' biases. -/
theorem b5 (t : Fin cfg0.N) (k : Fin 2048) :
    iblk m c 5 t (ix2 0 k) = m ((c.tc : Thread nD τ).loc main_arg7) (ix1 k) := by
  have h : iblk m c 5 t (ix2 0 k) = V m c main_v5 (ix2 0 k) := by
    blk_simp [iblk]
    refine congrArg (V m c main_v5) ?_
    blk_ext [e5]
  rw [h, V5]
  exact oneRow_apply (d := 2048) _ _ _

/-- The first branch's weights, whole. -/
theorem b6 (t : Fin cfg0.N) (k : Fin 512) (l : Fin 1024) :
    iblk m c 6 t (ix2 k l) = m ((c.tc : Thread nD τ).loc main_arg4) (ix2 k l) := by
  have h : iblk m c 6 t (ix2 k l) = V m c main_v6 (ix2 k l) := by
    blk_simp [iblk]
    refine congrArg (V m c main_v6) ?_
    blk_ext [e6]
  rw [h, V6]

/-- The second branch's weights, whole. -/
theorem b7 (t : Fin cfg0.N) (k : Fin 512) (l : Fin 1024) :
    iblk m c 7 t (ix2 k l) = m ((c.tc : Thread nD τ).loc main_arg5) (ix2 k l) := by
  have h : iblk m c 7 t (ix2 k l) = V m c main_v7 (ix2 k l) := by
    blk_simp [iblk]
    refine congrArg (V m c main_v7) ?_
    blk_ext [e7]
  rw [h, V7]

/-- The output weights, whole. -/
theorem b8 (t : Fin cfg0.N) (k : Fin 1024) (l : Fin 1024) :
    iblk m c 8 t (ix2 k l) = m ((c.tc : Thread nD τ).loc main_arg8) (ix2 k l) := by
  have h : iblk m c 8 t (ix2 k l) = V m c main_v8 (ix2 k l) := by
    blk_simp [iblk]
    refine congrArg (V m c main_v8) ?_
    blk_ext [e8]
  rw [h, V8]

/-- Each point leaves its block of the result. -/
theorem block_eq (t : Fin cfg0.N) (r : Fin 1024) (j : Fin 1024) :
    out0_9 (iblk m c 0 t) (iblk m c 1 t) (iblk m c 2 t) (iblk m c 3 t) (iblk m c 4 t) (iblk m c 5 t) (iblk m c 6 t) (iblk m c 7 t) (iblk m c 8 t) (ix2 r j) = result m c (ix2 (tok t r) j) := by
  rw [out_apply]
  simp only [b0, b1, b2, b3, b4, b5, b6, b7, b8]
  rfl

/-- The result array after the run. -/
theorem out_final : (dats m 0 c).arrAt 9 cfg0.N = result m c := by
  refine (dats m 0 c).arrAt_eq_of_covers 9 _ (by decide +kernel) fun t hf y => ?_
  blk_simp
  rw [after0_9]
  have hy : (win0_9.blk t).view.emb y = ix2 (tok t (y 0)) (y 1) := by
    blk_ext [e9, tok]
  rw [hy]
  exact (congrArg _ (eq_ix2 (n0 := 1024) (n1 := 1024) y)).trans (block_eq m c t (y 0) (y 1))

end Cert.Merge
-- ==== Proof.Merge.Ref.lean ====
module

public import proofs.«01_k».proof.Proof.Merge.Block
public import proofs.«01_k».proof.Proof.Gen.Reference3Ideal.Run
public import proofs.«01_k».proof.Proof.Gen.Reference3Ideal.Read

@[expose] public section

noncomputable section

namespace Cert.Merge

open Cert.Rows Cert.Reference3Ideal Cert.Reference3Ideal.Read Idealize.ShloMosaic Idealize.ShloMosaic.TcCoe

abbrev X3 := (⟨S16x2048x1024, .f32⟩ : BufTy).Contents (Elt Ideal)
abbrev G1 := (⟨S1024, .f32⟩ : BufTy).Contents (Elt Ideal)

/-- The reference's normalisation. -/
theorem ref_normed (x : X3) (g : G1) (b : Fin 16) (s : Fin 2048) (k : Fin 1024) :
    val_main_v12 (F := Ideal) x g (ix3 b s k) = normed (fun k => x (ix3 b s k)) (fun k => g (ix1 k)) k := by
  unfold normed
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- One merged feature. -/
theorem ref_feature (x : X3) (u v : (⟨S16x2048x512, .bf16⟩ : BufTy).Contents (Elt Ideal)) (g : G1)
    (wa wb : (⟨S512x1024, .f32⟩ : BufTy).Contents (Elt Ideal)) (wg : (⟨S1024x2048, .f32⟩ : BufTy).Contents (Elt Ideal)) (bg : (⟨S2048, .f32⟩ : BufTy).Contents (Elt Ideal))
    (b : Fin 16) (s : Fin 2048) (f : Fin 1024) :
    val_main_v31 (F := Ideal) x u v g wa wb wg bg (ix3 b s f)
      = feature (normed (fun k => x (ix3 b s k)) (fun k => g (ix1 k))) (fun k => u (ix3 b s k)) (fun k => v (ix3 b s k))
        (fun k => wg (ix2 k (fst f))) (bg (ix1 (fst f))) (fun k => wg (ix2 k (snd f))) (bg (ix1 (snd f)))
        (fun k => wa (ix2 k f)) (fun k => wb (ix2 k f)) := by
  unfold feature logi fst snd
  pointwise [val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14,
    val_main_v13, val_main_cst_2, val_main_cst_3, ref_normed, zero_sub, dot_S16x2048x512_S512x1024_S16x2048x1024_2_0_01_1_n_n,
    dot_S16x2048x1024_S1024x2048_S16x2048x2048_2_0_01_1_n_n]

/-- The reference's result is the row function. -/
theorem ref_row (x : X3) (u v : (⟨S16x2048x512, .bf16⟩ : BufTy).Contents (Elt Ideal)) (g : G1)
    (wa wb : (⟨S512x1024, .f32⟩ : BufTy).Contents (Elt Ideal)) (wg : (⟨S1024x2048, .f32⟩ : BufTy).Contents (Elt Ideal)) (bg : (⟨S2048, .f32⟩ : BufTy).Contents (Elt Ideal))
    (wo : (⟨S1024x1024, .f32⟩ : BufTy).Contents (Elt Ideal)) (b : Fin 16) (s : Fin 2048) (j : Fin 1024) :
    val_main_v33 (F := Ideal) x u v g wa wb wg bg wo (ix3 b s j)
      = row (fun k => x (ix3 b s k)) (fun k => u (ix3 b s k)) (fun k => v (ix3 b s k)) (fun k => g (ix1 k)) (fun k l => wg (ix2 k l))
        (fun l => bg (ix1 l)) (fun k l => wa (ix2 k l)) (fun k l => wb (ix2 k l)) (fun k l => wo (ix2 k l)) j := by
  unfold row
  pointwise [val_main_v33, val_main_v32, ref_feature, dot_S16x2048x1024_S1024x1024_S16x2048x1024_2_0_01_1_n_n]

end Cert.Merge
-- ==== Proof.Merge.Claim.lean ====
module

public import proofs.«01_k».proof.Defs
public import proofs.«01_k».proof.Proof.Merge.Kern
public import proofs.«01_k».proof.Proof.Merge.Ref

@[expose] public section

noncomputable section

namespace Cert.Merge

open Idealize.ShloMosaic Idealize.ShloMosaic.TcCoe Idealize.SL.Sem Cert.Rows

/-- The kernel and the reference end with the same array over the extended reals. -/
theorem algebraic [Cert.Kernel3Ideal.Facts] [Cert.Reference3Ideal.Facts] : Cert.algebraic_Kernel3Ideal_Reference3Ideal := by
  intro m g m' g' _ hag
  refine ⟨fun c => result m c, ?_, ?_⟩
  · exact (θ_run _ _ _).mono (fun r h c => ⟨(h c).1.trans (out_final m c), (h c).2⟩) (Cert.Kernel3Ideal.Value.run_blocks m g)
  · refine (θ_run _ _ _).mono (fun r h c => ⟨(h c).1.trans ?_, (h c).2⟩) (Cert.Reference3Ideal.Value.run m' g')
    obtain ⟨h0, h1, h2, h3, h4, h5, h6, h7, h8⟩ := hag c
    rw [Cert.Reference3Ideal.Read.val_main_v34_eq, h0, h1, h2, h3, h4, h5, h6, h7, h8]
    funext i
    refine (congrArg _ (eq_ix2 (n0 := 32768) (n1 := 1024) i)).trans ?_
    exact (flat_apply (d := 1024) _ _ _ _).trans (ref_row _ _ _ _ _ _ _ _ _ _ _ _)

end Cert.Merge
-- ==== Proof.InProj.Block.lean ====
module

public import proofs.«01_k».proof.Proof.Gen.Kernel4Ideal.Value
public import Idealize.ShloMosaic.Lib.Pointwise
public import proofs.«01_k».proof.Proof.Rows.Basic
public import Idealize.ShloMosaic.Lib.Pipeline.ValueKit
public import Idealize.ShloMosaic.Lib.Pipeline.ValueKit.Tiles

@[expose] public section

noncomputable section

namespace Cert.InProj

open Cert.Rows Cert.Kernel4Ideal Cert.Kernel4Ideal.Gen Idealize.ShloMosaic Idealize.ShloMosaic.TcCoe

/-! ## The order of the columns -/

/-- The projection's column that stands at column `j` of the result, for the columns in use. -/
def src (j : ℕ) : ℕ :=
  if j < 2048 then j
  else if j < 2560 then j + 8
  else if j < 2816 then j + 136
  else if j < 2944 then j - 248
  else if j < 3008 then j + 8
  else if j < 3016 then j - 960
  else j

/-- The column taken is one of the projection's. -/
theorem src_lt (j : ℕ) (h : j < 3020) : src j < 3020 := by
  unfold src
  split_ifs <;> omega

/-- The column at `j`, by the part of the result in which `j` lies. -/
theorem src_eq (i j : ℕ) (h : (j < 2048 ∧ i = j) ∨ (2048 ≤ j ∧ j < 2560 ∧ i = j + 8) ∨ (2560 ≤ j ∧ j < 2816 ∧ i = j + 136)
    ∨ (2816 ≤ j ∧ j < 2944 ∧ i + 248 = j) ∨ (2944 ≤ j ∧ j < 3008 ∧ i = j + 8) ∨ (3008 ≤ j ∧ j < 3016 ∧ i + 960 = j) ∨ (3016 ≤ j ∧ i = j)) :
    i = src j := by
  unfold src
  split_ifs <;> omega

/-- A row of the projection's columns laid out in the result's order, zero in the unused columns. -/
def arrange (f : Fin 3020 → EReal) (j : Fin 3072) : EReal :=
  if h : j.val < 3020 then f ⟨src j.val, src_lt _ h⟩ else 0

/-- The column in use at `j`. -/
theorem arrange_used (f : Fin 3020 → EReal) (j : Fin 3072) (i : Fin 3020) (h : j.val < 3020) (hi : i.val = src j.val) : f i = arrange f j := by
  unfold arrange
  rw [dif_pos h]
  exact congrArg f (Fin.ext hi)

/-- The unused columns are zero. -/
theorem arrange_unused (f : Fin 3020 → EReal) (j : Fin 3072) (h : ¬ j.val < 3020) : arrange f j = 0 := by
  unfold arrange
  rw [dif_neg h]

/-- A choice between two values that both equal `y`. -/
theorem pick {p : Prop} [Decidable p] {a : p → EReal} {b : ¬ p → EReal} {y : EReal} (ha : ∀ h, a h = y) (hb : ∀ h, b h = y) : dite p a b = y := by
  by_cases h : p
  · rw [dif_pos h, ha]
  · rw [dif_neg h, hb]

/-- One token's row of the result. -/
def row (x g : Fin 1024 → EReal) (w : Fin 1024 → Fin 3020 → EReal) (j : Fin 3072) : EReal :=
  ∑ k, normed x g k * arrange (w k) j

/-- Arranging the columns of the weights arranges the product's. -/
theorem row_eq (x g : Fin 1024 → EReal) (w : Fin 1024 → Fin 3020 → EReal) (j : Fin 3072) :
    row x g w j = arrange (fun c => ∑ k, normed x g k * w k c) j := by
  unfold row
  by_cases h : j.val < 3020
  · unfold arrange
    simp only [dif_pos h]
  · rw [arrange_unused _ _ h]
    exact Finset.sum_eq_zero fun k _ => by rw [arrange_unused _ _ h, mul_zero]

/-! ## The kernel's payloads at an index -/

/-- The normalised rows. -/
theorem pay4_apply (x : Vec Ideal S1024x1024 .f32) (g : Vec Ideal S1x1024 .f32) (r k : Fin 1024) :
    k0_pay4 x g (ix2 r k) = normed (fun k => x (ix2 r k)) (fun k => g (ix2 0 k)) k := by
  unfold normed
  pointwise [k0_pay4]

/-- The product as one slab prints it, at an index. -/
theorem pay1_apply (h : FVec Ideal S1024x1024 .bf16) (w : Vec Ideal S1024x512 .bf16) (r : Fin 1024) (e : Fin 512) :
    k0_pay1 h (k0_pay8 w) (constant S1024x512 .f32 0x00000000#32) (ix2 r e) = ∑ k, h (ix2 r k) * w (ix2 k e) := by
  pointwise [k0_pay1, k0_pay8, dot_S1024x1024_S1024x512_S1024x512_1_0_0_1_n_n]

/-- One slab's product at an index. -/
theorem pay2_apply (h : FVec Ideal S1024x1024 .bf16) (w : Vec Ideal S1024x512 .bf16) (r : Fin 1024) (e : Fin 512) :
    k0_pay2 h w (ix2 r e) = ∑ k, h (ix2 r k) * w (ix2 k e) := by
  pointwise [k0_pay2, dot_S1024x1024_S1024x512_S1024x512_1_0_0_1_n_n]

/-- The later slabs are the same product. -/
theorem pay3_eq (h : FVec Ideal S1024x1024 .bf16) (w : Vec Ideal S1024x512 .bf16) : k0_pay3 h w = k0_pay2 h w := rfl
/-- The first slab. -/
theorem pay5_eq (x : Vec Ideal S1024x1024 .f32) (g : Vec Ideal S1x1024 .f32) (w : Vec Ideal S1024x512 .bf16) : k0_pay5 x g w = k0_pay2 (k0_pay4 x g) w := rfl
/-- The second slab. -/
theorem pay6_eq (x : Vec Ideal S1024x1024 .f32) (g : Vec Ideal S1x1024 .f32) (w : Vec Ideal S1024x512 .bf16) : k0_pay6 x g w = k0_pay2 (k0_pay4 x g) w := rfl
/-- The third slab. -/
theorem pay7_eq (x : Vec Ideal S1024x1024 .f32) (g : Vec Ideal S1x1024 .f32) (w : Vec Ideal S1024x512 .bf16) : k0_pay7 x g w = k0_pay2 (k0_pay4 x g) w := rfl
/-- The fourth slab. -/
theorem pay1_eq (h : FVec Ideal S1024x1024 .bf16) (w : Vec Ideal S1024x512 .bf16) :
    k0_pay1 h (k0_pay8 w) (constant S1024x512 .f32 0x00000000#32) = k0_pay2 h w := rfl

/-! ## The block the body leaves -/

/-- The product of a token's normalised row and a column of the weights the kernel is given. -/
def prod (x0 : Vec Ideal S1024x1024 .f32) (x1 : Vec Ideal S1x1024 .f32) (x2 : Vec Ideal S1024x3072 .bf16) : S1024x3072.Idx → Elt Ideal .f32 := fun y =>

  ∑ k, normed (fun k => x0 (ix2 (y 0) k)) (fun k => x1 (ix2 0 k)) k * x2 (ix2 k (y 1))

/-- A slab of 512 columns is the product's. -/
theorem slab (x0 : Vec Ideal S1024x1024 .f32) (x1 : Vec Ideal S1x1024 .f32) (x2 : Vec Ideal S1024x3072 .bf16) (o : ℕ)
    (inb : ∀ a, (![0, o] : Fin 2 → ℕ) a + S1024x512.size a ≤ S1024x3072.size a) (x : S1024x512.Idx) :
    k0_pay2 (k0_pay4 x0 x1) (View.ld x2 (Rect.unit (s := S1024x3072) ![0, o] S1024x512.size inb)) x
      = prod x0 x1 x2 ((Rect.unit (s := S1024x3072) ![0, o] S1024x512.size inb).emb x) := by
  obtain ⟨r, e, rfl⟩ : ∃ (r : Fin 1024) (e : Fin 512), x = ix2 r e := ⟨x 0, x 1, eq_ix2 (n0 := 1024) (n1 := 512) x⟩
  have a0 : (Rect.unit (s := S1024x3072) ![0, o] S1024x512.size inb).emb (ix2 r e) (0 : Fin 2) = r :=
    Fin.ext ((ValueKit.rect_emb_unit_val (s := S1024x3072) ![0, o] S1024x512.size inb (ix2 r e) (0 : Fin 2)).trans (Nat.zero_add _))
  have a1 : ((Rect.unit (s := S1024x3072) ![0, o] S1024x512.size inb).emb (ix2 r e) (1 : Fin 2)).val = o + e.val :=
    ValueKit.rect_emb_unit_val (s := S1024x3072) ![0, o] S1024x512.size inb (ix2 r e) (1 : Fin 2)
  refine (pay2_apply _ _ r e).trans ?_
  unfold prod
  rw [a0]
  refine Finset.sum_congr rfl fun k _ => ?_
  rw [pay4_apply]
  refine congrArg _ ?_
  refine View.ld_unit_apply_of x2 _ _ inb _ _ fun a => ?_
  match a with
  | ⟨0, _⟩ => exact (Nat.zero_add _).symm
  | ⟨1, _⟩ => exact a1

/-- What the body leaves, column by column. -/
theorem out_apply (x0 : Vec Ideal S1024x1024 .f32) (x1 : Vec Ideal S1x1024 .f32) (x2 : Vec Ideal S1024x3072 .bf16) (y : S1024x3072.Idx) :
    out0_3 x0 x1 x2 y = prod x0 x1 x2 y := by
  have h0 : View.ld x0 r0_0 = x0 := View.ld_unit_zero (by decide) _ _
  have h1 : View.ld x1 r0_1 = x1 := View.ld_unit_zero (by decide) _ _
  unfold out0_3 k0_pay9
  rw [h0, h1]
  refine View.canon_apply_of_pieces (prod x0 x1 x2) _ ?_ y (cover0_3 _ _ _ _ _ _ y)
  intro p hp
  simp only [List.mem_cons, List.not_mem_nil, or_false] at hp
  rcases hp with rfl | rfl | rfl | rfl | rfl | rfl
  · exact slab x0 x1 x2 _ _
  · exact slab x0 x1 x2 _ _
  · exact slab x0 x1 x2 _ _
  · exact slab x0 x1 x2 _ _
  · exact slab x0 x1 x2 _ _
  · exact slab x0 x1 x2 _ _

end Cert.InProj
-- ==== Proof.InProj.Host.lean ====
module

public import proofs.«01_k».proof.Proof.InProj.Block

@[expose] public section

noncomputable section

namespace Cert.InProj

open Cert.Rows Cert.Kernel4Ideal Cert.Kernel4Ideal.Gen Idealize.ShloMosaic Idealize.ShloMosaic.TcCoe

/-- The weights as the host regroups them. -/
def grouped (w : FVec Ideal S1024x3020 .f32) : FVec Ideal S1024x3072 .bf16 :=
  truncf .bf16 (concatenate S1024x3072 1 [⟨S1024x1536, (extractStridedSlice S1024x1536 ![0, 0] w slices_S1024x3020_S1024x1536_0_0 : FVec Ideal S1024x1536 .f32)⟩,
    ⟨S1024x512, (extractStridedSlice S1024x512 ![0, 1536] w slices_S1024x3020_S1024x512_0_1536 : FVec Ideal S1024x512 .f32)⟩,
    ⟨S1024x512, (extractStridedSlice S1024x512 ![0, 2056] w slices_S1024x3020_S1024x512_0_2056 : FVec Ideal S1024x512 .f32)⟩,
    ⟨S1024x256, (extractStridedSlice S1024x256 ![0, 2696] w slices_S1024x3020_S1024x256_0_2696 : FVec Ideal S1024x256 .f32)⟩,
    ⟨S1024x64, (extractStridedSlice S1024x64 ![0, 2568] w slices_S1024x3020_S1024x64_0_2568 : FVec Ideal S1024x64 .f32)⟩,
    ⟨S1024x64, (extractStridedSlice S1024x64 ![0, 2632] w slices_S1024x3020_S1024x64_0_2632 : FVec Ideal S1024x64 .f32)⟩,
    ⟨S1024x64, (extractStridedSlice S1024x64 ![0, 2952] w slices_S1024x3020_S1024x64_0_2952 : FVec Ideal S1024x64 .f32)⟩,
    ⟨S1024x4, (extractStridedSlice S1024x4 ![0, 2048] w slices_S1024x3020_S1024x4_0_2048 : FVec Ideal S1024x4 .f32)⟩,
    ⟨S1024x4, (extractStridedSlice S1024x4 ![0, 2052] w slices_S1024x3020_S1024x4_0_2052 : FVec Ideal S1024x4 .f32)⟩,
    ⟨S1024x4, (extractStridedSlice S1024x4 ![0, 3016] w slices_S1024x3020_S1024x4_0_3016 : FVec Ideal S1024x4 .f32)⟩,
    ⟨S1024x52, (broadcastInDim S1024x52 ![] bcast_S_S1024x52 (constant S_ .f32 0x00000000#32 : FVec Ideal S_ .f32) : FVec Ideal S1024x52 .f32)⟩]
    concatenates_S1024x1536_S1024x512_S1024x512_S1024x256_S1024x64_S1024x64_S1024x64_S1024x4_S1024x4_S1024x4_S1024x52_S1024x3072_d1 : FVec Ideal S1024x3072 .f32) bitsLt_bf16_f32

set_option maxHeartbeats 2000000 in
/-- Their columns stand in the result's order, with zeros in the unused columns. -/
theorem grouped_apply (w : FVec Ideal S1024x3020 .f32) (k : Fin 1024) (j : Fin 3072) :
    grouped w (ix2 k j) = arrange (fun c => w (ix2 k c)) j := by
  pointwise [grouped]
  refine pick (fun h => arrange_used (fun c => w (ix2 k c)) j _ (by omega) (src_eq _ _ (by dsimp only; omega))) fun n0 => ?_
  refine pick (fun h => arrange_used (fun c => w (ix2 k c)) j _ (by omega) (src_eq _ _ (by dsimp only; omega))) fun n1 => ?_
  refine pick (fun h => arrange_used (fun c => w (ix2 k c)) j _ (by omega) (src_eq _ _ (by dsimp only; omega))) fun n2 => ?_
  refine pick (fun h => arrange_used (fun c => w (ix2 k c)) j _ (by omega) (src_eq _ _ (by dsimp only; omega))) fun n3 => ?_
  refine pick (fun h => arrange_used (fun c => w (ix2 k c)) j _ (by omega) (src_eq _ _ (by dsimp only; omega))) fun n4 => ?_
  refine pick (fun h => arrange_used (fun c => w (ix2 k c)) j _ (by omega) (src_eq _ _ (by dsimp only; omega))) fun n5 => ?_
  refine pick (fun h => arrange_used (fun c => w (ix2 k c)) j _ (by omega) (src_eq _ _ (by dsimp only; omega))) fun n6 => ?_
  refine pick (fun h => arrange_used (fun c => w (ix2 k c)) j _ (by omega) (src_eq _ _ (by dsimp only; omega))) fun n7 => ?_
  refine pick (fun h => arrange_used (fun c => w (ix2 k c)) j _ (by omega) (src_eq _ _ (by dsimp only; omega))) fun n8 => ?_
  refine pick (fun h => arrange_used (fun c => w (ix2 k c)) j _ (by omega) (src_eq _ _ (by dsimp only; omega))) fun n9 => ?_
  exact (arrange_unused _ _ (by omega)).symm

end Cert.InProj
-- ==== Proof.InProj.Kern.lean ====
module

public import proofs.«01_k».proof.Proof.InProj.Host

@[expose] public section

noncomputable section

namespace Cert.InProj

open Cert.Rows Cert.Kernel4Ideal Cert.Kernel4Ideal.Gen Idealize.ShloMosaic Idealize.ShloMosaic.TcCoe

variable (m : (ℓ : Loc nD τ sig) → Buf (Elt Ideal) ℓ) (c : Dev nD)

/-! ## What the region finds in the buffers the host operations before it prepare -/

/-- The activations, flattened. -/
theorem V0 : V m c main_v0 = shapeCast S32768x1024 (m ((c.tc : Thread nD τ).loc main_arg0) : S16x2048x1024.Idx → EReal)
    shapeCasts_S16x2048x1024_S32768x1024 := by
  unfold V
  after_results
  rfl

/-- The gains, as one row. -/
theorem V1 : V m c main_v1 = shapeCast S1x1024 (m ((c.tc : Thread nD τ).loc main_arg1) : S1024.Idx → EReal) shapeCasts_S1024_S1x1024 := by
  unfold V
  after_results
  rfl

/-- The weights, regrouped. -/
theorem V14 : V m c main_v14 = grouped (m ((c.tc : Thread nD τ).loc main_arg2) : S1024x3020.Idx → EReal) := by
  unfold V grouped
  after_results
  rfl

/-- The kernel's result, token by token, as a function of the arguments. -/
def result : S32768x3072.Idx → EReal := fun i =>
  row (fun k => m ((c.tc : Thread nD τ).loc main_arg0) (ix3 (bat (i 0)) (pos (i 0)) k)) (fun k => m ((c.tc : Thread nD τ).loc main_arg1) (ix1 k))
    (fun k l => m ((c.tc : Thread nD τ).loc main_arg2) (ix2 k l)) (i 1)

/-! ## The windows' blocks: the tokens move with the grid point, the rest is whole at every point -/

/-- The block that window 0 holds at a grid point. -/
theorem e0 : ∀ t : Fin cfg0.N, win0_0.index t = ![t.val, 0] := (by decide +kernel : ∀ t : Fin grid0.N, win0_0.index t = ![t.val, 0])
/-- The block that window 1 holds at a grid point. -/
theorem e1 : ∀ t : Fin cfg0.N, win0_1.index t = ![0, 0] := (by decide +kernel : ∀ t : Fin grid0.N, win0_1.index t = ![0, 0])
/-- The block that window 2 holds at a grid point. -/
theorem e2 : ∀ t : Fin cfg0.N, win0_2.index t = ![0, 0] := (by decide +kernel : ∀ t : Fin grid0.N, win0_2.index t = ![0, 0])
/-- The block that window 3 holds at a grid point. -/
theorem e3 : ∀ t : Fin cfg0.N, win0_3.index t = ![t.val, 0] := (by decide +kernel : ∀ t : Fin grid0.N, win0_3.index t = ![t.val, 0])

/-- Row `r` of token block `t`. -/
def tok (t : Fin cfg0.N) (r : Fin 1024) : Fin 32768 := ⟨t.val * 1024 + r.val, by have : t.val < 32 := t.isLt; omega⟩

/-- A block of activations. -/
theorem b0 (t : Fin cfg0.N) (r : Fin 1024) (k : Fin 1024) :
    iblk m c 0 t (ix2 r k) = m ((c.tc : Thread nD τ).loc main_arg0) (ix3 (bat (tok t r)) (pos (tok t r)) k) := by
  have h : iblk m c 0 t (ix2 r k) = V m c main_v0 (ix2 (tok t r) k) := by
    blk_simp [iblk]
    refine congrArg (V m c main_v0) ?_
    blk_ext [e0, tok]
  rw [h, V0]
  exact flat_apply (d := 1024) _ _ _ _

/-- The gains. -/
theorem b1 (t : Fin cfg0.N) (k : Fin 1024) :
    iblk m c 1 t (ix2 0 k) = m ((c.tc : Thread nD τ).loc main_arg1) (ix1 k) := by
  have h : iblk m c 1 t (ix2 0 k) = V m c main_v1 (ix2 0 k) := by
    blk_simp [iblk]
    refine congrArg (V m c main_v1) ?_
    blk_ext [e1]
  rw [h, V1]
  exact oneRow_apply (d := 1024) _ _ _

/-- The weights. -/
theorem b2 (t : Fin cfg0.N) (k : Fin 1024) (j : Fin 3072) :
    iblk m c 2 t (ix2 k j) = arrange (fun l => m ((c.tc : Thread nD τ).loc main_arg2) (ix2 k l)) j := by
  have h : iblk m c 2 t (ix2 k j) = V m c main_v14 (ix2 k j) := by
    blk_simp [iblk]
    refine congrArg (V m c main_v14) ?_
    blk_ext [e2]
  rw [h, V14]
  exact grouped_apply _ k j

/-- Each point leaves its block of the result. -/
theorem block_eq (t : Fin cfg0.N) (r : Fin 1024) (j : Fin 3072) :
    out0_3 (iblk m c 0 t) (iblk m c 1 t) (iblk m c 2 t) (ix2 r j) = result m c (ix2 (tok t r) j) := by
  rw [out_apply]
  show (∑ k, normed (fun k => iblk m c 0 t (ix2 r k)) (fun k => iblk m c 1 t (ix2 0 k)) k * iblk m c 2 t (ix2 k j) : EReal) = _
  simp only [b0, b1, b2]
  rfl

/-- The result array after the run. -/
theorem out_final : (dats m 0 c).arrAt 3 cfg0.N = result m c := by
  refine (dats m 0 c).arrAt_eq_of_covers 3 _ (by decide +kernel) fun t hf y => ?_
  blk_simp
  rw [after0_3]
  have hy : (win0_3.blk t).view.emb y = ix2 (tok t (y 0)) (y 1) := by
    blk_ext [e3, tok]
  rw [hy]
  exact (congrArg _ (eq_ix2 (n0 := 1024) (n1 := 3072) y)).trans (block_eq m c t (y 0) (y 1))

end Cert.InProj
-- ==== Proof.InProj.Ref.lean ====
module

public import proofs.«01_k».proof.Proof.InProj.Block
public import proofs.«01_k».proof.Proof.Gen.Reference4Ideal.Run
public import proofs.«01_k».proof.Proof.Gen.Reference4Ideal.Read

@[expose] public section

noncomputable section

namespace Cert.InProj

open Cert.Rows Cert.Reference4Ideal Cert.Reference4Ideal.Read Idealize.ShloMosaic Idealize.ShloMosaic.TcCoe

abbrev X3 := (⟨S16x2048x1024, .f32⟩ : BufTy).Contents (Elt Ideal)
abbrev G1 := (⟨S1024, .f32⟩ : BufTy).Contents (Elt Ideal)
abbrev W2 := (⟨S1024x3020, .f32⟩ : BufTy).Contents (Elt Ideal)

/-- The reference's projection, one token's column. -/
theorem ref_proj (x : X3) (g : G1) (w : W2) (b : Fin 16) (s : Fin 2048) (j : Fin 3020) :
    val_main_v13 (F := Ideal) x g w (ix3 b s j) = ∑ k, normed (fun k => x (ix3 b s k)) (fun k => g (ix1 k)) k * w (ix2 k j) := by
  unfold normed
  pointwise [val_main_v13, val_main_v12, val_main_v11, val_main_v10, val_main_v9, val_main_v8, val_main_v7, val_main_v6, val_main_v5, val_main_v4,
    val_main_v3, val_main_v2, val_main_v1, val_main_v0, val_main_cst, val_main_cst_0, val_main_cst_1, dot_S16x2048x1024_S1024x3020_S16x2048x3020_2_0_01_1_n_n]

set_option maxHeartbeats 2000000 in
/-- Its columns regrouped. -/
theorem ref_arranged (x : X3) (g : G1) (w : W2) (t : Fin 32768) (j : Fin 3072) :
    val_main_v23 (F := Ideal) x g w (ix2 t j) = arrange (fun c => val_main_v14 (F := Ideal) x g w (ix2 t c)) j := by
  unfold val_main_v23 val_main_v15 val_main_v16 val_main_v17 val_main_v18 val_main_v19 val_main_v20 val_main_v21
  generalize val_main_v14 (F := Ideal) x g w = y
  pointwise [val_main_v22, val_main_cst_2]
  refine pick (fun h => arrange_used (fun c => y (ix2 t c)) j _ (by omega) (src_eq _ _ (by dsimp only; omega))) fun n0 => ?_
  refine pick (fun h => arrange_used (fun c => y (ix2 t c)) j _ (by omega) (src_eq _ _ (by dsimp only; omega))) fun n1 => ?_
  refine pick (fun h => arrange_used (fun c => y (ix2 t c)) j _ (by omega) (src_eq _ _ (by dsimp only; omega))) fun n2 => ?_
  refine pick (fun h => arrange_used (fun c => y (ix2 t c)) j _ (by omega) (src_eq _ _ (by dsimp only; omega))) fun n3 => ?_
  refine pick (fun h => arrange_used (fun c => y (ix2 t c)) j _ (by omega) (src_eq _ _ (by dsimp only; omega))) fun n4 => ?_
  refine pick (fun h => arrange_used (fun c => y (ix2 t c)) j _ (by omega) (src_eq _ _ (by dsimp only; omega))) fun n5 => ?_
  refine pick (fun h => arrange_used (fun c => y (ix2 t c)) j _ (by omega) (src_eq _ _ (by dsimp only; omega))) fun n6 => ?_
  exact (arrange_unused _ _ (by omega)).symm

/-- The reference's result is the row function. -/
theorem ref_row (x : X3) (g : G1) (w : W2) (t : Fin 32768) (j : Fin 3072) :
    val_main_v23 (F := Ideal) x g w (ix2 t j)
      = row (fun k => x (ix3 (bat t) (pos t) k)) (fun k => g (ix1 k)) (fun k c => w (ix2 k c)) j := by
  rw [ref_arranged, row_eq]
  refine congrArg (fun f => arrange f j) (funext fun c => ?_)
  exact (flat_apply (d := 3020) _ _ _ _).trans (ref_proj _ _ _ _ _ _)

end Cert.InProj
-- ==== Proof.InProj.Claim.lean ====
module

public import proofs.«01_k».proof.Defs
public import proofs.«01_k».proof.Proof.InProj.Kern
public import proofs.«01_k».proof.Proof.InProj.Ref

@[expose] public section

noncomputable section

namespace Cert.InProj

open Idealize.ShloMosaic Idealize.ShloMosaic.TcCoe Idealize.SL.Sem Cert.Rows

/-- The kernel and the reference end with the same array over the extended reals. -/
theorem algebraic [Cert.Kernel4Ideal.Facts] [Cert.Reference4Ideal.Facts] : Cert.algebraic_Kernel4Ideal_Reference4Ideal := by
  intro m g m' g' _ hag
  refine ⟨fun c => result m c, ?_, ?_⟩
  · exact (θ_run _ _ _).mono (fun r h c => ⟨(h c).1.trans (out_final m c), (h c).2⟩) (Cert.Kernel4Ideal.Value.run_blocks m g)
  · refine (θ_run _ _ _).mono (fun r h c => ⟨(h c).1.trans ?_, (h c).2⟩) (Cert.Reference4Ideal.Value.run m' g')
    obtain ⟨h0, h1, h2⟩ := hag c
    rw [Cert.Reference4Ideal.Read.val_main_v23_eq, h0, h1, h2]
    funext i
    refine (congrArg _ (eq_ix2 (n0 := 32768) (n1 := 3072) i)).trans ?_
    exact ref_row _ _ _ _ _

end Cert.InProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal

public import proofs.«01_k».proof.Proof.Gen.KernelIdeal.Value
public import proofs.«01_k».proof.Proof.Gen.ReferenceIdeal.Run
public import proofs.«01_k».proof.Proof.Gen.ReferenceIdeal.Step
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Dn.Claim
public import proofs.«01_k».proof.Proof.Ffn.Claim
public import proofs.«01_k».proof.Proof.Merge.Claim
public import proofs.«01_k».proof.Proof.InProj.Claim
public import Idealize.ShloMosaic.Adequacy
public import Idealize.ShloMosaic.Init

@[expose] public section

noncomputable section

namespace Cert.Proof

open Idealize.ShloMosaic Idealize.SL.Sem Cert.Kernel

/-- The reference `Reference` terminates without fault and leaves its arguments as they were; it declares no semaphore. -/
theorem frame_Reference [Cert.ReferenceIdeal.Facts] : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same from finite arguments. -/
theorem frame_Reference_finite [Cert.ReferenceIdeal.Facts] [Cert.Pre_finite.Facts] : Cert.quiescent_ReferenceIdeal_pre_finite := fun m ρ _ =>
  frame_Reference m ρ trivial

/-- The reference `Reference2` terminates without fault and leaves its arguments as they were; it declares no semaphore. -/
theorem frame_Reference2 [Cert.Reference2Ideal.Facts] : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference `Reference3` terminates without fault and leaves its arguments as they were; it declares no semaphore. -/
theorem frame_Reference3 [Cert.Reference3Ideal.Facts] : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference `Reference4` terminates without fault and leaves its arguments as they were; it declares no semaphore. -/
theorem frame_Reference4 [Cert.Reference4Ideal.Facts] : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Every claim of the certificate: the four kernels and their ideal readings and references run and leave their arguments
    and counters as they should, the ideal programs are the kernels, and the value claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Delta.preFacts,
  fun m ρ _ => Cert.Kernel.Gen.frame m ρ, fun m ρ _ => Cert.KernelIdeal.Gen.frame m ρ, fun m ρ _ => Cert.KernelIdeal.Gen.frame m ρ, frame_Reference,
  @frame_Reference_finite Cert.ReferenceIdeal.Gen.facts Cert.Delta.preFacts,
  fun m ρ _ => Cert.Kernel2.Gen.frame m ρ, fun m ρ _ => Cert.Kernel2Ideal.Gen.frame m ρ, frame_Reference2,
  fun m ρ _ => Cert.Kernel3.Gen.frame m ρ, fun m ρ _ => Cert.Kernel3Ideal.Gen.frame m ρ, frame_Reference3,
  fun m ρ _ => Cert.Kernel4.Gen.frame m ρ, fun m ρ _ => Cert.Kernel4Ideal.Gen.frame m ρ, frame_Reference4,
  trivial, @Cert.Delta.algebraic Cert.Delta.preFacts, trivial, Cert.Ffn.algebraic, trivial, Cert.Merge.algebraic, trivial, Cert.InProj.algebraic⟩

end Cert.Proof

end
